-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainIdeal_finite_main [hPre_finite_main : Cert.Pre_finite_main.Facts] (m : (ℓ : Loc Cert.MainIdeal.nD Cert.MainIdeal.τ Cert.MainIdeal.sig) → Buf (Elt Ideal) ℓ) : Prop :=
  ∀ c : Dev Cert.MainIdeal.nD,
    (Cert.Pre_finite_main.fn (F := Ideal) (m ((c.tc : Thread Cert.MainIdeal.nD Cert.MainIdeal.τ).loc Cert.MainIdeal.main_arg0)) (m ((c.tc : Thread Cert.MainIdeal.nD Cert.MainIdeal.τ).loc Cert.MainIdeal.main_arg1)) (m ((c.tc : Thread Cert.MainIdeal.nD Cert.MainIdeal.τ).loc Cert.MainIdeal.main_arg2)) (m ((c.tc : Thread Cert.MainIdeal.nD Cert.MainIdeal.τ).loc Cert.MainIdeal.main_arg3))) = (fun _ => 1#1)

def Pre_RefMainIdeal (m : (ℓ : Loc Cert.RefMainIdeal.nD Cert.RefMainIdeal.τ Cert.RefMainIdeal.sig) → Buf (Elt Ideal) ℓ) : Prop :=
  True

def Pre_RefMainIdeal_finite_main [hPre_finite_main : Cert.Pre_finite_main.Facts] (m : (ℓ : Loc Cert.RefMainIdeal.nD Cert.RefMainIdeal.τ Cert.RefMainIdeal.sig) → Buf (Elt Ideal) ℓ) : Prop :=
  ∀ c : Dev Cert.RefMainIdeal.nD,
    (Cert.Pre_finite_main.fn (F := Ideal) (m ((c.tc : Thread Cert.RefMainIdeal.nD Cert.RefMainIdeal.τ).loc Cert.RefMainIdeal.main_arg0)) (m ((c.tc : Thread Cert.RefMainIdeal.nD Cert.RefMainIdeal.τ).loc Cert.RefMainIdeal.main_arg1)) (m ((c.tc : Thread Cert.RefMainIdeal.nD Cert.RefMainIdeal.τ).loc Cert.RefMainIdeal.main_arg2)) (m ((c.tc : Thread Cert.RefMainIdeal.nD Cert.RefMainIdeal.τ).loc Cert.RefMainIdeal.main_arg3))) = (fun _ => 1#1)

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotIdeal_finite_rot [hPre_finite_rot : Cert.Pre_finite_rot.Facts] (m : (ℓ : Loc Cert.RotIdeal.nD Cert.RotIdeal.τ Cert.RotIdeal.sig) → Buf (Elt Ideal) ℓ) : Prop :=
  ∀ c : Dev Cert.RotIdeal.nD,
    (Cert.Pre_finite_rot.fn (F := Ideal) (m ((c.tc : Thread Cert.RotIdeal.nD Cert.RotIdeal.τ).loc Cert.RotIdeal.main_arg0)) (m ((c.tc : Thread Cert.RotIdeal.nD Cert.RotIdeal.τ).loc Cert.RotIdeal.main_arg1))) = (fun _ => 1#1)

def Pre_RefRotIdeal (m : (ℓ : Loc Cert.RefRotIdeal.nD Cert.RefRotIdeal.τ Cert.RefRotIdeal.sig) → Buf (Elt Ideal) ℓ) : Prop :=
  True

def Pre_RefRotIdeal_finite_rot [hPre_finite_rot : Cert.Pre_finite_rot.Facts] (m : (ℓ : Loc Cert.RefRotIdeal.nD Cert.RefRotIdeal.τ Cert.RefRotIdeal.sig) → Buf (Elt Ideal) ℓ) : Prop :=
  ∀ c : Dev Cert.RefRotIdeal.nD,
    (Cert.Pre_finite_rot.fn (F := Ideal) (m ((c.tc : Thread Cert.RefRotIdeal.nD Cert.RefRotIdeal.τ).loc Cert.RefRotIdeal.main_arg0)) (m ((c.tc : Thread Cert.RefRotIdeal.nD Cert.RefRotIdeal.τ).loc Cert.RefRotIdeal.main_arg1))) = (fun _ => 1#1)

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ r.2.sem = fun _ => 0)

def quiescent_MainIdeal_pre_finite_main [hMainIdeal : Cert.MainIdeal.Facts] [hPre_finite_main : Cert.Pre_finite_main.Facts] : Prop :=
  ∀ (m : (ℓ : Loc Cert.MainIdeal.nD Cert.MainIdeal.τ Cert.MainIdeal.sig) → Buf (Elt Ideal) ℓ) (g : Dev Cert.MainIdeal.nD → PrngReg), Pre_MainIdeal_finite_main m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ r.2.sem = fun _ => 0)

def quiescent_RefMainIdeal [hRefMainIdeal : Cert.RefMainIdeal.Facts] : Prop :=
  ∀ (m : (ℓ : Loc Cert.RefMainIdeal.nD Cert.RefMainIdeal.τ Cert.RefMainIdeal.sig) → Buf (Elt Ideal) ℓ) (g : Dev Cert.RefMainIdeal.nD → PrngReg), Pre_RefMainIdeal m →
    θ_run (Cert.RefMainIdeal.defs (F := Ideal)) (onTc (τ := Cert.RefMainIdeal.τ) (Cert.RefMainIdeal.main (F := Ideal))) ⟨m, fun _ => 0, g⟩ (fun r => (∀ c : Dev Cert.RefMainIdeal.nD,
      r.2.mem ((c.tc : Thread Cert.RefMainIdeal.nD Cert.RefMainIdeal.τ).loc Cert.RefMainIdeal.main_arg0) = m ((c.tc : Thread Cert.RefMainIdeal.nD Cert.RefMainIdeal.τ).loc Cert.RefMainIdeal.main_arg0)
      ∧ r.2.mem ((c.tc : Thread Cert.RefMainIdeal.nD Cert.RefMainIdeal.τ).loc Cert.RefMainIdeal.main_arg1) = m ((c.tc : Thread Cert.RefMainIdeal.nD Cert.RefMainIdeal.τ).loc Cert.RefMainIdeal.main_arg1)
      ∧ r.2.mem ((c.tc : Thread Cert.RefMainIdeal.nD Cert.RefMainIdeal.τ).loc Cert.RefMainIdeal.main_arg2) = m ((c.tc : Thread Cert.RefMainIdeal.nD Cert.RefMainIdeal.τ).loc Cert.RefMainIdeal.main_arg2)
      ∧ r.2.mem ((c.tc : Thread Cert.RefMainIdeal.nD Cert.RefMainIdeal.τ).loc Cert.RefMainIdeal.main_arg3) = m ((c.tc : Thread Cert.RefMainIdeal.nD Cert.RefMainIdeal.τ).loc Cert.RefMainIdeal.main_arg3))
      ∧ r.2.sem = fun _ => 0)

def quiescent_RefMainIdeal_pre_finite_main [hRefMainIdeal : Cert.RefMainIdeal.Facts] [hPre_finite_main : Cert.Pre_finite_main.Facts] : Prop :=
  ∀ (m : (ℓ : Loc Cert.RefMainIdeal.nD Cert.RefMainIdeal.τ Cert.RefMainIdeal.sig) → Buf (Elt Ideal) ℓ) (g : Dev Cert.RefMainIdeal.nD → PrngReg), Pre_RefMainIdeal_finite_main m →
    θ_run (Cert.RefMainIdeal.defs (F := Ideal)) (onTc (τ := Cert.RefMainIdeal.τ) (Cert.RefMainIdeal.main (F := Ideal))) ⟨m, fun _ => 0, g⟩ (fun r => (∀ c : Dev Cert.RefMainIdeal.nD,
      r.2.mem ((c.tc : Thread Cert.RefMainIdeal.nD Cert.RefMainIdeal.τ).loc Cert.RefMainIdeal.main_arg0) = m ((c.tc : Thread Cert.RefMainIdeal.nD Cert.RefMainIdeal.τ).loc Cert.RefMainIdeal.main_arg0)
      ∧ r.2.mem ((c.tc : Thread Cert.RefMainIdeal.nD Cert.RefMainIdeal.τ).loc Cert.RefMainIdeal.main_arg1) = m ((c.tc : Thread Cert.RefMainIdeal.nD Cert.RefMainIdeal.τ).loc Cert.RefMainIdeal.main_arg1)
      ∧ r.2.mem ((c.tc : Thread Cert.RefMainIdeal.nD Cert.RefMainIdeal.τ).loc Cert.RefMainIdeal.main_arg2) = m ((c.tc : Thread Cert.RefMainIdeal.nD Cert.RefMainIdeal.τ).loc Cert.RefMainIdeal.main_arg2)
      ∧ r.2.mem ((c.tc : Thread Cert.RefMainIdeal.nD Cert.RefMainIdeal.τ).loc Cert.RefMainIdeal.main_arg3) = m ((c.tc : Thread Cert.RefMainIdeal.nD Cert.RefMainIdeal.τ).loc Cert.RefMainIdeal.main_arg3))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ r.2.sem = fun _ => 0)

def quiescent_RotIdeal_pre_finite_rot [hRotIdeal : Cert.RotIdeal.Facts] [hPre_finite_rot : Cert.Pre_finite_rot.Facts] : Prop :=
  ∀ (m : (ℓ : Loc Cert.RotIdeal.nD Cert.RotIdeal.τ Cert.RotIdeal.sig) → Buf (Elt Ideal) ℓ) (g : Dev Cert.RotIdeal.nD → PrngReg), Pre_RotIdeal_finite_rot m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ r.2.sem = fun _ => 0)

def quiescent_RefRotIdeal [hRefRotIdeal : Cert.RefRotIdeal.Facts] : Prop :=
  ∀ (m : (ℓ : Loc Cert.RefRotIdeal.nD Cert.RefRotIdeal.τ Cert.RefRotIdeal.sig) → Buf (Elt Ideal) ℓ) (g : Dev Cert.RefRotIdeal.nD → PrngReg), Pre_RefRotIdeal m →
    θ_run (Cert.RefRotIdeal.defs (F := Ideal)) (onTc (τ := Cert.RefRotIdeal.τ) (Cert.RefRotIdeal.main (F := Ideal))) ⟨m, fun _ => 0, g⟩ (fun r => (∀ c : Dev Cert.RefRotIdeal.nD,
      r.2.mem ((c.tc : Thread Cert.RefRotIdeal.nD Cert.RefRotIdeal.τ).loc Cert.RefRotIdeal.main_arg0) = m ((c.tc : Thread Cert.RefRotIdeal.nD Cert.RefRotIdeal.τ).loc Cert.RefRotIdeal.main_arg0)
      ∧ r.2.mem ((c.tc : Thread Cert.RefRotIdeal.nD Cert.RefRotIdeal.τ).loc Cert.RefRotIdeal.main_arg1) = m ((c.tc : Thread Cert.RefRotIdeal.nD Cert.RefRotIdeal.τ).loc Cert.RefRotIdeal.main_arg1))
      ∧ r.2.sem = fun _ => 0)

def quiescent_RefRotIdeal_pre_finite_rot [hRefRotIdeal : Cert.RefRotIdeal.Facts] [hPre_finite_rot : Cert.Pre_finite_rot.Facts] : Prop :=
  ∀ (m : (ℓ : Loc Cert.RefRotIdeal.nD Cert.RefRotIdeal.τ Cert.RefRotIdeal.sig) → Buf (Elt Ideal) ℓ) (g : Dev Cert.RefRotIdeal.nD → PrngReg), Pre_RefRotIdeal_finite_rot m →
    θ_run (Cert.RefRotIdeal.defs (F := Ideal)) (onTc (τ := Cert.RefRotIdeal.τ) (Cert.RefRotIdeal.main (F := Ideal))) ⟨m, fun _ => 0, g⟩ (fun r => (∀ c : Dev Cert.RefRotIdeal.nD,
      r.2.mem ((c.tc : Thread Cert.RefRotIdeal.nD Cert.RefRotIdeal.τ).loc Cert.RefRotIdeal.main_arg0) = m ((c.tc : Thread Cert.RefRotIdeal.nD Cert.RefRotIdeal.τ).loc Cert.RefRotIdeal.main_arg0)
      ∧ r.2.mem ((c.tc : Thread Cert.RefRotIdeal.nD Cert.RefRotIdeal.τ).loc Cert.RefRotIdeal.main_arg1) = m ((c.tc : Thread Cert.RefRotIdeal.nD Cert.RefRotIdeal.τ).loc Cert.RefRotIdeal.main_arg1))
      ∧ r.2.sem = fun _ => 0)

def preserves_Main_MainIdeal : Prop :=
  True

def algebraic_MainIdeal_RefMainIdeal_pre_finite_main [hMainIdeal : Cert.MainIdeal.Facts] [hRefMainIdeal : Cert.RefMainIdeal.Facts] [hPre_finite_main : Cert.Pre_finite_main.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.RefMainIdeal.nD Cert.RefMainIdeal.τ Cert.RefMainIdeal.sig) → Buf (Elt Ideal) ℓ) (g' : Dev Cert.RefMainIdeal.nD → PrngReg), Pre_MainIdeal_finite_main m →
    (∀ c : Dev Cert.MainIdeal.nD,
      m' ((c.tc : Thread Cert.RefMainIdeal.nD Cert.RefMainIdeal.τ).loc Cert.RefMainIdeal.main_arg0) = m ((c.tc : Thread Cert.MainIdeal.nD Cert.MainIdeal.τ).loc Cert.MainIdeal.main_arg0)
      ∧ m' ((c.tc : Thread Cert.RefMainIdeal.nD Cert.RefMainIdeal.τ).loc Cert.RefMainIdeal.main_arg1) = m ((c.tc : Thread Cert.MainIdeal.nD Cert.MainIdeal.τ).loc Cert.MainIdeal.main_arg1)
      ∧ m' ((c.tc : Thread Cert.RefMainIdeal.nD Cert.RefMainIdeal.τ).loc Cert.RefMainIdeal.main_arg2) = m ((c.tc : Thread Cert.MainIdeal.nD Cert.MainIdeal.τ).loc Cert.MainIdeal.main_arg2)
      ∧ m' ((c.tc : Thread Cert.RefMainIdeal.nD Cert.RefMainIdeal.τ).loc Cert.RefMainIdeal.main_arg3) = m ((c.tc : Thread Cert.MainIdeal.nD Cert.MainIdeal.τ).loc Cert.MainIdeal.main_arg3)) →
    ∃ (v0 : (c : Dev Cert.MainIdeal.nD) → Buf (Elt Ideal) ((c.tc : Thread Cert.MainIdeal.nD Cert.MainIdeal.τ).loc Cert.MainIdeal.main_v2)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v2) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3))
      ∧ θ_run (Cert.RefMainIdeal.defs (F := Ideal)) (onTc (τ := Cert.RefMainIdeal.τ) (Cert.RefMainIdeal.main (F := Ideal))) ⟨m', fun _ => 0, g'⟩ (fun r => ∀ c : Dev Cert.RefMainIdeal.nD,
          r.2.mem ((c.tc : Thread Cert.RefMainIdeal.nD Cert.RefMainIdeal.τ).loc Cert.RefMainIdeal.main_v87) = v0 c
          ∧ r.2.mem ((c.tc : Thread Cert.RefMainIdeal.nD Cert.RefMainIdeal.τ).loc Cert.RefMainIdeal.main_arg0) = m' ((c.tc : Thread Cert.RefMainIdeal.nD Cert.RefMainIdeal.τ).loc Cert.RefMainIdeal.main_arg0)
          ∧ r.2.mem ((c.tc : Thread Cert.RefMainIdeal.nD Cert.RefMainIdeal.τ).loc Cert.RefMainIdeal.main_arg1) = m' ((c.tc : Thread Cert.RefMainIdeal.nD Cert.RefMainIdeal.τ).loc Cert.RefMainIdeal.main_arg1)
          ∧ r.2.mem ((c.tc : Thread Cert.RefMainIdeal.nD Cert.RefMainIdeal.τ).loc Cert.RefMainIdeal.main_arg2) = m' ((c.tc : Thread Cert.RefMainIdeal.nD Cert.RefMainIdeal.τ).loc Cert.RefMainIdeal.main_arg2)
          ∧ r.2.mem ((c.tc : Thread Cert.RefMainIdeal.nD Cert.RefMainIdeal.τ).loc Cert.RefMainIdeal.main_arg3) = m' ((c.tc : Thread Cert.RefMainIdeal.nD Cert.RefMainIdeal.τ).loc Cert.RefMainIdeal.main_arg3))

def preserves_Rot_RotIdeal : Prop :=
  True

def algebraic_RotIdeal_RefRotIdeal_pre_finite_rot [hRotIdeal : Cert.RotIdeal.Facts] [hRefRotIdeal : Cert.RefRotIdeal.Facts] [hPre_finite_rot : Cert.Pre_finite_rot.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RefRotIdeal.nD Cert.RefRotIdeal.τ Cert.RefRotIdeal.sig) → Buf (Elt Ideal) ℓ) (g' : Dev Cert.RefRotIdeal.nD → PrngReg), Pre_RotIdeal_finite_rot m →
    (∀ c : Dev Cert.RotIdeal.nD,
      m' ((c.tc : Thread Cert.RefRotIdeal.nD Cert.RefRotIdeal.τ).loc Cert.RefRotIdeal.main_arg0) = m ((c.tc : Thread Cert.RotIdeal.nD Cert.RotIdeal.τ).loc Cert.RotIdeal.main_arg0)
      ∧ m' ((c.tc : Thread Cert.RefRotIdeal.nD Cert.RefRotIdeal.τ).loc Cert.RefRotIdeal.main_arg1) = m ((c.tc : Thread Cert.RotIdeal.nD Cert.RotIdeal.τ).loc Cert.RotIdeal.main_arg1)) →
    ∃ (v0 : (c : Dev Cert.RotIdeal.nD) → Buf (Elt Ideal) ((c.tc : Thread Cert.RotIdeal.nD Cert.RotIdeal.τ).loc Cert.RotIdeal.main_v1)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v1) = v0 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ θ_run (Cert.RefRotIdeal.defs (F := Ideal)) (onTc (τ := Cert.RefRotIdeal.τ) (Cert.RefRotIdeal.main (F := Ideal))) ⟨m', fun _ => 0, g'⟩ (fun r => ∀ c : Dev Cert.RefRotIdeal.nD,
          r.2.mem ((c.tc : Thread Cert.RefRotIdeal.nD Cert.RefRotIdeal.τ).loc Cert.RefRotIdeal.main_v23) = v0 c
          ∧ r.2.mem ((c.tc : Thread Cert.RefRotIdeal.nD Cert.RefRotIdeal.τ).loc Cert.RefRotIdeal.main_arg0) = m' ((c.tc : Thread Cert.RefRotIdeal.nD Cert.RefRotIdeal.τ).loc Cert.RefRotIdeal.main_arg0)
          ∧ r.2.mem ((c.tc : Thread Cert.RefRotIdeal.nD Cert.RefRotIdeal.τ).loc Cert.RefRotIdeal.main_arg1) = m' ((c.tc : Thread Cert.RefRotIdeal.nD Cert.RefRotIdeal.τ).loc Cert.RefRotIdeal.main_arg1))

def Claim : Prop :=
  ∃ (hMain : Cert.Main.Facts) (hMainIdeal : Cert.MainIdeal.Facts) (hRefMainIdeal : Cert.RefMainIdeal.Facts) (hRot : Cert.Rot.Facts) (hRotIdeal : Cert.RotIdeal.Facts) (hRefRotIdeal : Cert.RefRotIdeal.Facts) (hPre_finite_main : Cert.Pre_finite_main.Facts) (hPre_finite_rot : Cert.Pre_finite_rot.Facts),
    quiescent_Main (hMain := hMain)
    ∧ quiescent_MainIdeal (hMainIdeal := hMainIdeal)
    ∧ quiescent_MainIdeal_pre_finite_main (hMainIdeal := hMainIdeal) (hPre_finite_main := hPre_finite_main)
    ∧ quiescent_RefMainIdeal (hRefMainIdeal := hRefMainIdeal)
    ∧ quiescent_RefMainIdeal_pre_finite_main (hRefMainIdeal := hRefMainIdeal) (hPre_finite_main := hPre_finite_main)
    ∧ quiescent_Rot (hRot := hRot)
    ∧ quiescent_RotIdeal (hRotIdeal := hRotIdeal)
    ∧ quiescent_RotIdeal_pre_finite_rot (hRotIdeal := hRotIdeal) (hPre_finite_rot := hPre_finite_rot)
    ∧ quiescent_RefRotIdeal (hRefRotIdeal := hRefRotIdeal)
    ∧ quiescent_RefRotIdeal_pre_finite_rot (hRefRotIdeal := hRefRotIdeal) (hPre_finite_rot := hPre_finite_rot)
    ∧ preserves_Main_MainIdeal
    ∧ algebraic_MainIdeal_RefMainIdeal_pre_finite_main (hMainIdeal := hMainIdeal) (hRefMainIdeal := hRefMainIdeal) (hPre_finite_main := hPre_finite_main)
    ∧ preserves_Rot_RotIdeal
    ∧ algebraic_RotIdeal_RefRotIdeal_pre_finite_rot (hRotIdeal := hRotIdeal) (hRefRotIdeal := hRefRotIdeal) (hPre_finite_rot := hPre_finite_rot)
-- ==== Pre_finite_main.lean ====
abbrev S6144x4096 : Shape := ⟨2, ![6144, 4096]⟩
abbrev S14336x512 : Shape := ⟨2, ![14336, 512]⟩
abbrev S14336 : Shape := ⟨1, ![14336]⟩
abbrev S_ : Shape := ⟨0, ![]⟩

class Facts : Prop where
  bcast_S_S6144x4096 : S_.BroadcastsInDim S6144x4096 (![] : Fin 0 → Fin S6144x4096.rank)
  reducesTo_S6144x4096_S_d0_1 : S6144x4096.ReducesTo [0, 1] S_
  h_S_ : 0 < S_.numel
  bcast_S_S14336 : S_.BroadcastsInDim S14336 (![] : Fin 0 → Fin S14336.rank)
  reducesTo_S14336_S_d0 : S14336.ReducesTo [0] S_

variable [Facts]

def fn {F : FTy → Type} [FloatOps F] (main_arg0 : FVec F S6144x4096 .bf16) (main_arg1 : IVec S14336x512 16) (main_arg2 : FVec F S14336 .f32) (main_arg3 : FVec F S14336 .f32) : IVec S_ 1 :=
  let main_v0 : FVec F S6144x4096 .bf16 := Host.absf main_arg0
  let main_cst : FVec F S_ .bf16 := constant S_ .bf16 0x7F80#16
  let main_v1 : FVec F S6144x4096 .bf16 := broadcastInDim S6144x4096 ![] bcast_S_S6144x4096 main_cst
  let main_v2 : IVec S6144x4096 1 := cmpf .olt main_v0 main_v1
  let main_c : IVec S_ 1 := constantI S_ 1 1#1
  let main_v3 : IVec S_ 1 := (fun x v => Host.reduce IntOp.andi x v reducesTo_S6144x4096_S_d0_1 h_S_) main_v2 main_c
  let main_v4 : FVec F S14336 .f32 := Host.absf main_arg2
  let main_cst_0 : FVec F S_ .f32 := constant S_ .f32 0x7F800000#32
  let main_v5 : FVec F S14336 .f32 := broadcastInDim S14336 ![] bcast_S_S14336 main_cst_0
  let main_v6 : IVec S14336 1 := cmpf .olt main_v4 main_v5
  let main_c_1 : IVec S_ 1 := constantI S_ 1 1#1
  let main_v7 : IVec S_ 1 := (fun x v => Host.reduce IntOp.andi x v reducesTo_S14336_S_d0 h_S_) main_v6 main_c_1
  let main_v8 : IVec S_ 1 := andi main_v3 main_v7
  main_v8
-- ==== Pre_finite_rot.lean ====
abbrev S6144x4096 : Shape := ⟨2, ![6144, 4096]⟩
abbrev S4096 : Shape := ⟨1, ![4096]⟩
abbrev S_ : Shape := ⟨0, ![]⟩

class Facts : Prop where
  bcast_S_S6144x4096 : S_.BroadcastsInDim S6144x4096 (![] : Fin 0 → Fin S6144x4096.rank)
  reducesTo_S6144x4096_S_d0_1 : S6144x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S6144x4096 .bf16) (main_arg1 : FVec F S4096 .f32) : IVec S_ 1 :=
  let main_v0 : FVec F S6144x4096 .bf16 := Host.absf main_arg0
  let main_cst : FVec F S_ .bf16 := constant S_ .bf16 0x7F80#16
  let main_v1 : FVec F S6144x4096 .bf16 := broadcastInDim S6144x4096 ![] bcast_S_S6144x4096 main_cst
  let main_v2 : IVec S6144x4096 1 := cmpf .olt main_v0 main_v1
  let main_c : IVec S_ 1 := constantI S_ 1 1#1
  let main_v3 : IVec S_ 1 := (fun x v => Host.reduce IntOp.andi x v reducesTo_S6144x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Main.lean ====
abbrev S6144x4096 : Shape := ⟨2, ![6144, 4096]⟩
abbrev S14336x512 : Shape := ⟨2, ![14336, 512]⟩
abbrev S14336 : Shape := ⟨1, ![14336]⟩
abbrev S14x1x1024 : Shape := ⟨3, ![14, 1, 1024]⟩
abbrev S6144x14336 : Shape := ⟨2, ![6144, 14336]⟩
abbrev S1024x512 : Shape := ⟨2, ![1024, 512]⟩
abbrev S1x1x1024 : Shape := ⟨3, ![1, 1, 1024]⟩
abbrev S512x4096 : Shape := ⟨2, ![512, 4096]⟩
abbrev S512x1024 : Shape := ⟨2, ![512, 1024]⟩
abbrev S2x1024x4096 : Shape := ⟨3, ![2, 1024, 4096]⟩
abbrev S128x128 : Shape := ⟨2, ![128, 128]⟩
abbrev S288x128 : Shape := ⟨2, ![288, 128]⟩
abbrev S1024x128 : Shape := ⟨2, ![1024, 128]⟩
abbrev S512x512 : Shape := ⟨2, ![512, 512]⟩
abbrev S8x128 : Shape := ⟨2, ![8, 128]⟩
abbrev S1x128 : Shape := ⟨2, ![1, 128]⟩
abbrev S1x128x128 : Shape := ⟨3, ![1, 128, 128]⟩
abbrev S1x1x128 : Shape := ⟨3, ![1, 1, 128]⟩
abbrev S1x512x4096 : Shape := ⟨3, ![1, 512, 4096]⟩

abbrev nBuf : Space → Nat
  | .hbm => 7
  | .vmem => 16
  | .smem => 0
  | _ => 0

abbrev bufTy : (tb : Table) → Fin (tcTables nBuf tb) → BufTy
  | .hbm, ⟨0, _⟩ => ⟨S6144x4096, .bf16⟩
  | .hbm, ⟨1, _⟩ => ⟨S14336x512, .i16⟩
  | .hbm, ⟨2, _⟩ => ⟨S14336, .f32⟩
  | .hbm, ⟨3, _⟩ => ⟨S14336, .f32⟩
  | .hbm, ⟨4, _⟩ => ⟨S14x1x1024, .f32⟩
  | .hbm, ⟨5, _⟩ => ⟨S14x1x1024, .f32⟩
  | .hbm, ⟨6, _⟩ => ⟨S6144x14336, .bf16⟩
  | .local _ .vmem, ⟨0, _⟩ => ⟨S1024x512, .i16⟩
  | .local _ .vmem, ⟨1, _⟩ => ⟨S1024x512, .i16⟩
  | .local _ .vmem, ⟨2, _⟩ => ⟨S1024x512, .i16⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x4096, .bf16⟩
  | .local _ .vmem, ⟨8, _⟩ => ⟨S512x4096, .bf16⟩
  | .local _ .vmem, ⟨9, _⟩ => ⟨S512x1024, .bf16⟩
  | .local _ .vmem, ⟨10, _⟩ => ⟨S512x1024, .bf16⟩
  | .local _ .vmem, ⟨11, _⟩ => ⟨S2x1024x4096, .bf16⟩
  | .local _ .vmem, ⟨12, _⟩ => ⟨S128x128, .i32⟩
  | .local _ .vmem, ⟨13, _⟩ => ⟨S288x128, .f32⟩
  | .local _ .vmem, ⟨14, _⟩ => ⟨S1024x128, .f32⟩
  | .local _ .vmem, ⟨15, _⟩ => ⟨S512x512, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![14, 12], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

@[reducible] def k0_t1_loop : Scf.Loop 32 :=
  let c0_i32_10851 : BitVec 32 := 0#32
  let c32_i32_10852 : BitVec 32 := 32#32
  let v20981 : BitVec 32 := Scalar.addi c0_i32_10851 c32_i32_10852
  let c1_i32_10853 : BitVec 32 := 1#32
  ⟨c0_i32_10851, v20981, c1_i32_10853⟩
def k0_mult1 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c0_i32_10856 : BitVec 32 := 0#32
  let v20983 : BitVec 1 := Scalar.cmpi .sgt arg13 c0_i32_10856
  let v20984 : BitVec 32 := Scalar.extui v20983
  let c0_i32_10857 : BitVec 32 := 0#32
  let v20985 : BitVec 1 := Scalar.cmpi .slt arg13 c0_i32_10857
  let v20986 : BitVec 32 := Scalar.extui v20985
  let v20987 : BitVec 32 := Scalar.subi v20984 v20986
  let c4_i32_10855 : BitVec 32 := 4#32
  let c0_i32_10858 : BitVec 32 := 0#32
  let v20988 : BitVec 1 := Scalar.cmpi .sgt c4_i32_10855 c0_i32_10858
  let v20989 : BitVec 32 := Scalar.extui v20988
  let c0_i32_10859 : BitVec 32 := 0#32
  let v20990 : BitVec 1 := Scalar.cmpi .slt c4_i32_10855 c0_i32_10859
  let v20991 : BitVec 32 := Scalar.extui v20990
  let v20992 : BitVec 32 := Scalar.subi v20989 v20991
  let v20993 : BitVec 1 := Scalar.cmpi .ne v20987 v20992
  let v20994 : BitVec 32 := Scalar.remsi arg13 c4_i32_10855
  let c0_i32_10860 : BitVec 32 := 0#32
  let v20995 : BitVec 1 := Scalar.cmpi .ne v20994 c0_i32_10860
  let v20996 : BitVec 1 := Scalar.andi v20993 v20995
  let v20982 : BitVec 32 := Scalar.divsi arg13 c4_i32_10855
  let c1_i32_10861 : BitVec 32 := 1#32
  let v20997 : BitVec 32 := Scalar.subi v20982 c1_i32_10861
  let v20998 : BitVec 32 := Scalar.select v20996 v20997 v20982
  let c128_i32_10868 : BitVec 32 := 128#32
  let v21009 : BitVec 32 := Scalar.muli v20998 c128_i32_10868
  v21009
def k0_mult2 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c128_i32_10869 : BitVec 32 := 128#32
  let v21011 : BitVec 32 := Scalar.muli v21008 c128_i32_10869
  v21011
def k0_off1 (k0_t1 : Fin k0_t1_loop.trips) : Fin 2 → Nat :=
  let c0_i32_10851 : BitVec 32 := 0#32
  let c1_i32_10853 : BitVec 32 := 1#32
  let arg13 : BitVec 32 := Scf.iv c0_i32_10851 c1_i32_10853 k0_t1
  let c0_i32_10856 : BitVec 32 := 0#32
  let v20983 : BitVec 1 := Scalar.cmpi .sgt arg13 c0_i32_10856
  let v20984 : BitVec 32 := Scalar.extui v20983
  let c0_i32_10857 : BitVec 32 := 0#32
  let v20985 : BitVec 1 := Scalar.cmpi .slt arg13 c0_i32_10857
  let v20986 : BitVec 32 := Scalar.extui v20985
  let v20987 : BitVec 32 := Scalar.subi v20984 v20986
  let c4_i32_10855 : BitVec 32 := 4#32
  let c0_i32_10858 : BitVec 32 := 0#32
  let v20988 : BitVec 1 := Scalar.cmpi .sgt c4_i32_10855 c0_i32_10858
  let v20989 : BitVec 32 := Scalar.extui v20988
  let c0_i32_10859 : BitVec 32 := 0#32
  let v20990 : BitVec 1 := Scalar.cmpi .slt c4_i32_10855 c0_i32_10859
  let v20991 : BitVec 32 := Scalar.extui v20990
  let v20992 : BitVec 32 := Scalar.subi v20989 v20991
  let v20993 : BitVec 1 := Scalar.cmpi .ne v20987 v20992
  let v20994 : BitVec 32 := Scalar.remsi arg13 c4_i32_10855
  let c0_i32_10860 : BitVec 32 := 0#32
  let v20995 : BitVec 1 := Scalar.cmpi .ne v20994 c0_i32_10860
  let v20996 : BitVec 1 := Scalar.andi v20993 v20995
  let v20982 : BitVec 32 := Scalar.divsi arg13 c4_i32_10855
  let c1_i32_10861 : BitVec 32 := 1#32
  let v20997 : BitVec 32 := Scalar.subi v20982 c1_i32_10861
  let v20998 : BitVec 32 := Scalar.select v20996 v20997 v20982
  let c128_i32_10868 : BitVec 32 := 128#32
  let v21009 : BitVec 32 := Scalar.muli v20998 c128_i32_10868
  let v21010 : BitVec 32 := v21009
  let v21013 : Index := Scalar.indexCast v21010
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c128_i32_10869 : BitVec 32 := 128#32
  let v21011 : BitVec 32 := Scalar.muli v21008 c128_i32_10869
  let v21012 : BitVec 32 := v21011
  let v21014 : Index := Scalar.indexCast v21012
  ![v21013.toNat, v21014.toNat]
def k0_mult3 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_11076 : BitVec 32 := 8#32
  let v21485 : BitVec 32 := Scalar.muli v21008 c8_i32_11076
  let c0_i32_11077 : BitVec 32 := 0#32
  let v21486 : BitVec 32 := Scalar.addi v21485 c0_i32_11077
  let c128_i32_11078 : BitVec 32 := 128#32
  let v21487 : BitVec 32 := Scalar.muli v21486 c128_i32_11078
  v21487
def k0_off2 (k0_t1 : Fin k0_t1_loop.trips) (c0_i32_11077 : BitVec 32) : Fin 3 → Nat :=
  let c0_11079 : Index := 0#32
  let c0_i32_10851 : BitVec 32 := 0#32
  let c1_i32_10853 : BitVec 32 := 1#32
  let arg13 : BitVec 32 := Scf.iv c0_i32_10851 c1_i32_10853 k0_t1
  let c0_i32_10856 : BitVec 32 := 0#32
  let v20983 : BitVec 1 := Scalar.cmpi .sgt arg13 c0_i32_10856
  let v20984 : BitVec 32 := Scalar.extui v20983
  let c0_i32_10857 : BitVec 32 := 0#32
  let v20985 : BitVec 1 := Scalar.cmpi .slt arg13 c0_i32_10857
  let v20986 : BitVec 32 := Scalar.extui v20985
  let v20987 : BitVec 32 := Scalar.subi v20984 v20986
  let c4_i32_10855 : BitVec 32 := 4#32
  let c0_i32_10858 : BitVec 32 := 0#32
  let v20988 : BitVec 1 := Scalar.cmpi .sgt c4_i32_10855 c0_i32_10858
  let v20989 : BitVec 32 := Scalar.extui v20988
  let c0_i32_10859 : BitVec 32 := 0#32
  let v20990 : BitVec 1 := Scalar.cmpi .slt c4_i32_10855 c0_i32_10859
  let v20991 : BitVec 32 := Scalar.extui v20990
  let v20992 : BitVec 32 := Scalar.subi v20989 v20991
  let v20993 : BitVec 1 := Scalar.cmpi .ne v20987 v20992
  let v20994 : BitVec 32 := Scalar.remsi arg13 c4_i32_10855
  let c0_i32_10860 : BitVec 32 := 0#32
  let v20995 : BitVec 1 := Scalar.cmpi .ne v20994 c0_i32_10860
  let v20996 : BitVec 1 := Scalar.andi v20993 v20995
  let v20982 : BitVec 32 := Scalar.divsi arg13 c4_i32_10855
  let c1_i32_10861 : BitVec 32 := 1#32
  let v20997 : BitVec 32 := Scalar.subi v20982 c1_i32_10861
  let v20998 : BitVec 32 := Scalar.select v20996 v20997 v20982
  let c128_i32_10868 : BitVec 32 := 128#32
  let v21009 : BitVec 32 := Scalar.muli v20998 c128_i32_10868
  let v21010 : BitVec 32 := v21009
  let v21490 : Index := Scalar.indexCast v21010
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_11076 : BitVec 32 := 8#32
  let v21485 : BitVec 32 := Scalar.muli v21008 c8_i32_11076
  let v21486 : BitVec 32 := Scalar.addi v21485 c0_i32_11077
  let c128_i32_11078 : BitVec 32 := 128#32
  let v21487 : BitVec 32 := Scalar.muli v21486 c128_i32_11078
  let v21489 : BitVec 32 := v21487
  let v21491 : Index := Scalar.indexCast v21489
  ![0, v21490.toNat, v21491.toNat]
def k0_mult4 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_11272 : BitVec 32 := 8#32
  let v21929 : BitVec 32 := Scalar.muli v21008 c8_i32_11272
  let c1_i32_11273 : BitVec 32 := 1#32
  let v21930 : BitVec 32 := Scalar.addi v21929 c1_i32_11273
  let c128_i32_11274 : BitVec 32 := 128#32
  let v21931 : BitVec 32 := Scalar.muli v21930 c128_i32_11274
  v21931
def k0_mult5 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_11468 : BitVec 32 := 8#32
  let v22373 : BitVec 32 := Scalar.muli v21008 c8_i32_11468
  let c2_i32_11469 : BitVec 32 := 2#32
  let v22374 : BitVec 32 := Scalar.addi v22373 c2_i32_11469
  let c128_i32_11470 : BitVec 32 := 128#32
  let v22375 : BitVec 32 := Scalar.muli v22374 c128_i32_11470
  v22375
def k0_mult6 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_11664 : BitVec 32 := 8#32
  let v22817 : BitVec 32 := Scalar.muli v21008 c8_i32_11664
  let c3_i32_11665 : BitVec 32 := 3#32
  let v22818 : BitVec 32 := Scalar.addi v22817 c3_i32_11665
  let c128_i32_11666 : BitVec 32 := 128#32
  let v22819 : BitVec 32 := Scalar.muli v22818 c128_i32_11666
  v22819
def k0_mult7 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_11860 : BitVec 32 := 8#32
  let v23261 : BitVec 32 := Scalar.muli v21008 c8_i32_11860
  let c4_i32_11861 : BitVec 32 := 4#32
  let v23262 : BitVec 32 := Scalar.addi v23261 c4_i32_11861
  let c128_i32_11862 : BitVec 32 := 128#32
  let v23263 : BitVec 32 := Scalar.muli v23262 c128_i32_11862
  v23263
def k0_mult8 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_12056 : BitVec 32 := 8#32
  let v23705 : BitVec 32 := Scalar.muli v21008 c8_i32_12056
  let c5_i32_12057 : BitVec 32 := 5#32
  let v23706 : BitVec 32 := Scalar.addi v23705 c5_i32_12057
  let c128_i32_12058 : BitVec 32 := 128#32
  let v23707 : BitVec 32 := Scalar.muli v23706 c128_i32_12058
  v23707
def k0_mult9 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_12252 : BitVec 32 := 8#32
  let v24149 : BitVec 32 := Scalar.muli v21008 c8_i32_12252
  let c6_i32_12253 : BitVec 32 := 6#32
  let v24150 : BitVec 32 := Scalar.addi v24149 c6_i32_12253
  let c128_i32_12254 : BitVec 32 := 128#32
  let v24151 : BitVec 32 := Scalar.muli v24150 c128_i32_12254
  v24151
def k0_mult10 (k0_t1 : Fin k0_t1_loop.trips) : BitVec 32 :=
  let c0_i32_10851 : BitVec 32 := 0#32
  let c1_i32_10853 : BitVec 32 := 1#32
  let arg13 : BitVec 32 := Scf.iv c0_i32_10851 c1_i32_10853 k0_t1
  let c4_i32_10862 : BitVec 32 := 4#32
  let c0_i32_10863 : BitVec 32 := 0#32
  let v20999 : BitVec 1 := Scalar.cmpi .eq c4_i32_10862 c0_i32_10863
  let c1_i32_10864 : BitVec 32 := 1#32
  let v21000 : BitVec 32 := Scalar.select v20999 c1_i32_10864 c4_i32_10862
  let v21001 : BitVec 32 := Scalar.remsi arg13 v21000
  let c0_i32_10866 : BitVec 32 := 0#32
  let v21003 : BitVec 1 := Scalar.cmpi .slt v21001 c0_i32_10866
  let c0_i32_10867 : BitVec 32 := 0#32
  let v21004 : BitVec 1 := Scalar.cmpi .slt v21000 c0_i32_10867
  let v21005 : BitVec 1 := Scalar.xori v21003 v21004
  let c0_i32_10865 : BitVec 32 := 0#32
  let v21002 : BitVec 1 := Scalar.cmpi .ne v21001 c0_i32_10865
  let v21006 : BitVec 1 := Scalar.andi v21005 v21002
  let v21007 : BitVec 32 := Scalar.addi v21001 v21000
  let v21008 : BitVec 32 := Scalar.select v21006 v21007 v21001
  let c8_i32_12448 : BitVec 32 := 8#32
  let v24593 : BitVec 32 := Scalar.muli v21008 c8_i32_12448
  let c7_i32_12449 : BitVec 32 := 7#32
  let v24594 : BitVec 32 := Scalar.addi v24593 c7_i32_12449
  let c128_i32_12450 : BitVec 32 := 128#32
  let v24595 : BitVec 32 := Scalar.muli v24594 c128_i32_12450
  v24595
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : Index := Scalar.indexCast v9
  let c0 : Index := 0#32
  let c0_8 : Index := 0#32
  ![v18.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5050 : Index := Scalar.indexCast v9
  let c512 : Index := 512#32
  let c0_3062 : Index := 0#32
  ![v5050.toNat, 512, 0]
def k0_mult11 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c0_i32_6175 : BitVec 32 := 0#32
  let v10087 : BitVec 1 := Scalar.cmpi .sgt v10084 c0_i32_6175
  let v10088 : BitVec 32 := Scalar.extui v10087
  let c0_i32_6176 : BitVec 32 := 0#32
  let v10089 : BitVec 1 := Scalar.cmpi .slt v10084 c0_i32_6176
  let v10090 : BitVec 32 := Scalar.extui v10089
  let v10091 : BitVec 32 := Scalar.subi v10088 v10090
  let c4_i32 : BitVec 32 := 4#32
  let c0_i32_6177 : BitVec 32 := 0#32
  let v10092 : BitVec 1 := Scalar.cmpi .sgt c4_i32 c0_i32_6177
  let v10093 : BitVec 32 := Scalar.extui v10092
  let c0_i32_6178 : BitVec 32 := 0#32
  let v10094 : BitVec 1 := Scalar.cmpi .slt c4_i32 c0_i32_6178
  let v10095 : BitVec 32 := Scalar.extui v10094
  let v10096 : BitVec 32 := Scalar.subi v10093 v10095
  let v10097 : BitVec 1 := Scalar.cmpi .ne v10091 v10096
  let v10098 : BitVec 32 := Scalar.remsi v10084 c4_i32
  let c0_i32_6179 : BitVec 32 := 0#32
  let v10099 : BitVec 1 := Scalar.cmpi .ne v10098 c0_i32_6179
  let v10100 : BitVec 1 := Scalar.andi v10097 v10099
  let v10086 : BitVec 32 := Scalar.divsi v10084 c4_i32
  let c1_i32_6180 : BitVec 32 := 1#32
  let v10101 : BitVec 32 := Scalar.subi v10086 c1_i32_6180
  let v10102 : BitVec 32 := Scalar.select v10100 v10101 v10086
  let c128_i32 : BitVec 32 := 128#32
  let v10113 : BitVec 32 := Scalar.muli v10102 c128_i32
  v10113
def k0_mult12 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c128_i32_6187 : BitVec 32 := 128#32
  let v10115 : BitVec 32 := Scalar.muli v10112 c128_i32_6187
  v10115
def k0_off5 (i : grid0.Coords) (c0_i32_6173 : BitVec 32) : Fin 2 → Nat :=
  let arg1 : BitVec 32 := BitVec.ofNat 32 (i 1).val
  let c3_i32 : BitVec 32 := 3#32
  let v10082 : BitVec 32 := Scalar.muli arg1 c3_i32
  let v10083 : BitVec 32 := Scalar.addi v10082 c0_i32_6173
  let c31_i32 : BitVec 32 := 31#32
  let v10084 : BitVec 32 := Scalar.minsi v10083 c31_i32
  let c0_i32_6175 : BitVec 32 := 0#32
  let v10087 : BitVec 1 := Scalar.cmpi .sgt v10084 c0_i32_6175
  let v10088 : BitVec 32 := Scalar.extui v10087
  let c0_i32_6176 : BitVec 32 := 0#32
  let v10089 : BitVec 1 := Scalar.cmpi .slt v10084 c0_i32_6176
  let v10090 : BitVec 32 := Scalar.extui v10089
  let v10091 : BitVec 32 := Scalar.subi v10088 v10090
  let c4_i32 : BitVec 32 := 4#32
  let c0_i32_6177 : BitVec 32 := 0#32
  let v10092 : BitVec 1 := Scalar.cmpi .sgt c4_i32 c0_i32_6177
  let v10093 : BitVec 32 := Scalar.extui v10092
  let c0_i32_6178 : BitVec 32 := 0#32
  let v10094 : BitVec 1 := Scalar.cmpi .slt c4_i32 c0_i32_6178
  let v10095 : BitVec 32 := Scalar.extui v10094
  let v10096 : BitVec 32 := Scalar.subi v10093 v10095
  let v10097 : BitVec 1 := Scalar.cmpi .ne v10091 v10096
  let v10098 : BitVec 32 := Scalar.remsi v10084 c4_i32
  let c0_i32_6179 : BitVec 32 := 0#32
  let v10099 : BitVec 1 := Scalar.cmpi .ne v10098 c0_i32_6179
  let v10100 : BitVec 1 := Scalar.andi v10097 v10099
  let v10086 : BitVec 32 := Scalar.divsi v10084 c4_i32
  let c1_i32_6180 : BitVec 32 := 1#32
  let v10101 : BitVec 32 := Scalar.subi v10086 c1_i32_6180
  let v10102 : BitVec 32 := Scalar.select v10100 v10101 v10086
  let c128_i32 : BitVec 32 := 128#32
  let v10113 : BitVec 32 := Scalar.muli v10102 c128_i32
  let v10114 : BitVec 32 := v10113
  let v10117 : Index := Scalar.indexCast v10114
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c128_i32_6187 : BitVec 32 := 128#32
  let v10115 : BitVec 32 := Scalar.muli v10112 c128_i32_6187
  let v10116 : BitVec 32 := v10115
  let v10118 : Index := Scalar.indexCast v10116
  ![v10117.toNat, v10118.toNat]
def k0_mult13 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32 : BitVec 32 := 8#32
  let v10589 : BitVec 32 := Scalar.muli v10112 c8_i32
  let c0_i32_6380 : BitVec 32 := 0#32
  let v10590 : BitVec 32 := Scalar.addi v10589 c0_i32_6380
  let c128_i32_6381 : BitVec 32 := 128#32
  let v10591 : BitVec 32 := Scalar.muli v10590 c128_i32_6381
  v10591
def k0_off6 (i : grid0.Coords) (c0_i32_6173 : BitVec 32) (c0_i32_6380 : BitVec 32) : Fin 3 → Nat :=
  let c1_i32_6174 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10085 : BitVec 32 := Scalar.subi c1_i32_6174 v9
  let v10594 : Index := Scalar.indexCast v10085
  let arg1 : BitVec 32 := BitVec.ofNat 32 (i 1).val
  let c3_i32 : BitVec 32 := 3#32
  let v10082 : BitVec 32 := Scalar.muli arg1 c3_i32
  let v10083 : BitVec 32 := Scalar.addi v10082 c0_i32_6173
  let c31_i32 : BitVec 32 := 31#32
  let v10084 : BitVec 32 := Scalar.minsi v10083 c31_i32
  let c0_i32_6175 : BitVec 32 := 0#32
  let v10087 : BitVec 1 := Scalar.cmpi .sgt v10084 c0_i32_6175
  let v10088 : BitVec 32 := Scalar.extui v10087
  let c0_i32_6176 : BitVec 32 := 0#32
  let v10089 : BitVec 1 := Scalar.cmpi .slt v10084 c0_i32_6176
  let v10090 : BitVec 32 := Scalar.extui v10089
  let v10091 : BitVec 32 := Scalar.subi v10088 v10090
  let c4_i32 : BitVec 32 := 4#32
  let c0_i32_6177 : BitVec 32 := 0#32
  let v10092 : BitVec 1 := Scalar.cmpi .sgt c4_i32 c0_i32_6177
  let v10093 : BitVec 32 := Scalar.extui v10092
  let c0_i32_6178 : BitVec 32 := 0#32
  let v10094 : BitVec 1 := Scalar.cmpi .slt c4_i32 c0_i32_6178
  let v10095 : BitVec 32 := Scalar.extui v10094
  let v10096 : BitVec 32 := Scalar.subi v10093 v10095
  let v10097 : BitVec 1 := Scalar.cmpi .ne v10091 v10096
  let v10098 : BitVec 32 := Scalar.remsi v10084 c4_i32
  let c0_i32_6179 : BitVec 32 := 0#32
  let v10099 : BitVec 1 := Scalar.cmpi .ne v10098 c0_i32_6179
  let v10100 : BitVec 1 := Scalar.andi v10097 v10099
  let v10086 : BitVec 32 := Scalar.divsi v10084 c4_i32
  let c1_i32_6180 : BitVec 32 := 1#32
  let v10101 : BitVec 32 := Scalar.subi v10086 c1_i32_6180
  let v10102 : BitVec 32 := Scalar.select v10100 v10101 v10086
  let c128_i32 : BitVec 32 := 128#32
  let v10113 : BitVec 32 := Scalar.muli v10102 c128_i32
  let v10114 : BitVec 32 := v10113
  let v10595 : Index := Scalar.indexCast v10114
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32 : BitVec 32 := 8#32
  let v10589 : BitVec 32 := Scalar.muli v10112 c8_i32
  let v10590 : BitVec 32 := Scalar.addi v10589 c0_i32_6380
  let c128_i32_6381 : BitVec 32 := 128#32
  let v10591 : BitVec 32 := Scalar.muli v10590 c128_i32_6381
  let v10593 : BitVec 32 := v10591
  let v10596 : Index := Scalar.indexCast v10593
  ![v10594.toNat, v10595.toNat, v10596.toNat]
def k0_mult14 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32_6562 : BitVec 32 := 8#32
  let v11034 : BitVec 32 := Scalar.muli v10112 c8_i32_6562
  let c1_i32_6563 : BitVec 32 := 1#32
  let v11035 : BitVec 32 := Scalar.addi v11034 c1_i32_6563
  let c128_i32_6564 : BitVec 32 := 128#32
  let v11036 : BitVec 32 := Scalar.muli v11035 c128_i32_6564
  v11036
def k0_mult15 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32_6745 : BitVec 32 := 8#32
  let v11479 : BitVec 32 := Scalar.muli v10112 c8_i32_6745
  let c2_i32_6746 : BitVec 32 := 2#32
  let v11480 : BitVec 32 := Scalar.addi v11479 c2_i32_6746
  let c128_i32_6747 : BitVec 32 := 128#32
  let v11481 : BitVec 32 := Scalar.muli v11480 c128_i32_6747
  v11481
def k0_mult16 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32_6928 : BitVec 32 := 8#32
  let v11924 : BitVec 32 := Scalar.muli v10112 c8_i32_6928
  let c3_i32_6929 : BitVec 32 := 3#32
  let v11925 : BitVec 32 := Scalar.addi v11924 c3_i32_6929
  let c128_i32_6930 : BitVec 32 := 128#32
  let v11926 : BitVec 32 := Scalar.muli v11925 c128_i32_6930
  v11926
def k0_mult17 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32_7116 : BitVec 32 := 8#32
  let v12369 : BitVec 32 := Scalar.muli v10112 c8_i32_7116
  let c4_i32_7117 : BitVec 32 := 4#32
  let v12370 : BitVec 32 := Scalar.addi v12369 c4_i32_7117
  let c128_i32_7118 : BitVec 32 := 128#32
  let v12371 : BitVec 32 := Scalar.muli v12370 c128_i32_7118
  v12371
def k0_mult18 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32_7299 : BitVec 32 := 8#32
  let v12814 : BitVec 32 := Scalar.muli v10112 c8_i32_7299
  let c5_i32 : BitVec 32 := 5#32
  let v12815 : BitVec 32 := Scalar.addi v12814 c5_i32
  let c128_i32_7300 : BitVec 32 := 128#32
  let v12816 : BitVec 32 := Scalar.muli v12815 c128_i32_7300
  v12816
def k0_mult19 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32_7481 : BitVec 32 := 8#32
  let v13259 : BitVec 32 := Scalar.muli v10112 c8_i32_7481
  let c6_i32 : BitVec 32 := 6#32
  let v13260 : BitVec 32 := Scalar.addi v13259 c6_i32
  let c128_i32_7482 : BitVec 32 := 128#32
  let v13261 : BitVec 32 := Scalar.muli v13260 c128_i32_7482
  v13261
def k0_mult20 (i : grid0.Coords) : BitVec 32 :=
  let arg1 : BitVec 32 := BitVec.ofNat 32 (i 1).val
  let c3_i32 : BitVec 32 := 3#32
  let v10082 : BitVec 32 := Scalar.muli arg1 c3_i32
  let c0_i32_6173 : BitVec 32 := 0#32
  let v10083 : BitVec 32 := Scalar.addi v10082 c0_i32_6173
  let c31_i32 : BitVec 32 := 31#32
  let v10084 : BitVec 32 := Scalar.minsi v10083 c31_i32
  let c4_i32_6181 : BitVec 32 := 4#32
  let c0_i32_6182 : BitVec 32 := 0#32
  let v10103 : BitVec 1 := Scalar.cmpi .eq c4_i32_6181 c0_i32_6182
  let c1_i32_6183 : BitVec 32 := 1#32
  let v10104 : BitVec 32 := Scalar.select v10103 c1_i32_6183 c4_i32_6181
  let v10105 : BitVec 32 := Scalar.remsi v10084 v10104
  let c0_i32_6185 : BitVec 32 := 0#32
  let v10107 : BitVec 1 := Scalar.cmpi .slt v10105 c0_i32_6185
  let c0_i32_6186 : BitVec 32 := 0#32
  let v10108 : BitVec 1 := Scalar.cmpi .slt v10104 c0_i32_6186
  let v10109 : BitVec 1 := Scalar.xori v10107 v10108
  let c0_i32_6184 : BitVec 32 := 0#32
  let v10106 : BitVec 1 := Scalar.cmpi .ne v10105 c0_i32_6184
  let v10110 : BitVec 1 := Scalar.andi v10109 v10106
  let v10111 : BitVec 32 := Scalar.addi v10105 v10104
  let v10112 : BitVec 32 := Scalar.select v10110 v10111 v10105
  let c8_i32_7663 : BitVec 32 := 8#32
  let v13704 : BitVec 32 := Scalar.muli v10112 c8_i32_7663
  let c7_i32 : BitVec 32 := 7#32
  let v13705 : BitVec 32 := Scalar.addi v13704 c7_i32
  let c128_i32_7664 : BitVec 32 := 128#32
  let v13706 : BitVec 32 := Scalar.muli v13705 c128_i32_7664
  v13706
def k0_mult21 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c0_i32_7670 : BitVec 32 := 0#32
  let v13720 : BitVec 1 := Scalar.cmpi .sgt v13717 c0_i32_7670
  let v13721 : BitVec 32 := Scalar.extui v13720
  let c0_i32_7671 : BitVec 32 := 0#32
  let v13722 : BitVec 1 := Scalar.cmpi .slt v13717 c0_i32_7671
  let v13723 : BitVec 32 := Scalar.extui v13722
  let v13724 : BitVec 32 := Scalar.subi v13721 v13723
  let c4_i32_7669 : BitVec 32 := 4#32
  let c0_i32_7672 : BitVec 32 := 0#32
  let v13725 : BitVec 1 := Scalar.cmpi .sgt c4_i32_7669 c0_i32_7672
  let v13726 : BitVec 32 := Scalar.extui v13725
  let c0_i32_7673 : BitVec 32 := 0#32
  let v13727 : BitVec 1 := Scalar.cmpi .slt c4_i32_7669 c0_i32_7673
  let v13728 : BitVec 32 := Scalar.extui v13727
  let v13729 : BitVec 32 := Scalar.subi v13726 v13728
  let v13730 : BitVec 1 := Scalar.cmpi .ne v13724 v13729
  let v13731 : BitVec 32 := Scalar.remsi v13717 c4_i32_7669
  let c0_i32_7674 : BitVec 32 := 0#32
  let v13732 : BitVec 1 := Scalar.cmpi .ne v13731 c0_i32_7674
  let v13733 : BitVec 1 := Scalar.andi v13730 v13732
  let v13719 : BitVec 32 := Scalar.divsi v13717 c4_i32_7669
  let c1_i32_7675 : BitVec 32 := 1#32
  let v13734 : BitVec 32 := Scalar.subi v13719 c1_i32_7675
  let v13735 : BitVec 32 := Scalar.select v13733 v13734 v13719
  let c128_i32_7682 : BitVec 32 := 128#32
  let v13746 : BitVec 32 := Scalar.muli v13735 c128_i32_7682
  v13746
def k0_mult22 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c128_i32_7683 : BitVec 32 := 128#32
  let v13748 : BitVec 32 := Scalar.muli v13745 c128_i32_7683
  v13748
def k0_mult23 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_7890 : BitVec 32 := 8#32
  let v14222 : BitVec 32 := Scalar.muli v13745 c8_i32_7890
  let c0_i32_7891 : BitVec 32 := 0#32
  let v14223 : BitVec 32 := Scalar.addi v14222 c0_i32_7891
  let c128_i32_7892 : BitVec 32 := 128#32
  let v14224 : BitVec 32 := Scalar.muli v14223 c128_i32_7892
  v14224
def k0_mult24 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_8085 : BitVec 32 := 8#32
  let v14667 : BitVec 32 := Scalar.muli v13745 c8_i32_8085
  let c1_i32_8086 : BitVec 32 := 1#32
  let v14668 : BitVec 32 := Scalar.addi v14667 c1_i32_8086
  let c128_i32_8087 : BitVec 32 := 128#32
  let v14669 : BitVec 32 := Scalar.muli v14668 c128_i32_8087
  v14669
def k0_mult25 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_8280 : BitVec 32 := 8#32
  let v15112 : BitVec 32 := Scalar.muli v13745 c8_i32_8280
  let c2_i32_8281 : BitVec 32 := 2#32
  let v15113 : BitVec 32 := Scalar.addi v15112 c2_i32_8281
  let c128_i32_8282 : BitVec 32 := 128#32
  let v15114 : BitVec 32 := Scalar.muli v15113 c128_i32_8282
  v15114
def k0_mult26 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_8475 : BitVec 32 := 8#32
  let v15557 : BitVec 32 := Scalar.muli v13745 c8_i32_8475
  let c3_i32_8476 : BitVec 32 := 3#32
  let v15558 : BitVec 32 := Scalar.addi v15557 c3_i32_8476
  let c128_i32_8477 : BitVec 32 := 128#32
  let v15559 : BitVec 32 := Scalar.muli v15558 c128_i32_8477
  v15559
def k0_mult27 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_8670 : BitVec 32 := 8#32
  let v16002 : BitVec 32 := Scalar.muli v13745 c8_i32_8670
  let c4_i32_8671 : BitVec 32 := 4#32
  let v16003 : BitVec 32 := Scalar.addi v16002 c4_i32_8671
  let c128_i32_8672 : BitVec 32 := 128#32
  let v16004 : BitVec 32 := Scalar.muli v16003 c128_i32_8672
  v16004
def k0_mult28 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_8865 : BitVec 32 := 8#32
  let v16447 : BitVec 32 := Scalar.muli v13745 c8_i32_8865
  let c5_i32_8866 : BitVec 32 := 5#32
  let v16448 : BitVec 32 := Scalar.addi v16447 c5_i32_8866
  let c128_i32_8867 : BitVec 32 := 128#32
  let v16449 : BitVec 32 := Scalar.muli v16448 c128_i32_8867
  v16449
def k0_mult29 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_9060 : BitVec 32 := 8#32
  let v16892 : BitVec 32 := Scalar.muli v13745 c8_i32_9060
  let c6_i32_9061 : BitVec 32 := 6#32
  let v16893 : BitVec 32 := Scalar.addi v16892 c6_i32_9061
  let c128_i32_9062 : BitVec 32 := 128#32
  let v16894 : BitVec 32 := Scalar.muli v16893 c128_i32_9062
  v16894
def k0_mult30 (i : grid0.Coords) : BitVec 32 :=
  let arg1 : BitVec 32 := BitVec.ofNat 32 (i 1).val
  let c3_i32_7665 : BitVec 32 := 3#32
  let v13715 : BitVec 32 := Scalar.muli arg1 c3_i32_7665
  let c1_i32_7666 : BitVec 32 := 1#32
  let v13716 : BitVec 32 := Scalar.addi v13715 c1_i32_7666
  let c31_i32_7667 : BitVec 32 := 31#32
  let v13717 : BitVec 32 := Scalar.minsi v13716 c31_i32_7667
  let c4_i32_7676 : BitVec 32 := 4#32
  let c0_i32_7677 : BitVec 32 := 0#32
  let v13736 : BitVec 1 := Scalar.cmpi .eq c4_i32_7676 c0_i32_7677
  let c1_i32_7678 : BitVec 32 := 1#32
  let v13737 : BitVec 32 := Scalar.select v13736 c1_i32_7678 c4_i32_7676
  let v13738 : BitVec 32 := Scalar.remsi v13717 v13737
  let c0_i32_7680 : BitVec 32 := 0#32
  let v13740 : BitVec 1 := Scalar.cmpi .slt v13738 c0_i32_7680
  let c0_i32_7681 : BitVec 32 := 0#32
  let v13741 : BitVec 1 := Scalar.cmpi .slt v13737 c0_i32_7681
  let v13742 : BitVec 1 := Scalar.xori v13740 v13741
  let c0_i32_7679 : BitVec 32 := 0#32
  let v13739 : BitVec 1 := Scalar.cmpi .ne v13738 c0_i32_7679
  let v13743 : BitVec 1 := Scalar.andi v13742 v13739
  let v13744 : BitVec 32 := Scalar.addi v13738 v13737
  let v13745 : BitVec 32 := Scalar.select v13743 v13744 v13738
  let c8_i32_9255 : BitVec 32 := 8#32
  let v17337 : BitVec 32 := Scalar.muli v13745 c8_i32_9255
  let c7_i32_9256 : BitVec 32 := 7#32
  let v17338 : BitVec 32 := Scalar.addi v17337 c7_i32_9256
  let c128_i32_9257 : BitVec 32 := 128#32
  let v17339 : BitVec 32 := Scalar.muli v17338 c128_i32_9257
  v17339
def k0_mult31 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c0_i32_9263 : BitVec 32 := 0#32
  let v17353 : BitVec 1 := Scalar.cmpi .sgt v17350 c0_i32_9263
  let v17354 : BitVec 32 := Scalar.extui v17353
  let c0_i32_9264 : BitVec 32 := 0#32
  let v17355 : BitVec 1 := Scalar.cmpi .slt v17350 c0_i32_9264
  let v17356 : BitVec 32 := Scalar.extui v17355
  let v17357 : BitVec 32 := Scalar.subi v17354 v17356
  let c4_i32_9262 : BitVec 32 := 4#32
  let c0_i32_9265 : BitVec 32 := 0#32
  let v17358 : BitVec 1 := Scalar.cmpi .sgt c4_i32_9262 c0_i32_9265
  let v17359 : BitVec 32 := Scalar.extui v17358
  let c0_i32_9266 : BitVec 32 := 0#32
  let v17360 : BitVec 1 := Scalar.cmpi .slt c4_i32_9262 c0_i32_9266
  let v17361 : BitVec 32 := Scalar.extui v17360
  let v17362 : BitVec 32 := Scalar.subi v17359 v17361
  let v17363 : BitVec 1 := Scalar.cmpi .ne v17357 v17362
  let v17364 : BitVec 32 := Scalar.remsi v17350 c4_i32_9262
  let c0_i32_9267 : BitVec 32 := 0#32
  let v17365 : BitVec 1 := Scalar.cmpi .ne v17364 c0_i32_9267
  let v17366 : BitVec 1 := Scalar.andi v17363 v17365
  let v17352 : BitVec 32 := Scalar.divsi v17350 c4_i32_9262
  let c1_i32_9268 : BitVec 32 := 1#32
  let v17367 : BitVec 32 := Scalar.subi v17352 c1_i32_9268
  let v17368 : BitVec 32 := Scalar.select v17366 v17367 v17352
  let c128_i32_9275 : BitVec 32 := 128#32
  let v17379 : BitVec 32 := Scalar.muli v17368 c128_i32_9275
  v17379
def k0_mult32 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c128_i32_9276 : BitVec 32 := 128#32
  let v17381 : BitVec 32 := Scalar.muli v17378 c128_i32_9276
  v17381
def k0_mult33 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_9483 : BitVec 32 := 8#32
  let v17855 : BitVec 32 := Scalar.muli v17378 c8_i32_9483
  let c0_i32_9484 : BitVec 32 := 0#32
  let v17856 : BitVec 32 := Scalar.addi v17855 c0_i32_9484
  let c128_i32_9485 : BitVec 32 := 128#32
  let v17857 : BitVec 32 := Scalar.muli v17856 c128_i32_9485
  v17857
def k0_mult34 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_9678 : BitVec 32 := 8#32
  let v18300 : BitVec 32 := Scalar.muli v17378 c8_i32_9678
  let c1_i32_9679 : BitVec 32 := 1#32
  let v18301 : BitVec 32 := Scalar.addi v18300 c1_i32_9679
  let c128_i32_9680 : BitVec 32 := 128#32
  let v18302 : BitVec 32 := Scalar.muli v18301 c128_i32_9680
  v18302
def k0_mult35 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_9873 : BitVec 32 := 8#32
  let v18745 : BitVec 32 := Scalar.muli v17378 c8_i32_9873
  let c2_i32_9874 : BitVec 32 := 2#32
  let v18746 : BitVec 32 := Scalar.addi v18745 c2_i32_9874
  let c128_i32_9875 : BitVec 32 := 128#32
  let v18747 : BitVec 32 := Scalar.muli v18746 c128_i32_9875
  v18747
def k0_mult36 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_10068 : BitVec 32 := 8#32
  let v19190 : BitVec 32 := Scalar.muli v17378 c8_i32_10068
  let c3_i32_10069 : BitVec 32 := 3#32
  let v19191 : BitVec 32 := Scalar.addi v19190 c3_i32_10069
  let c128_i32_10070 : BitVec 32 := 128#32
  let v19192 : BitVec 32 := Scalar.muli v19191 c128_i32_10070
  v19192
def k0_mult37 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_10263 : BitVec 32 := 8#32
  let v19635 : BitVec 32 := Scalar.muli v17378 c8_i32_10263
  let c4_i32_10264 : BitVec 32 := 4#32
  let v19636 : BitVec 32 := Scalar.addi v19635 c4_i32_10264
  let c128_i32_10265 : BitVec 32 := 128#32
  let v19637 : BitVec 32 := Scalar.muli v19636 c128_i32_10265
  v19637
def k0_mult38 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_10458 : BitVec 32 := 8#32
  let v20080 : BitVec 32 := Scalar.muli v17378 c8_i32_10458
  let c5_i32_10459 : BitVec 32 := 5#32
  let v20081 : BitVec 32 := Scalar.addi v20080 c5_i32_10459
  let c128_i32_10460 : BitVec 32 := 128#32
  let v20082 : BitVec 32 := Scalar.muli v20081 c128_i32_10460
  v20082
def k0_mult39 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_10653 : BitVec 32 := 8#32
  let v20525 : BitVec 32 := Scalar.muli v17378 c8_i32_10653
  let c6_i32_10654 : BitVec 32 := 6#32
  let v20526 : BitVec 32 := Scalar.addi v20525 c6_i32_10654
  let c128_i32_10655 : BitVec 32 := 128#32
  let v20527 : BitVec 32 := Scalar.muli v20526 c128_i32_10655
  v20527
def k0_mult40 (i : grid0.Coords) : BitVec 32 :=
  let arg1 : BitVec 32 := BitVec.ofNat 32 (i 1).val
  let c3_i32_9258 : BitVec 32 := 3#32
  let v17348 : BitVec 32 := Scalar.muli arg1 c3_i32_9258
  let c2_i32_9259 : BitVec 32 := 2#32
  let v17349 : BitVec 32 := Scalar.addi v17348 c2_i32_9259
  let c31_i32_9260 : BitVec 32 := 31#32
  let v17350 : BitVec 32 := Scalar.minsi v17349 c31_i32_9260
  let c4_i32_9269 : BitVec 32 := 4#32
  let c0_i32_9270 : BitVec 32 := 0#32
  let v17369 : BitVec 1 := Scalar.cmpi .eq c4_i32_9269 c0_i32_9270
  let c1_i32_9271 : BitVec 32 := 1#32
  let v17370 : BitVec 32 := Scalar.select v17369 c1_i32_9271 c4_i32_9269
  let v17371 : BitVec 32 := Scalar.remsi v17350 v17370
  let c0_i32_9273 : BitVec 32 := 0#32
  let v17373 : BitVec 1 := Scalar.cmpi .slt v17371 c0_i32_9273
  let c0_i32_9274 : BitVec 32 := 0#32
  let v17374 : BitVec 1 := Scalar.cmpi .slt v17370 c0_i32_9274
  let v17375 : BitVec 1 := Scalar.xori v17373 v17374
  let c0_i32_9272 : BitVec 32 := 0#32
  let v17372 : BitVec 1 := Scalar.cmpi .ne v17371 c0_i32_9272
  let v17376 : BitVec 1 := Scalar.andi v17375 v17372
  let v17377 : BitVec 32 := Scalar.addi v17371 v17370
  let v17378 : BitVec 32 := Scalar.select v17376 v17377 v17371
  let c8_i32_10848 : BitVec 32 := 8#32
  let v20970 : BitVec 32 := Scalar.muli v17378 c8_i32_10848
  let c7_i32_10849 : BitVec 32 := 7#32
  let v20971 : BitVec 32 := Scalar.addi v20970 c7_i32_10849
  let c128_i32_10850 : BitVec 32 := 128#32
  let v20972 : BitVec 32 := Scalar.muli v20971 c128_i32_10850
  v20972
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c13_i32 : BitVec 32 := 13#32
  let v1 : BitVec 32 := Scalar.minsi v0 c13_i32
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x512 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefMainIdeal.lean ====
abbrev S6144x4096 : Shape := ⟨2, ![6144, 4096]⟩
abbrev S14336x512 : Shape := ⟨2, ![14336, 512]⟩
abbrev S14336 : Shape := ⟨1, ![14336]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S14336x16x32 : Shape := ⟨3, ![14336, 16, 32]⟩
abbrev S14336x16x31 : Shape := ⟨3, ![14336, 16, 31]⟩
abbrev S14336x16x1 : Shape := ⟨3, ![14336, 16, 1]⟩
abbrev S8 : Shape := ⟨1, ![8]⟩
abbrev S14336x512x1 : Shape := ⟨3, ![14336, 512, 1]⟩
abbrev S1x1x8 : Shape := ⟨3, ![1, 1, 8]⟩
abbrev S14336x512x8 : Shape := ⟨3, ![14336, 512, 8]⟩
abbrev S14336x4096 : Shape := ⟨2, ![14336, 4096]⟩
abbrev S6144x14336 : Shape := ⟨2, ![6144, 14336]⟩
abbrev S1x14336 : Shape := ⟨2, ![1, 14336]⟩
abbrev S6144x56x256 : Shape := ⟨3, ![6144, 56, 256]⟩

abbrev nBuf : Space → Nat
  | .hbm => 117
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S14336x512, .i16⟩
  | .hbm, ⟨2, _⟩ => ⟨S14336, .f32⟩
  | .hbm, ⟨3, _⟩ => ⟨S14336, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256x256, .f32⟩
  | .hbm, ⟨20, _⟩ => ⟨S256x256, .f32⟩
  | .hbm, ⟨21, _⟩ => ⟨S14336x512, .i32⟩
  | .hbm, ⟨22, _⟩ => ⟨S14336x16x32, .i32⟩
  | .hbm, ⟨23, _⟩ => ⟨S14336x16x31, .i32⟩
  | .hbm, ⟨24, _⟩ => ⟨S14336x16x1, .i32⟩
  | .hbm, ⟨25, _⟩ => ⟨S14336x16x32, .i32⟩
  | .hbm, ⟨26, _⟩ => ⟨S14336x512, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S14336x512x1, .i32⟩
  | .hbm, ⟨32, _⟩ => ⟨S1x1x8, .i32⟩
  | .hbm, ⟨33, _⟩ => ⟨S14336x512x8, .i32⟩
  | .hbm, ⟨34, _⟩ => ⟨S14336x512x8, .i32⟩
  | .hbm, ⟨35, _⟩ => ⟨S14336x512x8, .i32⟩
  | .hbm, ⟨36, _⟩ => ⟨S14336x512x1, .i32⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S1x1x8, .i32⟩
  | .hbm, ⟨41, _⟩ => ⟨S14336x512x8, .i32⟩
  | .hbm, ⟨42, _⟩ => ⟨S14336x512x8, .i32⟩
  | .hbm, ⟨43, _⟩ => ⟨S14336x512x8, .i32⟩
  | .hbm, ⟨44, _⟩ => ⟨S14336x512x8, .i32⟩
  | .hbm, ⟨45, _⟩ => ⟨S_, .i32⟩
  | .hbm, ⟨46, _⟩ => ⟨S14336x512x8, .i32⟩
  | .hbm, ⟨47, _⟩ => ⟨S14336x512x8, .i32⟩
  | .hbm, ⟨48, _⟩ => ⟨S_, .i32⟩
  | .hbm, ⟨49, _⟩ => ⟨S14336x512x8, .i32⟩
  | .hbm, ⟨50, _⟩ => ⟨S14336x512x8, .i32⟩
  | .hbm, ⟨51, _⟩ => ⟨S_, .i32⟩
  | .hbm, ⟨52, _⟩ => ⟨S14336x512x8, .i32⟩
  | .hbm, ⟨53, _⟩ => ⟨S14336x512x8, .i32⟩
  | .hbm, ⟨54, _⟩ => ⟨S_, .i32⟩
  | .hbm, ⟨55, _⟩ => ⟨S14336x512x8, .i32⟩
  | .hbm, ⟨56, _⟩ => ⟨S14336x512x8, .i32⟩
  | .hbm, ⟨57, _⟩ => ⟨S_, .i32⟩
  | .hbm, ⟨58, _⟩ => ⟨S14336x512x8, .i32⟩
  | .hbm, ⟨59, _⟩ => ⟨S14336x512x8, .i32⟩
  | .hbm, ⟨60, _⟩ => ⟨S_, .i32⟩
  | .hbm, ⟨61, _⟩ => ⟨S14336x512x8, .i32⟩
  | .hbm, ⟨62, _⟩ => ⟨S14336x512x8, .i32⟩
  | .hbm, ⟨63, _⟩ => ⟨S_, .i32⟩
  | .hbm, ⟨64, _⟩ => ⟨S14336x512x8, .i32⟩
  | .hbm, ⟨65, _⟩ => ⟨S14336x512x8, .i32⟩
  | .hbm, ⟨66, _⟩ => ⟨S_, .i32⟩
  | .hbm, ⟨67, _⟩ => ⟨S14336x512x8, .i32⟩
  | .hbm, ⟨68, _⟩ => ⟨S14336x512x8, .i32⟩
  | .hbm, ⟨69, _⟩ => ⟨S_, .i32⟩
  | .hbm, ⟨70, _⟩ => ⟨S14336x512x8, .i32⟩
  | .hbm, ⟨71, _⟩ => ⟨S14336x512x8, .i32⟩
  | .hbm, ⟨72, _⟩ => ⟨S_, .i32⟩
  | .hbm, ⟨73, _⟩ => ⟨S14336x512x8, .i32⟩
  | .hbm, ⟨74, _⟩ => ⟨S14336x512x8, .i32⟩
  | .hbm, ⟨75, _⟩ => ⟨S14336x512x8, .i32⟩
  | .hbm, ⟨76, _⟩ => ⟨S14336x512x8, .f32⟩
  | .hbm, ⟨77, _⟩ => ⟨S_, .f32⟩
  | .hbm, ⟨78, _⟩ => ⟨S14336x512x8, .f32⟩
  | .hbm, ⟨79, _⟩ => ⟨S14336x512x8, .f32⟩
  | .hbm, ⟨80, _⟩ => ⟨S_, .i32⟩
  | .hbm, ⟨81, _⟩ => ⟨S14336x512x8, .i32⟩
  | .hbm, ⟨82, _⟩ => ⟨S14336x512x8, .i32⟩
  | .hbm, ⟨83, _⟩ => ⟨S_, .i32⟩
  | .hbm, ⟨84, _⟩ => ⟨S14336x512x8, .i32⟩
  | .hbm, ⟨85, _⟩ => ⟨S14336x512x8, .i32⟩
  | .hbm, ⟨86, _⟩ => ⟨S_, .i32⟩
  | .hbm, ⟨87, _⟩ => ⟨S14336x512x8, .i32⟩
  | .hbm, ⟨88, _⟩ => ⟨S14336x512x8, .i32⟩
  | .hbm, ⟨89, _⟩ => ⟨S_, .i32⟩
  | .hbm, ⟨90, _⟩ => ⟨S14336x512x8, .i32⟩
  | .hbm, ⟨91, _⟩ => ⟨S14336x512x8, .i32⟩
  | .hbm, ⟨92, _⟩ => ⟨S_, .i32⟩
  | .hbm, ⟨93, _⟩ => ⟨S14336x512x8, .i32⟩
  | .hbm, ⟨94, _⟩ => ⟨S14336x512x8, .i32⟩
  | .hbm, ⟨95, _⟩ => ⟨S14336x512x8, .i32⟩
  | .hbm, ⟨96, _⟩ => ⟨S14336x512x8, .f32⟩
  | .hbm, ⟨97, _⟩ => ⟨S_, .f32⟩
  | .hbm, ⟨98, _⟩ => ⟨S14336x512x8, .f32⟩
  | .hbm, ⟨99, _⟩ => ⟨S14336x512x8, .f32⟩
  | .hbm, ⟨100, _⟩ => ⟨S14336x512x8, .f32⟩
  | .hbm, ⟨101, _⟩ => ⟨S14336x512x8, .bf16⟩
  | .hbm, ⟨102, _⟩ => ⟨S14336x4096, .bf16⟩
  | .hbm, ⟨103, _⟩ => ⟨S6144x14336, .f32⟩
  | .hbm, ⟨104, _⟩ => ⟨S1x14336, .f32⟩
  | .hbm, ⟨105, _⟩ => ⟨S6144x14336, .f32⟩
  | .hbm, ⟨106, _⟩ => ⟨S6144x14336, .f32⟩
  | .hbm, ⟨107, _⟩ => ⟨S6144x56x256, .f32⟩
  | .hbm, ⟨108, _⟩ => ⟨S6144x56x256, .f32⟩
  | .hbm, ⟨109, _⟩ => ⟨S_, .f32⟩
  | .hbm, ⟨110, _⟩ => ⟨S6144x56x256, .f32⟩
  | .hbm, ⟨111, _⟩ => ⟨S6144x56x256, .f32⟩
  | .hbm, ⟨112, _⟩ => ⟨S6144x14336, .f32⟩
  | .hbm, ⟨113, _⟩ => ⟨S1x14336, .f32⟩
  | .hbm, ⟨114, _⟩ => ⟨S6144x14336, .f32⟩
  | .hbm, ⟨115, _⟩ => ⟨S6144x14336, .f32⟩
  | .hbm, ⟨116, _⟩ => ⟨S6144x14336, .bf16⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_c_15 : Ref sig .tc := ⟨.hbm, 83, rfl⟩
abbrev main_v60 : Ref sig .tc := ⟨.hbm, 84, rfl⟩
abbrev main_v61 : Ref sig .tc := ⟨.hbm, 85, rfl⟩
abbrev main_c_16 : Ref sig .tc := ⟨.hbm, 86, rfl⟩
abbrev main_v62 : Ref sig .tc := ⟨.hbm, 87, rfl⟩
abbrev main_v63 : Ref sig .tc := ⟨.hbm, 88, rfl⟩
abbrev main_c_17 : Ref sig .tc := ⟨.hbm, 89, rfl⟩
abbrev main_v64 : Ref sig .tc := ⟨.hbm, 90, rfl⟩
abbrev main_v65 : Ref sig .tc := ⟨.hbm, 91, rfl⟩
abbrev main_c_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_19 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_20 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== Rot.lean ====
abbrev S6144x4096 : Shape := ⟨2, ![6144, 4096]⟩
abbrev S4096 : Shape := ⟨1, ![4096]⟩
abbrev S1x4096 : Shape := ⟨2, ![1, 4096]⟩
abbrev S512x4096 : Shape := ⟨2, ![512, 4096]⟩
abbrev S256x256 : Shape := ⟨2, ![256, 256]⟩
abbrev S512x256 : Shape := ⟨2, ![512, 256]⟩
abbrev S1x256 : Shape := ⟨2, ![1, 256]⟩

abbrev nBuf : Space → Nat
  | .hbm => 4
  | .vmem => 6
  | .smem => 0
  | _ => 0

abbrev bufTy : (tb : Table) → Fin (tcTables nBuf tb) → BufTy
  | .hbm, ⟨0, _⟩ => ⟨S6144x4096, .bf16⟩
  | .hbm, ⟨1, _⟩ => ⟨S4096, .f32⟩
  | .hbm, ⟨2, _⟩ => ⟨S1x4096, .f32⟩
  | .hbm, ⟨3, _⟩ => ⟨S6144x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S256x256, .bf16⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefRotIdeal.lean ====
abbrev S6144x4096 : Shape := ⟨2, ![6144, 4096]⟩
abbrev S4096 : Shape := ⟨1, ![4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x4096 : Shape := ⟨2, ![1, 4096]⟩
abbrev S6144x16x256 : Shape := ⟨3, ![6144, 16, 256]⟩

abbrev nBuf : Space → Nat
  | .hbm => 30
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S4096, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S6144x4096, .f32⟩
  | .hbm, ⟨20, _⟩ => ⟨S1x4096, .f32⟩
  | .hbm, ⟨21, _⟩ => ⟨S6144x4096, .f32⟩
  | .hbm, ⟨22, _⟩ => ⟨S6144x4096, .f32⟩
  | .hbm, ⟨23, _⟩ => ⟨S6144x16x256, .f32⟩
  | .hbm, ⟨24, _⟩ => ⟨S6144x16x256, .f32⟩
  | .hbm, ⟨25, _⟩ => ⟨S_, .f32⟩
  | .hbm, ⟨26, _⟩ => ⟨S6144x16x256, .f32⟩
  | .hbm, ⟨27, _⟩ => ⟨S6144x16x256, .f32⟩
  | .hbm, ⟨28, _⟩ => ⟨S6144x4096, .f32⟩
  | .hbm, ⟨29, _⟩ => ⟨S6144x4096, .bf16⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.Main.Units.lean ====
/-
  The body of the main kernel, written as calls of the functions that the kernel's source is made of: the decoding of one
  sub-block, the scales' broadcast, the product of one half block of rows, the rotation of 256 rows by 128 tokens. Each loop
  that the printed program shows unrolled is a recursion over a list of offsets here.
-/
module

public import proofs.«01_k».proof.Main
public import Idealize.ShloMosaic.Lib.Tactic.Chain
public import Idealize.ShloMosaic.Lib.Tactic.ProgEq

@[expose] public section

set_option maxRecDepth 16384

noncomputable section

namespace Cert.Main.Hand

open Idealize.ShloMosaic Idealize.SL.Sem
open Cert.Main Facts₀ Facts

variable {F : FTy → Type} [FloatOps F] [Facts]

theorem inb2 {r c a b n k : Nat} (h : r + a ≤ n) (h' : c + b ≤ k) :
    ∀ x : Fin 2, (![r, c] : Fin 2 → Nat) x + (![a, b] : Fin 2 → Nat) x ≤ (![n, k] : Fin 2 → Nat) x := by
  intro x; fin_cases x
  · exact h
  · exact h'

theorem inb3 {c b k : Nat} (h : c + b ≤ k) :
    ∀ x : Fin 3, (![0, 0, c] : Fin 3 → Nat) x + (![1, 1, b] : Fin 3 → Nat) x ≤ (![1, 1, k] : Fin 3 → Nat) x := by
  intro x; fin_cases x
  · exact le_rfl
  · exact le_rfl
  · exact h

theorem inbS {r n : Nat} (h : r + 64 ≤ n) :
    ∀ x : Fin 2, (![8, 128] : Fin 2 → Nat) x = 0 ∨ (![r, 0] : Fin 2 → Nat) x + (![9, 1] : Fin 2 → Nat) x * ((![8, 128] : Fin 2 → Nat) x - 1) < (![n, 128] : Fin 2 → Nat) x := by
  intro x; fin_cases x
  · right; show r + 9 * 7 < n; omega
  · right; show 0 + 1 * 127 < 128; omega

/-! ## Pure pieces -/

/-- One stage of the butterfly over `2 ^ b`-distant partners. -/
def stage (b : Nat) (f : Nat → FVec F S8x128 .f32) : Nat → FVec F S8x128 .f32 := fun k =>
  if k / 2 ^ b % 2 = 0 then addf (f k) (f (k + 2 ^ b)) else subf (f (k - 2 ^ b)) (f k)

/-- The four stages over sixteen vectors. -/
def butterfly (f : Nat → FVec F S8x128 .f32) : Nat → FVec F S8x128 .f32 := stage 3 (stage 2 (stage 1 (stage 0 f)))

/-- The `k`-th of a list of vectors. -/
def nth (l : List (FVec F S8x128 .f32)) (k : Nat) : FVec F S8x128 .f32 := l.getD k (constant S8x128 .f32 0x00000000#32)

/-- The words of a sub-block with their successors in the upper and lower halves, transposed. -/
def wordsT (x : Vec F S128x128 .i16) : IVec S128x128 32 :=
  let v16 : IVec S128x128 32 := extui 32 x natLt_16_32
  let v17 : IVec S128x128 32 := iota .tc S128x128 32 [1] iota_S128x128_d1_w32
  let v19 : BitVec 32 := Scalar.select (Scalar.cmpi .eq 32#32 0#32) 1#32 32#32
  let v21 : IVec S128x128 32 := remsi v17 (broadcast S128x128 v19)
  let v23 : IVec S128x128 1 := cmpi .ne v21 (broadcast S128x128 0#32)
  let v25 : IVec S128x128 1 := cmpi .slt v21 (broadcast S128x128 0#32)
  let v28 : IVec S128x128 1 := broadcastTo S128x128 (broadcast S128x128 (Scalar.cmpi .slt v19 0#32)) broadcasts_S128x128_S128x128
  let v33 : IVec S128x128 32 := select (andi (xori v25 v28) v23) (addi v21 (broadcast S128x128 v19)) v21
  let v35 : IVec S128x128 1 := cmpi .eq v33 (broadcast S128x128 31#32)
  let v38 : IVec S128x128 32 := select v35 (dynamicRotate 1 31#32 none v16 rotates_S128x128_d1) (dynamicRotate 1 127#32 none v16 rotates_S128x128_d1)
  transpose S128x128 [1, 0] (ori (shli v16 (broadcast S128x128 16#32)) v38) transposes_S128x128_p1_0_S128x128

/-- The weights that one row of those words holds: eight trellis states a word. -/
def weights (x : Vec F S1x128 .i32) : FVec F S8x128 .f32 :=
  let sh : IVec S8x128 32 := subi (broadcast S8x128 16#32) (muli (broadcast S8x128 2#32) (iota .tc S8x128 32 [0] iota_S8x128_d0_w32))
  let word : IVec S8x128 32 := broadcastTo S8x128 (shapeCast S1x128 x shapeCasts_S1x128_S1x128) broadcasts_S1x128_S8x128
  let state : IVec S8x128 32 := andi (shrui word sh) (broadcast S8x128 65535#32)
  let h : IVec S8x128 32 := addi (muli state (broadcast S8x128 89226354#32)) (broadcast S8x128 64248484#32)
  let hi : IVec S8x128 32 := xori (andi (shrsi h (broadcast S8x128 3#32)) (broadcast S8x128 2181029888#32)) (broadcast S8x128 1064042496#32)
  let lo : IVec S8x128 32 := xori (andi (shrsi (shli h (broadcast S8x128 16#32)) (broadcast S8x128 3#32)) (broadcast S8x128 2181029888#32)) (broadcast S8x128 1064042496#32)
  addf (bitcastToFloat .f32 lo) (bitcastToFloat .f32 hi)

/-- Sixteen vectors one under the other. -/
def stack (p : Nat → FVec F S8x128 .f32) : FVec F S128x128 .f32 :=
  concatenate S128x128 0 [⟨S8x128, p 0⟩, ⟨S8x128, p 1⟩, ⟨S8x128, p 2⟩, ⟨S8x128, p 3⟩, ⟨S8x128, p 4⟩, ⟨S8x128, p 5⟩, ⟨S8x128, p 6⟩, ⟨S8x128, p 7⟩, ⟨S8x128, p 8⟩, ⟨S8x128, p 9⟩, ⟨S8x128, p 10⟩, ⟨S8x128, p 11⟩, ⟨S8x128, p 12⟩, ⟨S8x128, p 13⟩, ⟨S8x128, p 14⟩, ⟨S8x128, p 15⟩] concatenates_S8x128_S8x128_S8x128_S8x128_S8x128_S8x128_S8x128_S8x128_S8x128_S8x128_S8x128_S8x128_S8x128_S8x128_S8x128_S8x128_S128x128_d0

/-- What is stored of sixteen rows of words. -/
def wTile (p : Nat → FVec F S8x128 .f32) : FVec F S1x128x128 .bf16 :=
  shapeCast S1x128x128 (transpose S128x128 [1, 0] (truncf .bf16 (stack p) bitsLt_bf16_f32) transposes_S128x128_p1_0_S128x128) shapeCasts_S128x128_S1x128x128

/-- What is stored of sixteen rotated vectors and their scales. -/
def yTile (p : Nat → FVec F S8x128 .f32) (sv : Vec F S1x1x128 .f32) : FVec F S128x128 .bf16 :=
  truncf .bf16 (mulf (transpose S128x128 [1, 0] (stack p) transposes_S128x128_p1_0_S128x128)
    (broadcastTo S128x128 (mulf (shapeCast S1x128 sv shapeCasts_S1x1x128_S1x128) (broadcast S1x128 (Scalar.ofBits .f32 0x3D800000#32))) broadcasts_S1x128_S128x128)) bitsLt_bf16_f32

/-- What is stored of 128 scales: each along its row. -/
def rsTile (x : Vec F S1x1x128 .f32) : FVec F S128x128 .f32 :=
  shapeCast S128x128 (transpose S128x128 [1, 0] (broadcastTo S128x128 (shapeCast S1x128 (shapeCast S1x128 x shapeCasts_S1x1x128_S1x128) shapeCasts_S1x128_S1x128) broadcasts_S1x128_S128x128) transposes_S128x128_p1_0_S128x128) shapeCasts_S128x128_S128x128

/-- The product of half a block of weights with the tokens. -/
def prod (w : Vec F S1x512x4096 .bf16) (x : Vec F S512x4096 .bf16) : FVec F S512x512 .f32 :=
  shapeCast S512x512 (matmul dot_S512x4096_S512x4096_S512x512_1_1_0_0_n_n none (shapeCast S512x4096 w shapeCasts_S1x512x4096_S512x4096) x (constant S512x512 .f32 0x00000000#32)) shapeCasts_S512x512_S512x512

/-! ## The rotation -/

/-- Rows of products, each times its rows of scales. -/
def scaled (a : Memref sig .tc .vmem S512x512 .f32) (b : Memref sig .tc .vmem S1024x128 .f32) (c : Nat) (hc : c + 128 ≤ 512) :
    (l : List (Nat × Nat)) → (∀ p ∈ l, p.1 + 8 ≤ 512 ∧ p.2 + 8 ≤ 1024) → Prog (TpuEff nD τ sig (Elt F) Λ₀ .tc) (List (FVec F S8x128 .f32))
  | [], _ => pure []
  | (r, s) :: l, h => do
    let x : Vec F S8x128 .f32 ← Prog.lift (.load a (Rect.unit (s := S512x512) ![r, c] S8x128.size (inb2 (h (r, s) (List.mem_cons_self ..)).1 hc)).toLoadRect (View.loadsAt_vmem h_S8x128))
    let y : Vec F S8x128 .f32 ← Prog.lift (.load b (Rect.unit (s := S1024x128) ![s, 0] S8x128.size (inb2 (h (r, s) (List.mem_cons_self ..)).2 le_rfl)).toLoadRect (View.loadsAt_vmem h_S8x128))
    let rest ← scaled a b c hc l fun p hp => h p (List.mem_cons_of_mem _ hp)
    pure (mulf x y :: rest)

/-- Eight rows from each offset on. -/
def loadRows (b : Memref sig .tc .vmem S288x128 .f32) : (l : List Nat) → (∀ o ∈ l, o + 8 ≤ 288) → Prog (TpuEff nD τ sig (Elt F) Λ₀ .tc) (List (FVec F S8x128 .f32))
  | [], _ => pure []
  | o :: l, h => do
    let x : Vec F S8x128 .f32 ← Prog.lift (.load b (Rect.unit (s := S288x128) ![o, 0] S8x128.size (inb2 (h o (List.mem_cons_self ..)) le_rfl)).toLoadRect (View.loadsAt_vmem h_S8x128))
    let rest ← loadRows b l fun p hp => h p (List.mem_cons_of_mem _ hp)
    pure (x :: rest)

/-- The vectors `val k, val (k+1), …` to eight rows from each offset on. -/
def storeRows (b : Memref sig .tc .vmem S288x128 .f32) (val : Nat → FVec F S8x128 .f32) : (l : List Nat) → (∀ o ∈ l, o + 8 ≤ 288) → Nat → Prog (TpuEff nD τ sig (Elt F) Λ₀ .tc) PUnit
  | [], _, _ => pure ⟨⟩
  | o :: l, h, k => do
    let _x : Vec F S8x128 .f32 ← Prog.lift (.load b (Rect.unit (s := S288x128) ![o, 0] S8x128.size (inb2 (h o (List.mem_cons_self ..)) le_rfl)).toLoadRect (View.loadsAt_vmem h_S8x128))
    Prog.lift (.store b (Rect.unit (s := S288x128) ![o, 0] S8x128.size (inb2 (h o (List.mem_cons_self ..)) le_rfl)) (shapeCast S8x128 (val k) shapeCasts_S8x128_S8x128) Finset.univ (View.stores_vmem_bits_univ h_S8x128 rfl) (.inl rfl))
    storeRows b val l (fun p hp => h p (List.mem_cons_of_mem _ hp)) (k + 1)

/-- Every ninth row from each offset on, eight of them. -/
def loadStrided (b : Memref sig .tc .vmem S288x128 .f32) : (l : List Nat) → (∀ o ∈ l, o + 64 ≤ 288) → Prog (TpuEff nD τ sig (Elt F) Λ₀ .tc) (List (FVec F S8x128 .f32))
  | [], _ => pure []
  | o :: l, h => do
    let x : Vec F S8x128 .f32 ← Prog.lift (.load b (⟨![o, 0], S8x128.size, ![9, 1], inbS (h o (List.mem_cons_self ..))⟩ : LoadRect S288x128) (View.loadsAt_vmem h_S8x128))
    let rest ← loadStrided b l fun p hp => h p (List.mem_cons_of_mem _ hp)
    pure (x :: rest)

/-- The vectors `val k, val (k+1), …` to every ninth row from each offset on. -/
def storeStrided (b : Memref sig .tc .vmem S288x128 .f32) (val : Nat → FVec F S8x128 .f32) : (l : List Nat) → (∀ o ∈ l, o + 64 ≤ 288) → Nat → Prog (TpuEff nD τ sig (Elt F) Λ₀ .tc) PUnit
  | [], _, _ => pure ⟨⟩
  | o :: l, h, k => do
    let _x : Vec F S8x128 .f32 ← Prog.lift (.load b (⟨![o, 0], S8x128.size, ![9, 1], inbS (h o (List.mem_cons_self ..))⟩ : LoadRect S288x128) (View.loadsAt_vmem h_S8x128))
    Prog.lift (.store b ⟨(⟨![o, 0], S8x128.size, ![9, 1], inbS (h o (List.mem_cons_self ..))⟩ : LoadRect S288x128), spos_9_1⟩ (shapeCast S8x128 (val k) shapeCasts_S8x128_S8x128) Finset.univ (View.stores_vmem_bits_univ h_S8x128 rfl) (.inl rfl))
    storeStrided b val l (fun p hp => h p (List.mem_cons_of_mem _ hp)) (k + 1)

theorem packedY (c d : Nat) (h : ∀ x : Fin 2, (![c, d] : Fin 2 → Nat) x + S128x128.size x ≤ S512x1024.size x) (hc : c % 128 = 0) :
    (Rect.unit (s := S512x1024) ![c, d] S128x128.size h).PackedRows (EltTy.packing .bf16) := by
  right
  refine ⟨le_rfl, rfl, .inl ⟨?_, ?_⟩⟩
  · show 2 ∣ c; omega
  · show 2 ∣ 128; decide

/-- Sixteen rotated vectors out: transposed, scaled and stored at token row `c`, output column `d`. -/
def outTile (v : Memref sig .tc .vmem S1x1x1024 .f32) (y : Memref sig .tc .vmem S512x1024 .bf16) (hy : y.IsWhole) (b : Memref sig .tc .vmem S288x128 .f32)
    (l : List Nat) (hl : ∀ o ∈ l, o + 8 ≤ 288) (c d : Nat) (hc : c + 128 ≤ 512) (hc' : c % 128 = 0) (hd : d + 128 ≤ 1024) : Prog (TpuEff nD τ sig (Elt F) Λ₀ .tc) PUnit := do
  let xs ← loadRows b l hl
  let sv : Vec F S1x1x128 .f32 ← Prog.lift (.load v (Rect.unit (s := S1x1x1024) ![0, 0, d] S1x1x128.size (inb3 hd)).toLoadRect (View.loadsAt_vmem h_S1x1x128))
  let _x : Vec F S128x128 .bf16 ← Prog.lift (.load y (Rect.unit (s := S512x1024) ![c, d] S128x128.size (inb2 hc hd)).toLoadRect (View.loadsAt_vmem h_S128x128))
  Prog.lift (.store y (Rect.unit (s := S512x1024) ![c, d] S128x128.size (inb2 hc hd)) (yTile (nth xs) sv) Finset.univ (View.stores_vmem h_S128x128 (hy.storeExact_slice rfl _ (packedY c d _ hc')) (fun _ => rfl)) (.inl rfl))

/-- The row offsets of the first pass, and of the two strided ones. -/
abbrev rows0 : List Nat := [0, 9, 18, 27, 36, 45, 54, 63, 72, 81, 90, 99, 108, 117, 126, 135]
abbrev rows1 : List Nat := [144, 153, 162, 171, 180, 189, 198, 207, 216, 225, 234, 243, 252, 261, 270, 279]
abbrev strided0 : List Nat := [0, 1, 2, 3, 4, 5, 6, 7, 144, 145, 146, 147, 148, 149, 150, 151]
abbrev strided1 : List Nat := [72, 73, 74, 75, 76, 77, 78, 79, 216, 217, 218, 219, 220, 221, 222, 223]

/-- The rotation of 256 rows of products at 128 tokens, from column `c` on. -/
def rotation (v : Memref sig .tc .vmem S1x1x1024 .f32) (y : Memref sig .tc .vmem S512x1024 .bf16) (hy : y.IsWhole)
    (b : Memref sig .tc .vmem S288x128 .f32) (s : Memref sig .tc .vmem S1024x128 .f32) (a : Memref sig .tc .vmem S512x512 .f32)
    (l0 l1 : List (Nat × Nat)) (h0 : ∀ p ∈ l0, p.1 + 8 ≤ 512 ∧ p.2 + 8 ≤ 1024) (h1 : ∀ p ∈ l1, p.1 + 8 ≤ 512 ∧ p.2 + 8 ≤ 1024)
    (c d d' : Nat) (hc : c + 128 ≤ 512) (hc' : c % 128 = 0) (hd : d + 128 ≤ 1024) (hd' : d' + 128 ≤ 1024) : Prog (TpuEff nD τ sig (Elt F) Λ₀ .tc) PUnit := do
  let x0 ← scaled a s c hc l0 h0
  storeRows b (butterfly (nth x0)) rows0 (by decide) 0
  let x1 ← scaled a s c hc l1 h1
  storeRows b (butterfly (nth x1)) rows1 (by decide) 0
  let x2 ← loadStrided b strided0 (by decide)
  storeStrided b (butterfly (nth x2)) strided0 (by decide) 0
  let x3 ← loadStrided b strided1 (by decide)
  storeStrided b (butterfly (nth x3)) strided1 (by decide) 0
  outTile v y hy b rows0 (by decide) c d hc hc' hd
  outTile v y hy b rows1 (by decide) c d' hc hc' hd'

/-! ## The decoding -/

/-- The weights of the rows of words named. -/
def loadWords (b : Memref sig .tc .vmem S128x128 .i32) : (l : List Nat) → (∀ o ∈ l, o + 1 ≤ 128) → Prog (TpuEff nD τ sig (Elt F) Λ₀ .tc) (List (FVec F S8x128 .f32))
  | [], _ => pure []
  | o :: l, h => do
    let x : Vec F S1x128 .i32 ← Prog.lift (.load b (Rect.unit (s := S128x128) ![o, 0] S1x128.size (inb2 (h o (List.mem_cons_self ..)) le_rfl)).toLoadRect (View.loadsAt_vmem h_S1x128))
    let rest ← loadWords b l fun p hp => h p (List.mem_cons_of_mem _ hp)
    pure (weights x :: rest)

/-- What a store of a tile of weights at `o` needs. -/
abbrev Fits (o : Fin 3 → Nat) : Prop :=
  ∃ h : ∀ a, o a + S1x128x128.size a ≤ S2x1024x4096.size a, (Rect.unit (s := S2x1024x4096) o S1x128x128.size h).PackedRows (EltTy.packing .bf16)

/-- Sixteen rows of words after another, each sixteen stored as a tile of weights. -/
def tiles (b : Memref sig .tc .vmem S128x128 .i32) (w : Memref sig .tc .vmem S2x1024x4096 .bf16) (hw : w.IsWhole) :
    (l : List (List Nat × (Fin 3 → Nat))) → (∀ p ∈ l, (∀ o ∈ p.1, o + 1 ≤ 128) ∧ Fits p.2) → Prog (TpuEff nD τ sig (Elt F) Λ₀ .tc) PUnit
  | [], _ => pure ⟨⟩
  | (r, o) :: l, h => do
    let xs ← loadWords b r (h (r, o) (List.mem_cons_self ..)).1
    let _x : Vec F S1x128x128 .bf16 ← Prog.lift (.load w (Rect.unit (s := S2x1024x4096) o S1x128x128.size (h (r, o) (List.mem_cons_self ..)).2.choose).toLoadRect (View.loadsAt_vmem h_S1x128x128))
    Prog.lift (.store w (Rect.unit (s := S2x1024x4096) o S1x128x128.size (h (r, o) (List.mem_cons_self ..)).2.choose) (wTile (nth xs)) Finset.univ (View.stores_vmem h_S1x128x128 (hw.storeExact_slice rfl _ (h (r, o) (List.mem_cons_self ..)).2.choose_spec) (fun _ => rfl)) (.inl rfl))
    tiles b w hw l fun p hp => h p (List.mem_cons_of_mem _ hp)

/-- The eight runs of sixteen rows of words, with the offsets of their tiles. -/
abbrev runs (o0 o1 o2 o3 o4 o5 o6 o7 : Fin 3 → Nat) : List (List Nat × (Fin 3 → Nat)) :=
  [([0, 1, 2, 3, 4, 5, 6, 7, 8, 9, 10, 11, 12, 13, 14, 15], o0),
   ([16, 17, 18, 19, 20, 21, 22, 23, 24, 25, 26, 27, 28, 29, 30, 31], o1),
   ([32, 33, 34, 35, 36, 37, 38, 39, 40, 41, 42, 43, 44, 45, 46, 47], o2),
   ([48, 49, 50, 51, 52, 53, 54, 55, 56, 57, 58, 59, 60, 61, 62, 63], o3),
   ([64, 65, 66, 67, 68, 69, 70, 71, 72, 73, 74, 75, 76, 77, 78, 79], o4),
   ([80, 81, 82, 83, 84, 85, 86, 87, 88, 89, 90, 91, 92, 93, 94, 95], o5),
   ([96, 97, 98, 99, 100, 101, 102, 103, 104, 105, 106, 107, 108, 109, 110, 111], o6),
   ([112, 113, 114, 115, 116, 117, 118, 119, 120, 121, 122, 123, 124, 125, 126, 127], o7)]

theorem runs_ok {o0 o1 o2 o3 o4 o5 o6 o7 : Fin 3 → Nat} (h0 : Fits o0) (h1 : Fits o1) (h2 : Fits o2) (h3 : Fits o3) (h4 : Fits o4) (h5 : Fits o5) (h6 : Fits o6) (h7 : Fits o7) :
    ∀ p ∈ runs o0 o1 o2 o3 o4 o5 o6 o7, (∀ o ∈ p.1, o + 1 ≤ 128) ∧ Fits p.2 := by
  intro p hp
  simp only [runs, List.mem_cons, List.not_mem_nil, or_false] at hp
  rcases hp with rfl | rfl | rfl | rfl | rfl | rfl | rfl | rfl
  · exact ⟨(by decide : ∀ o ∈ [0, 1, 2, 3, 4, 5, 6, 7, 8, 9, 10, 11, 12, 13, 14, 15], o + 1 ≤ 128), h0⟩
  · exact ⟨(by decide : ∀ o ∈ [16, 17, 18, 19, 20, 21, 22, 23, 24, 25, 26, 27, 28, 29, 30, 31], o + 1 ≤ 128), h1⟩
  · exact ⟨(by decide : ∀ o ∈ [32, 33, 34, 35, 36, 37, 38, 39, 40, 41, 42, 43, 44, 45, 46, 47], o + 1 ≤ 128), h2⟩
  · exact ⟨(by decide : ∀ o ∈ [48, 49, 50, 51, 52, 53, 54, 55, 56, 57, 58, 59, 60, 61, 62, 63], o + 1 ≤ 128), h3⟩
  · exact ⟨(by decide : ∀ o ∈ [64, 65, 66, 67, 68, 69, 70, 71, 72, 73, 74, 75, 76, 77, 78, 79], o + 1 ≤ 128), h4⟩
  · exact ⟨(by decide : ∀ o ∈ [80, 81, 82, 83, 84, 85, 86, 87, 88, 89, 90, 91, 92, 93, 94, 95], o + 1 ≤ 128), h5⟩
  · exact ⟨(by decide : ∀ o ∈ [96, 97, 98, 99, 100, 101, 102, 103, 104, 105, 106, 107, 108, 109, 110, 111], o + 1 ≤ 128), h6⟩
  · exact ⟨(by decide : ∀ o ∈ [112, 113, 114, 115, 116, 117, 118, 119, 120, 121, 122, 123, 124, 125, 126, 127], o + 1 ≤ 128), h7⟩

/-- The decoding of one sub-block of words at `oc` into the tiles at `o0, …, o7`. -/
def decode (x : Memref sig .tc .vmem S1024x512 .i16) (b : Memref sig .tc .vmem S128x128 .i32) (w : Memref sig .tc .vmem S2x1024x4096 .bf16) (hw : w.IsWhole)
    (oc : Fin 2 → Nat) (hoc : ∀ a, oc a + S128x128.size a ≤ S1024x512.size a) (o0 o1 o2 o3 o4 o5 o6 o7 : Fin 3 → Nat)
    (h : ∀ p ∈ runs o0 o1 o2 o3 o4 o5 o6 o7, (∀ o ∈ p.1, o + 1 ≤ 128) ∧ Fits p.2) : Prog (TpuEff nD τ sig (Elt F) Λ₀ .tc) PUnit := do
  let c : Vec F S128x128 .i16 ← Prog.lift (.load x (Rect.unit (s := S1024x512) oc S128x128.size hoc).toLoadRect (View.loadsAt_vmem h_S128x128))
  let _x : Vec F S128x128 .i32 ← Prog.lift (.load b (Rect.unit (s := S128x128) ![0, 0] S128x128.size (inb2 le_rfl le_rfl)).toLoadRect (View.loadsAt_vmem h_S128x128))
  Prog.lift (.store b (Rect.unit (s := S128x128) ![0, 0] S128x128.size (inb2 le_rfl le_rfl)) (shapeCast S128x128 (wordsT (F := F) c) shapeCasts_S128x128_S128x128) Finset.univ (View.stores_vmem_bits_univ h_S128x128 rfl) (.inl rfl))
  tiles b w hw (runs o0 o1 o2 o3 o4 o5 o6 o7) h

/-! ## The scales, the product and the body -/

/-- The scales of 128 rows from each offset on, each along its row. -/
def scales (x : Memref sig .tc .vmem S1x1x1024 .f32) (s : Memref sig .tc .vmem S1024x128 .f32) : (l : List Nat) → (∀ o ∈ l, o + 128 ≤ 1024) → Prog (TpuEff nD τ sig (Elt F) Λ₀ .tc) PUnit
  | [], _ => pure ⟨⟩
  | o :: l, h => do
    let v : Vec F S1x1x128 .f32 ← Prog.lift (.load x (Rect.unit (s := S1x1x1024) ![0, 0, o] S1x1x128.size (inb3 (h o (List.mem_cons_self ..)))).toLoadRect (View.loadsAt_vmem h_S1x1x128))
    let _x : Vec F S128x128 .f32 ← Prog.lift (.load s (Rect.unit (s := S1024x128) ![o, 0] S128x128.size (inb2 (h o (List.mem_cons_self ..)) le_rfl)).toLoadRect (View.loadsAt_vmem h_S128x128))
    Prog.lift (.store s (Rect.unit (s := S1024x128) ![o, 0] S128x128.size (inb2 (h o (List.mem_cons_self ..)) le_rfl)) (rsTile v) Finset.univ (View.stores_vmem_bits_univ h_S128x128 rfl) (.inl rfl))
    scales x s l fun p hp => h p (List.mem_cons_of_mem _ hp)

/-- The product of the half block of weights at `o` with the tokens. -/
def product (w : Memref sig .tc .vmem S2x1024x4096 .bf16) (x : Memref sig .tc .vmem S512x4096 .bf16) (a : Memref sig .tc .vmem S512x512 .f32)
    (o : Fin 3 → Nat) (ho : ∀ x, o x + S1x512x4096.size x ≤ S2x1024x4096.size x) : Prog (TpuEff nD τ sig (Elt F) Λ₀ .tc) PUnit := do
  let v : Vec F S1x512x4096 .bf16 ← Prog.lift (.load w (Rect.unit (s := S2x1024x4096) o S1x512x4096.size ho).toLoadRect (View.loadsAt_vmem h_S1x512x4096))
  let t : Vec F S512x4096 .bf16 ← Prog.lift (.load x (Rect.unit (s := S512x4096) ![0, 0] S512x4096.size (inb2 le_rfl le_rfl)).toLoadRect (View.loadsAt_vmem h_S512x4096))
  let _x : Vec F S512x512 .f32 ← Prog.lift (.load a (Rect.unit (s := S512x512) ![0, 0] S512x512.size (inb2 le_rfl le_rfl)).toLoadRect (View.loadsAt_vmem h_S512x512))
  Prog.lift (.store a (Rect.unit (s := S512x512) ![0, 0] S512x512.size (inb2 le_rfl le_rfl)) (prod v t) Finset.univ (View.stores_vmem_bits_univ h_S512x512 rfl) (.inl rfl))

/-- The rows of products and of scales of each half of each group of 256 rows. -/
abbrev L00 : List (Nat × Nat) := [(0, 0), (8, 8), (16, 16), (24, 24), (32, 32), (40, 40), (48, 48), (56, 56), (64, 64), (72, 72), (80, 80), (88, 88), (96, 96), (104, 104), (112, 112), (120, 120)]
abbrev L01 : List (Nat × Nat) := [(128, 128), (136, 136), (144, 144), (152, 152), (160, 160), (168, 168), (176, 176), (184, 184), (192, 192), (200, 200), (208, 208), (216, 216), (224, 224), (232, 232), (240, 240), (248, 248)]
abbrev L02 : List (Nat × Nat) := [(256, 256), (264, 264), (272, 272), (280, 280), (288, 288), (296, 296), (304, 304), (312, 312), (320, 320), (328, 328), (336, 336), (344, 344), (352, 352), (360, 360), (368, 368), (376, 376)]
abbrev L03 : List (Nat × Nat) := [(384, 384), (392, 392), (400, 400), (408, 408), (416, 416), (424, 424), (432, 432), (440, 440), (448, 448), (456, 456), (464, 464), (472, 472), (480, 480), (488, 488), (496, 496), (504, 504)]
abbrev L10 : List (Nat × Nat) := [(0, 512), (8, 520), (16, 528), (24, 536), (32, 544), (40, 552), (48, 560), (56, 568), (64, 576), (72, 584), (80, 592), (88, 600), (96, 608), (104, 616), (112, 624), (120, 632)]
abbrev L11 : List (Nat × Nat) := [(128, 640), (136, 648), (144, 656), (152, 664), (160, 672), (168, 680), (176, 688), (184, 696), (192, 704), (200, 712), (208, 720), (216, 728), (224, 736), (232, 744), (240, 752), (248, 760)]
abbrev L12 : List (Nat × Nat) := [(256, 768), (264, 776), (272, 784), (280, 792), (288, 800), (296, 808), (304, 816), (312, 824), (320, 832), (328, 840), (336, 848), (344, 856), (352, 864), (360, 872), (368, 880), (376, 888)]
abbrev L13 : List (Nat × Nat) := [(384, 896), (392, 904), (400, 912), (408, 920), (416, 928), (424, 936), (432, 944), (440, 952), (448, 960), (456, 968), (464, 976), (472, 984), (480, 992), (488, 1000), (496, 1008), (504, 1016)]

/-- The rotations of both groups of 256 rows at the 128 tokens from `c` on. -/
def rotTok (v : Memref sig .tc .vmem S1x1x1024 .f32) (y : Memref sig .tc .vmem S512x1024 .bf16) (hy : y.IsWhole)
    (b : Memref sig .tc .vmem S288x128 .f32) (s : Memref sig .tc .vmem S1024x128 .f32) (a : Memref sig .tc .vmem S512x512 .f32)
    (l0 l1 l2 l3 : List (Nat × Nat)) (h : ∀ l ∈ [l0, l1, l2, l3], ∀ p ∈ l, p.1 + 8 ≤ 512 ∧ p.2 + 8 ≤ 1024)
    (c d0 d1 d2 d3 : Nat) (hc : c + 128 ≤ 512) (hc' : c % 128 = 0) (hd : ∀ d ∈ [d0, d1, d2, d3], d + 128 ≤ 1024) : Prog (TpuEff nD τ sig (Elt F) Λ₀ .tc) PUnit := do
  rotation v y hy b s a l0 l1 (h _ (by simp)) (h _ (by simp)) c d0 d1 hc hc' (hd _ (by simp)) (hd _ (by simp))
  rotation v y hy b s a l2 l3 (h _ (by simp)) (h _ (by simp)) c d2 d3 hc hc' (hd _ (by simp)) (hd _ (by simp))

/-- The rotations of a half block: all four groups of 128 tokens. -/
def rotHalf (v : Memref sig .tc .vmem S1x1x1024 .f32) (y : Memref sig .tc .vmem S512x1024 .bf16) (hy : y.IsWhole)
    (b : Memref sig .tc .vmem S288x128 .f32) (s : Memref sig .tc .vmem S1024x128 .f32) (a : Memref sig .tc .vmem S512x512 .f32)
    (l0 l1 l2 l3 : List (Nat × Nat)) (h : ∀ l ∈ [l0, l1, l2, l3], ∀ p ∈ l, p.1 + 8 ≤ 512 ∧ p.2 + 8 ≤ 1024)
    (d0 d1 d2 d3 : Nat) (hd : ∀ d ∈ [d0, d1, d2, d3], d + 128 ≤ 1024) : Prog (TpuEff nD τ sig (Elt F) Λ₀ .tc) PUnit := do
  rotTok v y hy b s a l0 l1 l2 l3 h 0 d0 d1 d2 d3 (by decide) (by decide) hd
  rotTok v y hy b s a l0 l1 l2 l3 h 128 d0 d1 d2 d3 (by decide) (by decide) hd
  rotTok v y hy b s a l0 l1 l2 l3 h 256 d0 d1 d2 d3 (by decide) (by decide) hd
  rotTok v y hy b s a l0 l1 l2 l3 h 384 d0 d1 d2 d3 (by decide) (by decide) hd

theorem fits2 (i : grid0.Coords) (t : Fin k0_t1_loop.trips) (h : k0_cond1 i = 1#1) (r : Fin 8) : Fits (k0_off2 t (BitVec.ofNat 32 r.val)) :=
  ⟨k0_off2_inb i t h r, k0_off2_packedbf16 i t h r⟩

theorem fits6 (i : grid0.Coords) (n : Fin 3) (r : Fin 8) : Fits (k0_off6 i (BitVec.ofNat 32 n.val) (BitVec.ofNat 32 r.val)) :=
  ⟨k0_off6_inb i n r, k0_off6_packedbf16 i n r⟩

/-- At the first point: the first block of weights, decoded whole. -/
def first (i : grid0.Coords) (arg2 : Memref sig .tc .vmem S1024x512 .i16) (arg9 : Memref sig .tc .vmem S128x128 .i32)
    (arg8 : Memref sig .tc .vmem S2x1024x4096 .bf16) (harg8 : arg8.IsWhole) : Prog (TpuEff nD τ sig (Elt F) Λ₀ .tc) PUnit :=
  if h1 : k0_cond1 i = 1#1 then do
    Scf.Loop.for (σ := Unit) k0_t1_loop (k0_t1_ok i h1) ⟨⟩ fun t _ => do
      decode arg2 arg9 arg8 harg8 (k0_off1 t) (k0_off1_inb i t h1) (k0_off2 t 0#32) (k0_off2 t 1#32) (k0_off2 t 2#32) (k0_off2 t 3#32) (k0_off2 t 4#32) (k0_off2 t 5#32) (k0_off2 t 6#32) (k0_off2 t 7#32)
        (runs_ok (fits2 i t h1 0) (fits2 i t h1 1) (fits2 i t h1 2) (fits2 i t h1 3) (fits2 i t h1 4) (fits2 i t h1 5) (fits2 i t h1 6) (fits2 i t h1 7))
      pure ⟨⟩
    pure ⟨⟩
  else pure ⟨⟩

/-- At the first block of tokens: the scales of the block of weights. -/
def fresh (i : grid0.Coords) (arg4 : Memref sig .tc .vmem S1x1x1024 .f32) (arg11 : Memref sig .tc .vmem S1024x128 .f32) :
    Prog (TpuEff nD τ sig (Elt F) Λ₀ .tc) PUnit :=
  if h2 : Scalar.cmpi .ne (Scalar.extui (Scalar.cmpi .eq (BitVec.ofNat 32 (i 1).val) 0#32) : BitVec 32) 0#32 = 1#1 then
    scales arg4 arg11 [0, 128, 256, 384, 512, 640, 768, 896] (by decide)
  else pure ⟨⟩

/-- The kernel's body. -/
def cc0_trellis_matmul (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) : Prog (TpuEff nD τ sig (Elt F) Λ₀ .tc) PUnit := do
  first i arg2 arg9 arg8 harg8
  fresh i arg4 arg11
  product arg8 arg6 arg12 (k0_off3 i) (k0_off3_inb i)
  rotHalf arg5 arg7 harg7 arg10 arg11 arg12 L00 L01 L02 L03 (by decide) 0 128 256 384 (by decide)
  product arg8 arg6 arg12 (k0_off4 i) (k0_off4_inb i)
  rotHalf arg5 arg7 harg7 arg10 arg11 arg12 L10 L11 L12 L13 (by decide) 512 640 768 896 (by decide)
  decode arg3 arg9 arg8 harg8 (k0_off5 i 0#32) (k0_off5_inb i 0) (k0_off6 i 0#32 0#32) (k0_off6 i 0#32 1#32) (k0_off6 i 0#32 2#32) (k0_off6 i 0#32 3#32) (k0_off6 i 0#32 4#32) (k0_off6 i 0#32 5#32) (k0_off6 i 0#32 6#32) (k0_off6 i 0#32 7#32) (runs_ok (fits6 i 0 0) (fits6 i 0 1) (fits6 i 0 2) (fits6 i 0 3) (fits6 i 0 4) (fits6 i 0 5) (fits6 i 0 6) (fits6 i 0 7))
  decode arg3 arg9 arg8 harg8 (k0_off5 i 1#32) (k0_off5_inb i 1) (k0_off6 i 1#32 0#32) (k0_off6 i 1#32 1#32) (k0_off6 i 1#32 2#32) (k0_off6 i 1#32 3#32) (k0_off6 i 1#32 4#32) (k0_off6 i 1#32 5#32) (k0_off6 i 1#32 6#32) (k0_off6 i 1#32 7#32) (runs_ok (fits6 i 1 0) (fits6 i 1 1) (fits6 i 1 2) (fits6 i 1 3) (fits6 i 1 4) (fits6 i 1 5) (fits6 i 1 6) (fits6 i 1 7))
  decode arg3 arg9 arg8 harg8 (k0_off5 i 2#32) (k0_off5_inb i 2) (k0_off6 i 2#32 0#32) (k0_off6 i 2#32 1#32) (k0_off6 i 2#32 2#32) (k0_off6 i 2#32 3#32) (k0_off6 i 2#32 4#32) (k0_off6 i 2#32 5#32) (k0_off6 i 2#32 6#32) (k0_off6 i 2#32 7#32) (runs_ok (fits6 i 2 0) (fits6 i 2 1) (fits6 i 2 2) (fits6 i 2 3) (fits6 i 2 4) (fits6 i 2 5) (fits6 i 2 6) (fits6 i 2 7))

end Cert.Main.Hand

end
-- ==== Proof.Shared.Mem.lean ====
/-
  Loads and stores on a memref of which the contents are known as a function of its index: the step rules in the form in which the
  body's proof uses them, and the contents after a store (`put`).
-/
module

public import Idealize.ShloMosaic.Lib.Tactic
public import Idealize.ShloMosaic.Lib.Ring
public import Idealize.ShloMosaic.Lib.Pipeline.FrameBody
public import Idealize.ShloMosaic.Lib.ValueIdx
public import Idealize.ShloMosaic.Lib.ValueIdxCoords

@[expose] public section

noncomputable section

namespace Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Put
variable {α : Type} {s : Shape}

open Classical in
/-- `x` with `w` written at the rectangle's elements. -/
def put (x : s.Idx → α) (r : Rect s) (w : r.shape.Idx → α) : s.Idx → α := fun i =>
  if h : ∃ j, r.emb j = i then w h.choose else x i

theorem put_emb (x : s.Idx → α) (r : Rect s) (w : r.shape.Idx → α) (j : r.shape.Idx) : put x r w (r.emb j) = w j := by
  have h : ∃ j', r.emb j' = r.emb j := ⟨j, rfl⟩
  rw [put, dif_pos h]
  exact congrArg w (r.emb.injective h.choose_spec)

theorem put_off (x : s.Idx → α) (r : Rect s) (w : r.shape.Idx → α) {i : s.Idx} (h : ∀ j, r.emb j ≠ i) : put x r w i = x i := by
  rw [put, dif_neg]; rintro ⟨j, hj⟩; exact h j hj

end Put

section Cells

open Idealize.ShloMosaic.ValueIdx

variable {α : Type}

/-- A matrix's element at two numbers (taken modulo the extents). -/
def cell {n k : Nat} [NeZero n] [NeZero k] (x : (⟨2, ![n, k]⟩ : Shape).Idx → α) (i j : Nat) : α :=
  x (ix2 (Fin.ofNat n i) (Fin.ofNat k j))

/-- A stack's element at three numbers (taken modulo the extents). -/
def cell3 {m n k : Nat} [NeZero m] [NeZero n] [NeZero k] (x : (⟨3, ![m, n, k]⟩ : Shape).Idx → α) (l i j : Nat) : α :=
  x (ix3 (Fin.ofNat m l) (Fin.ofNat n i) (Fin.ofNat k j))

theorem cell_val {n k : Nat} [NeZero n] [NeZero k] (x : (⟨2, ![n, k]⟩ : Shape).Idx → α) (i : (⟨2, ![n, k]⟩ : Shape).Idx) :
    cell x (i 0).val (i 1).val = x i := by
  have h0 : Fin.ofNat n (i 0).val = i 0 := Fin.ext (Nat.mod_eq_of_lt (i 0).isLt)
  have h1 : Fin.ofNat k (i 1).val = i 1 := Fin.ext (Nat.mod_eq_of_lt (i 1).isLt)
  exact ((congrArg x (congrArg₂ ix2 h0 h1)).trans (congrArg x (eq_ix2 i)).symm)

theorem cell3_val {m n k : Nat} [NeZero m] [NeZero n] [NeZero k] (x : (⟨3, ![m, n, k]⟩ : Shape).Idx → α) (i : (⟨3, ![m, n, k]⟩ : Shape).Idx) :
    cell3 x (i 0).val (i 1).val (i 2).val = x i := by
  have h0 : Fin.ofNat m (i 0).val = i 0 := Fin.ext (Nat.mod_eq_of_lt (i 0).isLt)
  have h1 : Fin.ofNat n (i 1).val = i 1 := Fin.ext (Nat.mod_eq_of_lt (i 1).isLt)
  have h2 : Fin.ofNat k (i 2).val = i 2 := Fin.ext (Nat.mod_eq_of_lt (i 2).isLt)
  unfold cell3
  rw [h0, h1, h2]
  exact (congrArg x (eq_ix3 i)).symm

theorem cell_eq {n k : Nat} [NeZero n] [NeZero k] (x : (⟨2, ![n, k]⟩ : Shape).Idx → α) {i j : Nat} (p : (⟨2, ![n, k]⟩ : Shape).Idx)
    (h0 : (p 0).val = i) (h1 : (p 1).val = j) : cell x i j = x p := by subst h0 h1; exact cell_val x p

theorem cell3_eq {m n k : Nat} [NeZero m] [NeZero n] [NeZero k] (x : (⟨3, ![m, n, k]⟩ : Shape).Idx → α) {l i j : Nat}
    (p : (⟨3, ![m, n, k]⟩ : Shape).Idx) (h0 : (p 0).val = l) (h1 : (p 1).val = i) (h2 : (p 2).val = j) : cell3 x l i j = x p := by
  subst h0 h1 h2; exact cell3_val x p

/-- A block of a matrix, as a matrix. -/
def blk {n k : Nat} [NeZero n] [NeZero k] (a b : Nat) (st : Nat) (x : (⟨2, ![n, k]⟩ : Shape).Idx → α) (r c : Nat) : (⟨2, ![a, b]⟩ : Shape).Idx → α :=
  fun j => cell x (r + st * (j 0).val) (c + (j 1).val)

theorem load_unit {n k a b : Nat} [NeZero n] [NeZero k] (x : (⟨2, ![n, k]⟩ : Shape).Idx → α) (o : Fin 2 → Nat)
    (h : ∀ i, o i + (![a, b] : Fin 2 → Nat) i ≤ (![n, k] : Fin 2 → Nat) i) :
    (fun j => x ((Rect.unit (s := ⟨2, ![n, k]⟩) o ![a, b] h).toLoadRect.idx j)) = blk a b 1 x (o 0) (o 1) := by
  funext j
  exact (cell_eq x _ rfl (by show o 1 + 1 * (j 1).val = _; rw [Nat.one_mul])).symm

theorem load_strided {n k a b st : Nat} [NeZero n] [NeZero k] (x : (⟨2, ![n, k]⟩ : Shape).Idx → α) (r : Nat)
    (h : ∀ i, (![a, b] : Fin 2 → Nat) i = 0 ∨ (![r, 0] : Fin 2 → Nat) i + (![st, 1] : Fin 2 → Nat) i * ((![a, b] : Fin 2 → Nat) i - 1) < (![n, k] : Fin 2 → Nat) i) :
    (fun j => x ((⟨![r, 0], ![a, b], ![st, 1], h⟩ : LoadRect ⟨2, ![n, k]⟩).idx j)) = blk a b st x r 0 := by
  funext j
  exact (cell_eq x _ rfl (by show 0 + 1 * (j 1).val = _; rw [Nat.one_mul])).symm

theorem load_at {n k a b : Nat} [NeZero n] [NeZero k] (x : (⟨2, ![n, k]⟩ : Shape).Idx → α) (r c : Nat)
    (h : ∀ i, (![r, c] : Fin 2 → Nat) i + (![a, b] : Fin 2 → Nat) i ≤ (![n, k] : Fin 2 → Nat) i) :
    (fun j => x ((Rect.unit (s := ⟨2, ![n, k]⟩) ![r, c] ![a, b] h).toLoadRect.idx j)) = blk a b 1 x r c := load_unit x _ h

/-- A matrix after a store of a block into it. -/
theorem put_unit {n k a b : Nat} [NeZero n] [NeZero k] [NeZero a] [NeZero b] (x : (⟨2, ![n, k]⟩ : Shape).Idx → α) (o : Fin 2 → Nat)
    (h : ∀ i, o i + (![a, b] : Fin 2 → Nat) i ≤ (![n, k] : Fin 2 → Nat) i) (w : (⟨2, ![a, b]⟩ : Shape).Idx → α) {i j : Nat} (hi : i < n) (hj : j < k) :
    cell (put x (Rect.unit (s := ⟨2, ![n, k]⟩) o ![a, b] h) w) i j
      = if o 0 ≤ i ∧ i < o 0 + a ∧ o 1 ≤ j ∧ j < o 1 + b then cell w (i - o 0) (j - o 1) else cell x i j := by
  have key : ∀ (p : (⟨2, ![a, b]⟩ : Shape).Idx), (Rect.unit (s := ⟨2, ![n, k]⟩) o ![a, b] h).emb p = ix2 (Fin.ofNat n i) (Fin.ofNat k j) →
      o 0 + (p 0).val = i ∧ o 1 + (p 1).val = j := by
    intro p hp
    have h0 : o 0 + 1 * (p 0).val = i % n := congrArg Fin.val (congrFun hp 0)
    have h1 : o 1 + 1 * (p 1).val = j % k := congrArg Fin.val (congrFun hp 1)
    rw [Nat.mod_eq_of_lt hi, Nat.one_mul] at h0
    rw [Nat.mod_eq_of_lt hj, Nat.one_mul] at h1
    exact ⟨h0, h1⟩
  split
  · rename_i hc
    obtain ⟨p, h0, h1⟩ : ∃ p : (⟨2, ![a, b]⟩ : Shape).Idx, (p 0).val = i - o 0 ∧ (p 1).val = j - o 1 :=
      ⟨ix2 ⟨i - o 0, by omega⟩ ⟨j - o 1, by omega⟩, rfl, rfl⟩
    rw [cell_eq w p h0 h1, cell_eq _ ((Rect.unit (s := ⟨2, ![n, k]⟩) o ![a, b] h).emb p)]
    · exact put_emb x (Rect.unit (s := ⟨2, ![n, k]⟩) o ![a, b] h) w p
    · show o 0 + 1 * (p 0).val = i; omega
    · show o 1 + 1 * (p 1).val = j; omega
  · rename_i hc
    refine put_off _ _ _ fun p hp => hc ?_
    obtain ⟨h0, h1⟩ := key p hp
    have := idx2_lt0 p; have := idx2_lt1 p
    omega

/-- A matrix after a store into every `st`-th row. -/
theorem put_strided {n k a b st : Nat} [NeZero n] [NeZero k] [NeZero a] [NeZero b] (x : (⟨2, ![n, k]⟩ : Shape).Idx → α) (r : Nat)
    (h : ∀ i, (![a, b] : Fin 2 → Nat) i = 0 ∨ (![r, 0] : Fin 2 → Nat) i + (![st, 1] : Fin 2 → Nat) i * ((![a, b] : Fin 2 → Nat) i - 1) < (![n, k] : Fin 2 → Nat) i)
    (hs : ∀ i, 0 < (⟨![r, 0], ![a, b], ![st, 1], h⟩ : LoadRect ⟨2, ![n, k]⟩).stride i)
    (w : (⟨2, ![a, b]⟩ : Shape).Idx → α) :
    (∀ p : (⟨2, ![a, b]⟩ : Shape).Idx, cell (put x ⟨(⟨![r, 0], ![a, b], ![st, 1], h⟩ : LoadRect ⟨2, ![n, k]⟩), hs⟩ w) (r + st * (p 0).val) (p 1).val = w p) ∧
    ∀ i j, i < n → j < k → (∀ s < a, i ≠ r + st * s) →
      cell (put x ⟨(⟨![r, 0], ![a, b], ![st, 1], h⟩ : LoadRect ⟨2, ![n, k]⟩), hs⟩ w) i j = cell x i j := by
  refine ⟨fun p => ?_, fun i j hi hj hne => ?_⟩
  · refine (cell_eq _ ((⟨(⟨![r, 0], ![a, b], ![st, 1], h⟩ : LoadRect ⟨2, ![n, k]⟩), hs⟩ : Rect ⟨2, ![n, k]⟩).emb p) rfl ?_).trans
      (put_emb x ⟨(⟨![r, 0], ![a, b], ![st, 1], h⟩ : LoadRect ⟨2, ![n, k]⟩), hs⟩ w p)
    show 0 + 1 * (p 1).val = _
    omega
  · refine put_off _ _ _ fun p hp => hne (p 0).val (p 0).isLt ?_
    have h0 : r + st * (p 0).val = i % n := congrArg Fin.val (congrFun hp 0)
    rw [h0, Nat.mod_eq_of_lt hi]

/-- A stack after a store of a block into one of its members. -/
theorem put_unit3 {m n k a b : Nat} [NeZero m] [NeZero n] [NeZero k] [NeZero a] [NeZero b] (x : (⟨3, ![m, n, k]⟩ : Shape).Idx → α) (o : Fin 3 → Nat)
    (h : ∀ i, o i + (![1, a, b] : Fin 3 → Nat) i ≤ (![m, n, k] : Fin 3 → Nat) i) (w : (⟨3, ![1, a, b]⟩ : Shape).Idx → α) {l i j : Nat}
    (hl : l < m) (hi : i < n) (hj : j < k) :
    cell3 (put x (Rect.unit (s := ⟨3, ![m, n, k]⟩) o ![1, a, b] h) w) l i j
      = if l = o 0 ∧ o 1 ≤ i ∧ i < o 1 + a ∧ o 2 ≤ j ∧ j < o 2 + b then cell3 w 0 (i - o 1) (j - o 2) else cell3 x l i j := by
  have key : ∀ (p : (⟨3, ![1, a, b]⟩ : Shape).Idx),
      (Rect.unit (s := ⟨3, ![m, n, k]⟩) o ![1, a, b] h).emb p = ix3 (Fin.ofNat m l) (Fin.ofNat n i) (Fin.ofNat k j) →
      o 0 + (p 0).val = l ∧ o 1 + (p 1).val = i ∧ o 2 + (p 2).val = j := by
    intro p hp
    have h0 : o 0 + 1 * (p 0).val = l % m := congrArg Fin.val (congrFun hp 0)
    have h1 : o 1 + 1 * (p 1).val = i % n := congrArg Fin.val (congrFun hp 1)
    have h2 : o 2 + 1 * (p 2).val = j % k := congrArg Fin.val (congrFun hp 2)
    rw [Nat.mod_eq_of_lt hl, Nat.one_mul] at h0
    rw [Nat.mod_eq_of_lt hi, Nat.one_mul] at h1
    rw [Nat.mod_eq_of_lt hj, Nat.one_mul] at h2
    exact ⟨h0, h1, h2⟩
  split
  · rename_i hc
    obtain ⟨p, h0, h1, h2⟩ : ∃ p : (⟨3, ![1, a, b]⟩ : Shape).Idx, (p 0).val = 0 ∧ (p 1).val = i - o 1 ∧ (p 2).val = j - o 2 :=
      ⟨ix3 ⟨0, Nat.one_pos⟩ ⟨i - o 1, by omega⟩ ⟨j - o 2, by omega⟩, rfl, rfl, rfl⟩
    rw [cell3_eq w p h0 h1 h2, cell3_eq _ ((Rect.unit (s := ⟨3, ![m, n, k]⟩) o ![1, a, b] h).emb p)]
    · exact put_emb x (Rect.unit (s := ⟨3, ![m, n, k]⟩) o ![1, a, b] h) w p
    · show o 0 + 1 * (p 0).val = l; omega
    · show o 1 + 1 * (p 1).val = i; omega
    · show o 2 + 1 * (p 2).val = j; omega
  · rename_i hc
    refine put_off _ _ _ fun p hp => hc ?_
    obtain ⟨h0, h1, h2⟩ := key p hp
    have : (p 0).val < 1 := (p 0).isLt
    have : (p 1).val < a := (p 1).isLt
    have : (p 2).val < b := (p 2).isLt
    omega

/-- A matrix with a block of it replaced. -/
def setBlk {n k : Nat} [NeZero n] [NeZero k] (a b : Nat) [NeZero a] [NeZero b] (x : (⟨2, ![n, k]⟩ : Shape).Idx → α) (r c : Nat) (w : (⟨2, ![a, b]⟩ : Shape).Idx → α) :
    (⟨2, ![n, k]⟩ : Shape).Idx → α := fun i =>
  if r ≤ (i 0).val ∧ (i 0).val < r + a ∧ c ≤ (i 1).val ∧ (i 1).val < c + b then cell w ((i 0).val - r) ((i 1).val - c) else x i

/-- A matrix with every `st`-th of its rows from `r` on replaced. -/
def setStr {n k : Nat} [NeZero n] [NeZero k] (a b st : Nat) [NeZero a] [NeZero b] (x : (⟨2, ![n, k]⟩ : Shape).Idx → α) (r : Nat) (w : (⟨2, ![a, b]⟩ : Shape).Idx → α) :
    (⟨2, ![n, k]⟩ : Shape).Idx → α := fun i =>
  if r ≤ (i 0).val ∧ (i 0).val < r + st * a ∧ ((i 0).val - r) % st = 0 then cell w (((i 0).val - r) / st) (i 1).val else x i

/-- A stack with a block of one of its members replaced. -/
def setBlk3 {m n k : Nat} [NeZero m] [NeZero n] [NeZero k] (a b : Nat) [NeZero a] [NeZero b] (x : (⟨3, ![m, n, k]⟩ : Shape).Idx → α) (l r c : Nat)
    (w : (⟨3, ![1, a, b]⟩ : Shape).Idx → α) : (⟨3, ![m, n, k]⟩ : Shape).Idx → α := fun i =>
  if (i 0).val = l ∧ r ≤ (i 1).val ∧ (i 1).val < r + a ∧ c ≤ (i 2).val ∧ (i 2).val < c + b then cell3 w 0 ((i 1).val - r) ((i 2).val - c) else x i

/-- A block of a member of a stack. -/
def blk3 {m n k : Nat} [NeZero m] [NeZero n] [NeZero k] (a b : Nat) (x : (⟨3, ![m, n, k]⟩ : Shape).Idx → α) (l r c : Nat) : (⟨3, ![1, a, b]⟩ : Shape).Idx → α :=
  fun j => cell3 x l (r + (j 1).val) (c + (j 2).val)

theorem load_unit3 {m n k a b : Nat} [NeZero m] [NeZero n] [NeZero k] (x : (⟨3, ![m, n, k]⟩ : Shape).Idx → α) (o : Fin 3 → Nat)
    (h : ∀ i, o i + (![1, a, b] : Fin 3 → Nat) i ≤ (![m, n, k] : Fin 3 → Nat) i) :
    (fun j => x ((Rect.unit (s := ⟨3, ![m, n, k]⟩) o ![1, a, b] h).toLoadRect.idx j)) = blk3 a b x (o 0) (o 1) (o 2) := by
  funext j
  refine (cell3_eq x _ ?_ ?_ ?_).symm
  · show o 0 + 1 * (j 0).val = _
    have : (j 0).val < 1 := (j 0).isLt
    omega
  · show o 1 + 1 * (j 1).val = _; omega
  · show o 2 + 1 * (j 2).val = _; omega

theorem put_unit_eq {n k a b : Nat} [NeZero n] [NeZero k] [NeZero a] [NeZero b] (x : (⟨2, ![n, k]⟩ : Shape).Idx → α) (o : Fin 2 → Nat)
    (h : ∀ i, o i + (![a, b] : Fin 2 → Nat) i ≤ (![n, k] : Fin 2 → Nat) i) (w : (⟨2, ![a, b]⟩ : Shape).Idx → α) :
    put x (Rect.unit (s := ⟨2, ![n, k]⟩) o ![a, b] h) w = setBlk a b x (o 0) (o 1) w := by
  funext i
  have := put_unit x o h w (i := (i 0).val) (j := (i 1).val) (idx2_lt0 i) (idx2_lt1 i)
  rw [cell_val, cell_val] at this
  exact this

theorem put_at {n k a b : Nat} [NeZero n] [NeZero k] [NeZero a] [NeZero b] (x : (⟨2, ![n, k]⟩ : Shape).Idx → α) (r c : Nat)
    (h : ∀ i, (![r, c] : Fin 2 → Nat) i + (![a, b] : Fin 2 → Nat) i ≤ (![n, k] : Fin 2 → Nat) i) (w : (⟨2, ![a, b]⟩ : Shape).Idx → α) :
    put x (Rect.unit (s := ⟨2, ![n, k]⟩) ![r, c] ![a, b] h) w = setBlk a b x r c w := put_unit_eq x _ h w

theorem put_unit3_eq {m n k a b : Nat} [NeZero m] [NeZero n] [NeZero k] [NeZero a] [NeZero b] (x : (⟨3, ![m, n, k]⟩ : Shape).Idx → α) (o : Fin 3 → Nat)
    (h : ∀ i, o i + (![1, a, b] : Fin 3 → Nat) i ≤ (![m, n, k] : Fin 3 → Nat) i) (w : (⟨3, ![1, a, b]⟩ : Shape).Idx → α) :
    put x (Rect.unit (s := ⟨3, ![m, n, k]⟩) o ![1, a, b] h) w = setBlk3 a b x (o 0) (o 1) (o 2) w := by
  funext i
  have := put_unit3 x o h w (l := (i 0).val) (i := (i 1).val) (j := (i 2).val) (i 0).isLt (i 1).isLt (i 2).isLt
  rw [cell3_val, cell3_val] at this
  exact this

theorem put_strided_eq {n k a st : Nat} [NeZero n] [NeZero k] [NeZero a] (x : (⟨2, ![n, k]⟩ : Shape).Idx → α) (r : Nat)
    (h : ∀ i, (![a, k] : Fin 2 → Nat) i = 0 ∨ (![r, 0] : Fin 2 → Nat) i + (![st, 1] : Fin 2 → Nat) i * ((![a, k] : Fin 2 → Nat) i - 1) < (![n, k] : Fin 2 → Nat) i)
    (hs : ∀ i, 0 < (⟨![r, 0], ![a, k], ![st, 1], h⟩ : LoadRect ⟨2, ![n, k]⟩).stride i)
    (w : (⟨2, ![a, k]⟩ : Shape).Idx → α) :
    put x ⟨(⟨![r, 0], ![a, k], ![st, 1], h⟩ : LoadRect ⟨2, ![n, k]⟩), hs⟩ w = setStr a k st x r w := by
  have hst : 0 < st := hs 0
  obtain ⟨h1, h2⟩ := put_strided x r h hs w
  funext i
  unfold setStr
  split
  · rename_i hc
    have hd : ((i 0).val - r) / st < a := by
      rw [Nat.div_lt_iff_lt_mul hst, Nat.mul_comm]; omega
    have hq : (i 0).val - r = st * (((i 0).val - r) / st) := (Nat.mul_div_cancel' (Nat.dvd_of_mod_eq_zero hc.2.2)).symm
    obtain ⟨p, hp0, hp1⟩ : ∃ p : (⟨2, ![a, k]⟩ : Shape).Idx, (p 0).val = ((i 0).val - r) / st ∧ (p 1).val = (i 1).val :=
      ⟨ix2 ⟨_, hd⟩ ⟨_, idx2_lt1 i⟩, rfl, rfl⟩
    rw [cell_eq w p hp0 hp1, ← h1 p, hp0, ← hq, hp1, show r + ((i 0).val - r) = (i 0).val by omega, cell_val]
  · rename_i hc
    have := h2 (i 0).val (i 1).val (idx2_lt0 i) (idx2_lt1 i) ?_
    · rw [cell_val, cell_val] at this; exact this
    · intro s hs' he
      refine hc ⟨by omega, ?_, ?_⟩
      · rw [he]; exact Nat.add_lt_add_left (Nat.mul_lt_mul_of_pos_left hs' hst) r
      · rw [he, Nat.add_sub_cancel_left, Nat.mul_mod_right]

theorem setBlk_in {n k a b : Nat} [NeZero n] [NeZero k] [NeZero a] [NeZero b] (x : (⟨2, ![n, k]⟩ : Shape).Idx → α) {r c i j : Nat} (w : (⟨2, ![a, b]⟩ : Shape).Idx → α)
    (hi : i < n) (hj : j < k) : cell (setBlk a b x r c w) i j = if r ≤ i ∧ i < r + a ∧ c ≤ j ∧ j < c + b then cell w (i - r) (j - c) else cell x i j := by
  show (if r ≤ i % n ∧ i % n < r + a ∧ c ≤ j % k ∧ j % k < c + b then cell w (i % n - r) (j % k - c) else cell x i j) = _
  rw [Nat.mod_eq_of_lt hi, Nat.mod_eq_of_lt hj]

theorem setStr_in {n k a b st : Nat} [NeZero n] [NeZero k] [NeZero a] [NeZero b] (x : (⟨2, ![n, k]⟩ : Shape).Idx → α) {r i j : Nat} (w : (⟨2, ![a, b]⟩ : Shape).Idx → α)
    (hi : i < n) (hj : j < k) : cell (setStr a b st x r w) i j = if r ≤ i ∧ i < r + st * a ∧ (i - r) % st = 0 then cell w ((i - r) / st) j else cell x i j := by
  show (if r ≤ i % n ∧ i % n < r + st * a ∧ (i % n - r) % st = 0 then cell w ((i % n - r) / st) (j % k) else cell x i j) = _
  rw [Nat.mod_eq_of_lt hi, Nat.mod_eq_of_lt hj]

theorem setBlk3_in {m n k a b : Nat} [NeZero m] [NeZero n] [NeZero k] [NeZero a] [NeZero b] (x : (⟨3, ![m, n, k]⟩ : Shape).Idx → α) {t r c l i j : Nat}
    (w : (⟨3, ![1, a, b]⟩ : Shape).Idx → α) (hl : l < m) (hi : i < n) (hj : j < k) :
    cell3 (setBlk3 a b x t r c w) l i j = if l = t ∧ r ≤ i ∧ i < r + a ∧ c ≤ j ∧ j < c + b then cell3 w 0 (i - r) (j - c) else cell3 x l i j := by
  show (if l % m = t ∧ r ≤ i % n ∧ i % n < r + a ∧ c ≤ j % k ∧ j % k < c + b then cell3 w 0 (i % n - r) (j % k - c) else cell3 x l i j) = _
  rw [Nat.mod_eq_of_lt hl, Nat.mod_eq_of_lt hi, Nat.mod_eq_of_lt hj]

theorem cell_lt {n k : Nat} [NeZero n] [NeZero k] (x : (⟨2, ![n, k]⟩ : Shape).Idx → α) {i j : Nat} (hi : i < n) (hj : j < k) :
    cell x i j = x (ix2 ⟨i, hi⟩ ⟨j, hj⟩) := cell_eq x _ rfl rfl

theorem cell_blk {n k a b st : Nat} [NeZero n] [NeZero k] [NeZero a] [NeZero b] (x : (⟨2, ![n, k]⟩ : Shape).Idx → α) {r c i j : Nat} (hi : i < a) (hj : j < b) :
    cell (blk a b st x r c) i j = cell x (r + st * i) (c + j) := by
  show cell x (r + st * (i % a)) (c + j % b) = _
  rw [Nat.mod_eq_of_lt hi, Nat.mod_eq_of_lt hj]

end Cells

section Steps

variable {nD : Nat} {τ : Topo} {sig : RefSig} {Val : EltTy → Type}
variable {Ix : Type} [DecidableEq Ix] {Name : Type} [DecidableEq Name] {U : Type} [URA U] {Lvl : Type}

variable [Preorder Lvl] {Λ : Labels} {defs : Defs nD τ sig Val Λ} (𝒱 : Variants) (c : Thread nD τ)
  (bd : Option 𝒱.V) {Γ : PendingWaitsCtx sig Ix} (E : Set Name)
variable {s : Shape} {e : EltTy}

local notation "𝕄" => MT nD τ sig Ix Val Name U Lvl

/-- A load of a memref that holds `x`: the program goes on with `x` at the rectangle's elements. -/
theorem wp_load_owns {cs : CoreSpace} {m : Memref sig c.2.kind cs s e} {r : LoadRect s} {hl : m.view.LoadsAt r} {q : PosShare TreeShare}
    {x : s.Idx → Val e} {Q : (r.shape.Idx → Val e) → sProp 𝕄} :
    owns c m q x ⊢ iprop((owns c m q x -∗ Q fun j => x (r.idx j)) -∗ wp frame (wpE' defs 𝒱 c bd Γ) E (Prog.lift (.load m r hl)) Q) := by
  unfold owns
  iintro ⟨%f, %hf, H⟩ HK
  iapply (wp_load 𝒱 c bd E (S := m.view.set) (View.setOn_subset_set _ _)) $$ H
  iintro H
  iapply (le_wp_ret _ _ _ _ _)
  have hx : m.view.readAt Val r f = fun j => x (r.idx j) := by funext j; rw [View.readAt_apply, hf]
  rw [hx]
  iapply HK
  iexists f
  isplitr; · ipureintro; exact hf
  iexact H

/-- A store into a memref that holds `x`: it holds `put x r w` after it. -/
theorem wp_store_owns {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {x : s.Idx → Val e} {Q : PUnit → sProp 𝕄} :
    owns c m fullShare x
      ⊢ iprop((owns c m fullShare (put x r w) -∗ Q ⟨⟩) -∗ wp frame (wpE' defs 𝒱 c bd Γ) E (Prog.lift (.store m r w Finset.univ hx hm)) Q) := by
  unfold owns
  iintro ⟨%f, %hf, H⟩ HK
  iapply (wp_store 𝒱 c bd E (m := m) (r := r) (S := m.view.set) ((View.setOn_subset_set _ _).trans (View.set_slice_subset _ _))) $$ H
  iintro H
  iapply (le_wp_ret _ _ _ _ _)
  iapply HK
  iexists _
  isplitr; swap; · iexact H
  ipureintro
  funext i
  by_cases h : ∃ j, r.emb j = i
  · obtain ⟨j, rfl⟩ := h
    rw [put_emb]
    exact View.read_slice_write_emb (v := m.view) r f w (Finset.mem_univ j)
  · rw [put_off _ _ _ fun j hj => h ⟨j, hj⟩, ← hf]
    refine View.read_slice_write_of_not_mem (v := m.view) r f w Finset.univ fun hm => h ?_
    obtain ⟨j, -, hj⟩ := Finset.mem_map.mp hm
    exact ⟨j, hj⟩

end Steps

end Hand

end

end
-- ==== Proof.Main.Runs.lean ====
/-
  What the pieces of the main kernel's body compute, as functions of the memory they find, and their triples: each piece run on
  memrefs of known contents leaves them at those functions' values.
-/
module

public import proofs.«01_k».proof.Proof.Main.Units
public import proofs.«01_k».proof.Proof.Shared.Mem
public import proofs.«01_k».proof.Proof.Gen.Main.Frame
public import Idealize.ShloMosaic.Lib.Pipeline.Value

@[expose] public section

set_option maxRecDepth 16384

noncomputable section

namespace Cert.Main.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open _root_.Hand
open Cert.Main Facts₀ Facts

variable {F : FTy → Type} [FloatOps F]

local notation "𝕄" => MT nD τ sig Unit (Elt F) ℕ (UR sig nD τ) ℕ

/-! ## The values -/

def scaledV (a : Vec F S512x512 .f32) (s : Vec F S1024x128 .f32) (c : Nat) (l : List (Nat × Nat)) : List (FVec F S8x128 .f32) :=
  l.map fun p => mulf (blk 8 128 1 a p.1 c) (blk 8 128 1 s p.2 0)

def rowsV (b : Vec F S288x128 .f32) (l : List Nat) : List (FVec F S8x128 .f32) := l.map fun o => blk 8 128 1 b o 0

def stridedV (b : Vec F S288x128 .f32) (l : List Nat) : List (FVec F S8x128 .f32) := l.map fun o => blk 8 128 9 b o 0

def putRows (val : Nat → FVec F S8x128 .f32) : List Nat → Nat → Vec F S288x128 .f32 → Vec F S288x128 .f32
  | [], _, b => b
  | o :: l, k, b => putRows val l (k + 1) (setBlk 8 128 b o 0 (val k))

def putStrided (val : Nat → FVec F S8x128 .f32) : List Nat → Nat → Vec F S288x128 .f32 → Vec F S288x128 .f32
  | [], _, b => b
  | o :: l, k, b => putStrided val l (k + 1) (setStr 8 128 9 b o (val k))

/-- The scratch of the rotation after its passes. -/
def passV (a : Vec F S512x512 .f32) (s : Vec F S1024x128 .f32) (l0 l1 : List (Nat × Nat)) (c : Nat) (b : Vec F S288x128 .f32) : Vec F S288x128 .f32 :=
  let b1 := putRows (butterfly (nth (scaledV a s c l0))) rows0 0 b
  let b2 := putRows (butterfly (nth (scaledV a s c l1))) rows1 0 b1
  let b3 := putStrided (butterfly (nth (stridedV b2 strided0))) strided0 0 b2
  putStrided (butterfly (nth (stridedV b3 strided1))) strided1 0 b3

def outV (v : Vec F S1x1x1024 .f32) (b : Vec F S288x128 .f32) (l : List Nat) (c d : Nat) (y : Vec F S512x1024 .bf16) : Vec F S512x1024 .bf16 :=
  setBlk 128 128 y c d (yTile (nth (rowsV b l)) (blk3 1 128 v 0 0 d))

/-- The output and the scratch after a rotation. -/
def rotationV (v : Vec F S1x1x1024 .f32) (a : Vec F S512x512 .f32) (s : Vec F S1024x128 .f32) (l0 l1 : List (Nat × Nat)) (c d d' : Nat)
    (p : Vec F S512x1024 .bf16 × Vec F S288x128 .f32) : Vec F S512x1024 .bf16 × Vec F S288x128 .f32 :=
  (outV v (passV a s l0 l1 c p.2) rows1 c d' (outV v (passV a s l0 l1 c p.2) rows0 c d p.1), passV a s l0 l1 c p.2)

def rotTokV (v : Vec F S1x1x1024 .f32) (a : Vec F S512x512 .f32) (s : Vec F S1024x128 .f32) (l0 l1 l2 l3 : List (Nat × Nat)) (c d0 d1 d2 d3 : Nat)
    (p : Vec F S512x1024 .bf16 × Vec F S288x128 .f32) : Vec F S512x1024 .bf16 × Vec F S288x128 .f32 :=
  rotationV v a s l2 l3 c d2 d3 (rotationV v a s l0 l1 c d0 d1 p)

def rotHalfV (v : Vec F S1x1x1024 .f32) (a : Vec F S512x512 .f32) (s : Vec F S1024x128 .f32) (l0 l1 l2 l3 : List (Nat × Nat)) (d0 d1 d2 d3 : Nat)
    (p : Vec F S512x1024 .bf16 × Vec F S288x128 .f32) : Vec F S512x1024 .bf16 × Vec F S288x128 .f32 :=
  rotTokV v a s l0 l1 l2 l3 384 d0 d1 d2 d3 (rotTokV v a s l0 l1 l2 l3 256 d0 d1 d2 d3
    (rotTokV v a s l0 l1 l2 l3 128 d0 d1 d2 d3 (rotTokV v a s l0 l1 l2 l3 0 d0 d1 d2 d3 p)))

def wordsV (b : Vec F S128x128 .i32) (l : List Nat) : List (FVec F S8x128 .f32) := l.map fun o => weights (blk 1 128 1 b o 0)

def tilesV (b : Vec F S128x128 .i32) : List (List Nat × (Fin 3 → Nat)) → Vec F S2x1024x4096 .bf16 → Vec F S2x1024x4096 .bf16
  | [], w => w
  | (r, o) :: l, w => tilesV b l (setBlk3 128 128 w (o 0) (o 1) (o 2) (wTile (nth (wordsV b r))))

/-- The transposed words of a sub-block. -/
def wordsAt (x : Vec F S1024x512 .i16) (oc : Fin 2 → Nat) : Vec F S128x128 .i32 := wordsT (F := F) (blk 128 128 1 x (oc 0) (oc 1))

def scalesV (x : Vec F S1x1x1024 .f32) : List Nat → Vec F S1024x128 .f32 → Vec F S1024x128 .f32
  | [], s => s
  | o :: l, s => scalesV x l (setBlk 128 128 s o 0 (rsTile (blk3 1 128 x 0 0 o)))

def productV (w : Vec F S2x1024x4096 .bf16) (x : Vec F S512x4096 .bf16) (o : Fin 3 → Nat) : Vec F S512x512 .f32 :=
  prod (blk3 512 4096 w (o 0) (o 1) (o 2)) x

theorem scaledV_nil (a : Vec F S512x512 .f32) (s : Vec F S1024x128 .f32) (c : Nat) : scaledV a s c [] = [] := rfl
theorem scaledV_cons (a : Vec F S512x512 .f32) (s : Vec F S1024x128 .f32) (c r r' : Nat) (l : List (Nat × Nat)) :
    scaledV a s c ((r, r') :: l) = mulf (blk 8 128 1 a r c) (blk 8 128 1 s r' 0) :: scaledV a s c l := rfl
theorem rowsV_nil (b : Vec F S288x128 .f32) : rowsV b [] = [] := rfl
theorem rowsV_cons (b : Vec F S288x128 .f32) (o : Nat) (l : List Nat) : rowsV b (o :: l) = blk 8 128 1 b o 0 :: rowsV b l := rfl
theorem stridedV_nil (b : Vec F S288x128 .f32) : stridedV b [] = [] := rfl
theorem stridedV_cons (b : Vec F S288x128 .f32) (o : Nat) (l : List Nat) : stridedV b (o :: l) = blk 8 128 9 b o 0 :: stridedV b l := rfl
theorem wordsV_nil (b : Vec F S128x128 .i32) : wordsV b [] = [] := rfl
theorem wordsV_cons (b : Vec F S128x128 .i32) (o : Nat) (l : List Nat) : wordsV b (o :: l) = weights (blk 1 128 1 b o 0) :: wordsV b l := rfl

/-! ## The triples -/

section Runs

variable (c : Dev nD) (E : Set ℕ)

/-- A program's weakest precondition on core `c`. -/
local notation "WP" => wp frame (wpE (defs₀ (F := F)) Variants.none c none) E

theorem blk_self {n k : Nat} [NeZero n] [NeZero k] {α : Type} (x : (⟨2, ![n, k]⟩ : Shape).Idx → α) : blk n k 1 x 0 0 = x := by
  funext i; show cell x (0 + 1 * _) (0 + _) = _; rw [Nat.zero_add, Nat.zero_add, Nat.one_mul, cell_val]

theorem setBlk_self {n k : Nat} [NeZero n] [NeZero k] {α : Type} (x w : (⟨2, ![n, k]⟩ : Shape).Idx → α) : setBlk n k x 0 0 w = w := by
  funext i
  unfold setBlk
  rw [if_pos ⟨Nat.zero_le _, by rw [Nat.zero_add]; exact ValueIdx.idx2_lt0 i, Nat.zero_le _, by rw [Nat.zero_add]; exact ValueIdx.idx2_lt1 i⟩]
  exact cell_val w i

theorem scaled_run {q q' : PosShare TreeShare} {a : Memref sig .tc .vmem S512x512 .f32} {b : Memref sig .tc .vmem S1024x128 .f32} {k : Nat} (hk : k + 128 ≤ 512)
    (x : Vec F S512x512 .f32) (y : Vec F S1024x128 .f32) : ∀ (l : List (Nat × Nat)) (h : ∀ p ∈ l, p.1 + 8 ≤ 512 ∧ p.2 + 8 ≤ 1024) (Q : List (FVec F S8x128 .f32) → sProp 𝕄),
    iprop(owns (c : Thread nD τ) a q x ∗ owns (c : Thread nD τ) b q' y)
      ⊢ iprop((iprop(owns (c : Thread nD τ) a q x ∗ owns (c : Thread nD τ) b q' y) -∗ Q (scaledV x y k l)) -∗ WP (scaled (F := F) a b k hk l h) Q)
  | [], h, Q => by
    unfold scaled
    rw [scaledV_nil]
    iintro H HK
    iapply (le_wp_ret _ _ _ _ _)
    iapply HK; iexact H
  | (r, s) :: l, h, Q => by
    unfold scaled
    rw [scaledV_cons]
    simp only [wp_bind]
    iintro ⟨HA, HB⟩ HK
    iapply (wp_load_owns _ _ _ _) $$ HA
    iintro HA
    iapply (wp_load_owns _ _ _ _) $$ HB
    iintro HB
    iapply (scaled_run hk x y l _ _) $$ [HA HB]
    · isplitl [HA] <;> iassumption
    iintro H
    iapply (le_wp_ret _ _ _ _ _)
    rw [load_at, load_at]
    iapply HK; iexact H

theorem loadRows_run {q : PosShare TreeShare} {b : Memref sig .tc .vmem S288x128 .f32} (x : Vec F S288x128 .f32) :
    ∀ (l : List Nat) (h : ∀ o ∈ l, o + 8 ≤ 288) (Q : List (FVec F S8x128 .f32) → sProp 𝕄),
    owns (c : Thread nD τ) b q x ⊢ iprop((owns (c : Thread nD τ) b q x -∗ Q (rowsV x l)) -∗ WP (loadRows (F := F) b l h) Q)
  | [], h, Q => by
    unfold loadRows
    rw [rowsV_nil]
    iintro H HK
    iapply (le_wp_ret _ _ _ _ _)
    iapply HK; iexact H
  | o :: l, h, Q => by
    unfold loadRows
    rw [rowsV_cons]
    simp only [wp_bind]
    iintro H HK
    iapply (wp_load_owns _ _ _ _) $$ H
    iintro H
    iapply (loadRows_run x l _ _) $$ H
    iintro H
    iapply (le_wp_ret _ _ _ _ _)
    rw [load_at]
    iapply HK; iexact H

theorem loadStrided_run {q : PosShare TreeShare} {b : Memref sig .tc .vmem S288x128 .f32} (x : Vec F S288x128 .f32) :
    ∀ (l : List Nat) (h : ∀ o ∈ l, o + 64 ≤ 288) (Q : List (FVec F S8x128 .f32) → sProp 𝕄),
    owns (c : Thread nD τ) b q x ⊢ iprop((owns (c : Thread nD τ) b q x -∗ Q (stridedV x l)) -∗ WP (loadStrided (F := F) b l h) Q)
  | [], h, Q => by
    unfold loadStrided
    rw [stridedV_nil]
    iintro H HK
    iapply (le_wp_ret _ _ _ _ _)
    iapply HK; iexact H
  | o :: l, h, Q => by
    unfold loadStrided
    rw [stridedV_cons]
    simp only [wp_bind]
    iintro H HK
    iapply (wp_load_owns _ _ _ _) $$ H
    iintro H
    iapply (loadStrided_run x l _ _) $$ H
    iintro H
    iapply (le_wp_ret _ _ _ _ _)
    rw [load_strided]
    iapply HK; iexact H

theorem storeRows_run {b : Memref sig .tc .vmem S288x128 .f32} (val : Nat → FVec F S8x128 .f32) :
    ∀ (l : List Nat) (h : ∀ o ∈ l, o + 8 ≤ 288) (k : Nat) (x : Vec F S288x128 .f32) (Q : PUnit → sProp 𝕄),
    owns (c : Thread nD τ) b fullShare x ⊢ iprop((owns (c : Thread nD τ) b fullShare (putRows val l k x) -∗ Q ⟨⟩) -∗ WP (storeRows (F := F) b val l h k) Q)
  | [], h, k, x, Q => by
    unfold storeRows
    iintro H HK
    iapply (le_wp_ret _ _ _ _ _)
    iapply HK; iexact H
  | o :: l, h, k, x, Q => by
    unfold storeRows
    simp only [wp_bind]
    iintro H HK
    iapply (wp_load_owns _ _ _ _) $$ H
    iintro H
    iapply (wp_store_owns _ _ _ _) $$ H
    iintro H
    rw [put_at, shapeCast_self]
    iapply (storeRows_run val l _ (k + 1) _ _) $$ H
    iexact HK

theorem storeStrided_run {b : Memref sig .tc .vmem S288x128 .f32} (val : Nat → FVec F S8x128 .f32) :
    ∀ (l : List Nat) (h : ∀ o ∈ l, o + 64 ≤ 288) (k : Nat) (x : Vec F S288x128 .f32) (Q : PUnit → sProp 𝕄),
    owns (c : Thread nD τ) b fullShare x ⊢ iprop((owns (c : Thread nD τ) b fullShare (putStrided val l k x) -∗ Q ⟨⟩) -∗ WP (storeStrided (F := F) b val l h k) Q)
  | [], h, k, x, Q => by
    unfold storeStrided
    iintro H HK
    iapply (le_wp_ret _ _ _ _ _)
    iapply HK; iexact H
  | o :: l, h, k, x, Q => by
    unfold storeStrided
    simp only [wp_bind]
    iintro H HK
    iapply (wp_load_owns _ _ _ _) $$ H
    iintro H
    iapply (wp_store_owns _ _ _ _) $$ H
    iintro H
    rw [put_strided_eq, shapeCast_self]
    iapply (storeStrided_run val l _ (k + 1) _ _) $$ H
    iexact HK

theorem outTile_run {qv qb : PosShare TreeShare} {v : Memref sig .tc .vmem S1x1x1024 .f32} {y : Memref sig .tc .vmem S512x1024 .bf16} {hy : y.IsWhole} {b : Memref sig .tc .vmem S288x128 .f32}
    {l : List Nat} {hl : ∀ o ∈ l, o + 8 ≤ 288} {k d : Nat} {hc : k + 128 ≤ 512} {hc' : k % 128 = 0} {hd : d + 128 ≤ 1024}
    (xv : Vec F S1x1x1024 .f32) (xy : Vec F S512x1024 .bf16) (xb : Vec F S288x128 .f32) (Q : PUnit → sProp 𝕄) :
    iprop(owns (c : Thread nD τ) v qv xv ∗ owns (c : Thread nD τ) y fullShare xy ∗ owns (c : Thread nD τ) b qb xb)
      ⊢ iprop((iprop(owns (c : Thread nD τ) v qv xv ∗ owns (c : Thread nD τ) y fullShare (outV xv xb l k d xy) ∗ owns (c : Thread nD τ) b qb xb) -∗ Q ⟨⟩)
        -∗ WP (outTile (F := F) v y hy b l hl k d hc hc' hd) Q) := by
  unfold outTile
  simp only [wp_bind]
  iintro ⟨HV, HY, HB⟩ HK
  iapply (loadRows_run c E xb l _ _) $$ HB
  iintro HB
  iapply (wp_load_owns _ _ _ _) $$ HV
  iintro HV
  iapply (wp_load_owns _ _ _ _) $$ HY
  iintro HY
  iapply (wp_store_owns _ _ _ _) $$ HY
  iintro HY
  rw [put_at, load_unit3]
  iapply HK
  isplitl [HV]; · iexact HV
  isplitl [HY]; · iexact HY
  iexact HB

theorem rotation_run {qv qs qa : PosShare TreeShare} {v : Memref sig .tc .vmem S1x1x1024 .f32} {y : Memref sig .tc .vmem S512x1024 .bf16} {hy : y.IsWhole}
    {b : Memref sig .tc .vmem S288x128 .f32} {s : Memref sig .tc .vmem S1024x128 .f32} {a : Memref sig .tc .vmem S512x512 .f32}
    {l0 l1 : List (Nat × Nat)} {h0 : ∀ p ∈ l0, p.1 + 8 ≤ 512 ∧ p.2 + 8 ≤ 1024} {h1 : ∀ p ∈ l1, p.1 + 8 ≤ 512 ∧ p.2 + 8 ≤ 1024}
    {k d d' : Nat} {hc : k + 128 ≤ 512} {hc' : k % 128 = 0} {hd : d + 128 ≤ 1024} {hd' : d' + 128 ≤ 1024}
    (xv : Vec F S1x1x1024 .f32) (xy : Vec F S512x1024 .bf16) (xb : Vec F S288x128 .f32) (xs : Vec F S1024x128 .f32) (xa : Vec F S512x512 .f32) (Q : PUnit → sProp 𝕄) :
    iprop(owns (c : Thread nD τ) v qv xv ∗ owns (c : Thread nD τ) y fullShare xy ∗ owns (c : Thread nD τ) b fullShare xb
        ∗ owns (c : Thread nD τ) s qs xs ∗ owns (c : Thread nD τ) a qa xa)
      ⊢ iprop((iprop(owns (c : Thread nD τ) v qv xv ∗ owns (c : Thread nD τ) y fullShare (rotationV xv xa xs l0 l1 k d d' (xy, xb)).1
            ∗ owns (c : Thread nD τ) b fullShare (rotationV xv xa xs l0 l1 k d d' (xy, xb)).2
            ∗ owns (c : Thread nD τ) s qs xs ∗ owns (c : Thread nD τ) a qa xa) -∗ Q ⟨⟩)
        -∗ WP (rotation (F := F) v y hy b s a l0 l1 h0 h1 k d d' hc hc' hd hd') Q) := by
  unfold rotation
  simp only [wp_bind]
  iintro ⟨HV, HY, HB, HS, HA⟩ HK
  iapply (scaled_run c E _ xa xs l0 _ _) $$ [HA HS]
  · isplitl [HA] <;> iassumption
  iintro ⟨HA, HS⟩
  iapply (storeRows_run c E _ rows0 _ 0 xb _) $$ HB
  iintro HB
  iapply (scaled_run c E _ xa xs l1 _ _) $$ [HA HS]
  · isplitl [HA] <;> iassumption
  iintro ⟨HA, HS⟩
  iapply (storeRows_run c E _ rows1 _ 0 _ _) $$ HB
  iintro HB
  iapply (loadStrided_run c E _ strided0 _ _) $$ HB
  iintro HB
  iapply (storeStrided_run c E _ strided0 _ 0 _ _) $$ HB
  iintro HB
  iapply (loadStrided_run c E _ strided1 _ _) $$ HB
  iintro HB
  iapply (storeStrided_run c E _ strided1 _ 0 _ _) $$ HB
  iintro HB
  iapply (outTile_run c E xv xy _ _) $$ [HV HY HB]
  · isplitl [HV]; · iexact HV
    isplitl [HY]; · iexact HY
    iexact HB
  iintro ⟨HV, HY, HB⟩
  iapply (outTile_run c E xv _ _ _) $$ [HV HY HB]
  · isplitl [HV]; · iexact HV
    isplitl [HY]; · iexact HY
    iexact HB
  iintro ⟨HV, HY, HB⟩
  iapply HK
  isplitl [HV]; · iexact HV
  isplitl [HY]; · iexact HY
  isplitl [HB]; · iexact HB
  isplitl [HS]; · iexact HS
  iexact HA

theorem rotTok_run {qv qs qa : PosShare TreeShare} {v : Memref sig .tc .vmem S1x1x1024 .f32} {y : Memref sig .tc .vmem S512x1024 .bf16} {hy : y.IsWhole}
    {b : Memref sig .tc .vmem S288x128 .f32} {s : Memref sig .tc .vmem S1024x128 .f32} {a : Memref sig .tc .vmem S512x512 .f32}
    {l0 l1 l2 l3 : List (Nat × Nat)} {h : ∀ l ∈ [l0, l1, l2, l3], ∀ p ∈ l, p.1 + 8 ≤ 512 ∧ p.2 + 8 ≤ 1024}
    {k d0 d1 d2 d3 : Nat} {hc : k + 128 ≤ 512} {hc' : k % 128 = 0} {hd : ∀ d ∈ [d0, d1, d2, d3], d + 128 ≤ 1024}
    (xv : Vec F S1x1x1024 .f32) (p : Vec F S512x1024 .bf16 × Vec F S288x128 .f32) (xs : Vec F S1024x128 .f32) (xa : Vec F S512x512 .f32) (Q : PUnit → sProp 𝕄) :
    iprop(owns (c : Thread nD τ) v qv xv ∗ owns (c : Thread nD τ) y fullShare p.1 ∗ owns (c : Thread nD τ) b fullShare p.2
        ∗ owns (c : Thread nD τ) s qs xs ∗ owns (c : Thread nD τ) a qa xa)
      ⊢ iprop((iprop(owns (c : Thread nD τ) v qv xv ∗ owns (c : Thread nD τ) y fullShare (rotTokV xv xa xs l0 l1 l2 l3 k d0 d1 d2 d3 p).1
            ∗ owns (c : Thread nD τ) b fullShare (rotTokV xv xa xs l0 l1 l2 l3 k d0 d1 d2 d3 p).2
            ∗ owns (c : Thread nD τ) s qs xs ∗ owns (c : Thread nD τ) a qa xa) -∗ Q ⟨⟩)
        -∗ WP (rotTok (F := F) v y hy b s a l0 l1 l2 l3 h k d0 d1 d2 d3 hc hc' hd) Q) := by
  obtain ⟨xy, xb⟩ := p
  unfold rotTok
  simp only [wp_bind]
  iintro H HK
  iapply (rotation_run c E xv xy xb xs xa _) $$ H
  iintro H
  iapply (rotation_run c E xv _ _ xs xa _) $$ H
  iexact HK

theorem rotHalf_run {qv qs qa : PosShare TreeShare} {v : Memref sig .tc .vmem S1x1x1024 .f32} {y : Memref sig .tc .vmem S512x1024 .bf16} {hy : y.IsWhole}
    {b : Memref sig .tc .vmem S288x128 .f32} {s : Memref sig .tc .vmem S1024x128 .f32} {a : Memref sig .tc .vmem S512x512 .f32}
    {l0 l1 l2 l3 : List (Nat × Nat)} {h : ∀ l ∈ [l0, l1, l2, l3], ∀ p ∈ l, p.1 + 8 ≤ 512 ∧ p.2 + 8 ≤ 1024}
    {d0 d1 d2 d3 : Nat} {hd : ∀ d ∈ [d0, d1, d2, d3], d + 128 ≤ 1024}
    (xv : Vec F S1x1x1024 .f32) (p : Vec F S512x1024 .bf16 × Vec F S288x128 .f32) (xs : Vec F S1024x128 .f32) (xa : Vec F S512x512 .f32) (Q : PUnit → sProp 𝕄) :
    iprop(owns (c : Thread nD τ) v qv xv ∗ owns (c : Thread nD τ) y fullShare p.1 ∗ owns (c : Thread nD τ) b fullShare p.2
        ∗ owns (c : Thread nD τ) s qs xs ∗ owns (c : Thread nD τ) a qa xa)
      ⊢ iprop((iprop(owns (c : Thread nD τ) v qv xv ∗ owns (c : Thread nD τ) y fullShare (rotHalfV xv xa xs l0 l1 l2 l3 d0 d1 d2 d3 p).1
            ∗ owns (c : Thread nD τ) b fullShare (rotHalfV xv xa xs l0 l1 l2 l3 d0 d1 d2 d3 p).2
            ∗ owns (c : Thread nD τ) s qs xs ∗ owns (c : Thread nD τ) a qa xa) -∗ Q ⟨⟩)
        -∗ WP (rotHalf (F := F) v y hy b s a l0 l1 l2 l3 h d0 d1 d2 d3 hd) Q) := by
  unfold rotHalf
  simp only [wp_bind]
  iintro H HK
  iapply (rotTok_run c E xv p xs xa _) $$ H
  iintro H
  iapply (rotTok_run c E xv _ xs xa _) $$ H
  iintro H
  iapply (rotTok_run c E xv _ xs xa _) $$ H
  iintro H
  iapply (rotTok_run c E xv _ xs xa _) $$ H
  iexact HK

theorem loadWords_run {q : PosShare TreeShare} {b : Memref sig .tc .vmem S128x128 .i32} (x : Vec F S128x128 .i32) :
    ∀ (l : List Nat) (h : ∀ o ∈ l, o + 1 ≤ 128) (Q : List (FVec F S8x128 .f32) → sProp 𝕄),
    owns (c : Thread nD τ) b q x ⊢ iprop((owns (c : Thread nD τ) b q x -∗ Q (wordsV x l)) -∗ WP (loadWords (F := F) b l h) Q)
  | [], h, Q => by
    unfold loadWords
    rw [wordsV_nil]
    iintro H HK
    iapply (le_wp_ret _ _ _ _ _)
    iapply HK; iexact H
  | o :: l, h, Q => by
    unfold loadWords
    rw [wordsV_cons]
    simp only [wp_bind]
    iintro H HK
    iapply (wp_load_owns _ _ _ _) $$ H
    iintro H
    iapply (loadWords_run x l _ _) $$ H
    iintro H
    iapply (le_wp_ret _ _ _ _ _)
    rw [load_at]
    iapply HK; iexact H

theorem tiles_run {b : Memref sig .tc .vmem S128x128 .i32} {w : Memref sig .tc .vmem S2x1024x4096 .bf16} {hw : w.IsWhole} (x : Vec F S128x128 .i32) :
    ∀ (l : List (List Nat × (Fin 3 → Nat))) (h : ∀ p ∈ l, (∀ o ∈ p.1, o + 1 ≤ 128) ∧ Fits p.2) (xw : Vec F S2x1024x4096 .bf16) (Q : PUnit → sProp 𝕄),
    iprop(owns (c : Thread nD τ) b fullShare x ∗ owns (c : Thread nD τ) w fullShare xw)
      ⊢ iprop((iprop(owns (c : Thread nD τ) b fullShare x ∗ owns (c : Thread nD τ) w fullShare (tilesV x l xw)) -∗ Q ⟨⟩) -∗ WP (tiles (F := F) b w hw l h) Q)
  | [], h, xw, Q => by
    unfold tiles
    iintro H HK
    iapply (le_wp_ret _ _ _ _ _)
    iapply HK; iexact H
  | (r, o) :: l, h, xw, Q => by
    unfold tiles
    simp only [wp_bind]
    iintro ⟨HB, HW⟩ HK
    iapply (loadWords_run c E x r _ _) $$ HB
    iintro HB
    iapply (wp_load_owns _ _ _ _) $$ HW
    iintro HW
    iapply (wp_store_owns _ _ _ _) $$ HW
    iintro HW
    rw [put_unit3_eq]
    iapply (tiles_run x l _ _ _) $$ [HB HW]
    · isplitl [HB] <;> iassumption
    iexact HK

theorem decode_run {q : PosShare TreeShare} {x : Memref sig .tc .vmem S1024x512 .i16} {b : Memref sig .tc .vmem S128x128 .i32} {w : Memref sig .tc .vmem S2x1024x4096 .bf16} {hw : w.IsWhole}
    {oc : Fin 2 → Nat} {hoc : ∀ a, oc a + S128x128.size a ≤ S1024x512.size a} {o0 o1 o2 o3 o4 o5 o6 o7 : Fin 3 → Nat}
    {h : ∀ p ∈ runs o0 o1 o2 o3 o4 o5 o6 o7, (∀ o ∈ p.1, o + 1 ≤ 128) ∧ Fits p.2}
    (xx : Vec F S1024x512 .i16) (xb : Vec F S128x128 .i32) (xw : Vec F S2x1024x4096 .bf16) (Q : PUnit → sProp 𝕄) :
    iprop(owns (c : Thread nD τ) x q xx ∗ owns (c : Thread nD τ) b fullShare xb ∗ owns (c : Thread nD τ) w fullShare xw)
      ⊢ iprop((iprop(owns (c : Thread nD τ) x q xx ∗ owns (c : Thread nD τ) b fullShare (wordsAt xx oc)
            ∗ owns (c : Thread nD τ) w fullShare (tilesV (wordsAt xx oc) (runs o0 o1 o2 o3 o4 o5 o6 o7) xw)) -∗ Q ⟨⟩)
        -∗ WP (decode (F := F) x b w hw oc hoc o0 o1 o2 o3 o4 o5 o6 o7 h) Q) := by
  unfold decode
  simp only [wp_bind]
  iintro ⟨HX, HB, HW⟩ HK
  iapply (wp_load_owns _ _ _ _) $$ HX
  iintro HX
  iapply (wp_load_owns _ _ _ _) $$ HB
  iintro HB
  iapply (wp_store_owns _ _ _ _) $$ HB
  iintro HB
  rw [put_at, load_unit, shapeCast_self, setBlk_self]
  iapply (tiles_run c E _ (runs o0 o1 o2 o3 o4 o5 o6 o7) _ xw _) $$ [HB HW]
  · isplitl [HB]
    · iexact HB
    iexact HW
  iintro ⟨HB, HW⟩
  iapply HK
  isplitl [HX]; · iexact HX
  isplitl [HB]; · iexact HB
  iexact HW

theorem scales_run {q : PosShare TreeShare} {x : Memref sig .tc .vmem S1x1x1024 .f32} {s : Memref sig .tc .vmem S1024x128 .f32} (xx : Vec F S1x1x1024 .f32) :
    ∀ (l : List Nat) (h : ∀ o ∈ l, o + 128 ≤ 1024) (xs : Vec F S1024x128 .f32) (Q : PUnit → sProp 𝕄),
    iprop(owns (c : Thread nD τ) x q xx ∗ owns (c : Thread nD τ) s fullShare xs)
      ⊢ iprop((iprop(owns (c : Thread nD τ) x q xx ∗ owns (c : Thread nD τ) s fullShare (scalesV xx l xs)) -∗ Q ⟨⟩) -∗ WP (scales (F := F) x s l h) Q)
  | [], h, xs, Q => by
    unfold scales
    iintro H HK
    iapply (le_wp_ret _ _ _ _ _)
    iapply HK; iexact H
  | o :: l, h, xs, Q => by
    unfold scales
    simp only [wp_bind]
    iintro ⟨HX, HS⟩ HK
    iapply (wp_load_owns _ _ _ _) $$ HX
    iintro HX
    iapply (wp_load_owns _ _ _ _) $$ HS
    iintro HS
    iapply (wp_store_owns _ _ _ _) $$ HS
    iintro HS
    rw [put_at, load_unit3]
    iapply (scales_run xx l _ _ _) $$ [HX HS]
    · isplitl [HX]
      · iexact HX
      iexact HS
    iexact HK

theorem product_run {qw qx : PosShare TreeShare} {w : Memref sig .tc .vmem S2x1024x4096 .bf16} {x : Memref sig .tc .vmem S512x4096 .bf16} {a : Memref sig .tc .vmem S512x512 .f32}
    {o : Fin 3 → Nat} {ho : ∀ x, o x + S1x512x4096.size x ≤ S2x1024x4096.size x}
    (xw : Vec F S2x1024x4096 .bf16) (xx : Vec F S512x4096 .bf16) (xa : Vec F S512x512 .f32) (Q : PUnit → sProp 𝕄) :
    iprop(owns (c : Thread nD τ) w qw xw ∗ owns (c : Thread nD τ) x qx xx ∗ owns (c : Thread nD τ) a fullShare xa)
      ⊢ iprop((iprop(owns (c : Thread nD τ) w qw xw ∗ owns (c : Thread nD τ) x qx xx ∗ owns (c : Thread nD τ) a fullShare (productV xw xx o)) -∗ Q ⟨⟩)
        -∗ WP (product (F := F) w x a o ho) Q) := by
  unfold product
  simp only [wp_bind]
  iintro ⟨HW, HX, HA⟩ HK
  iapply (wp_load_owns _ _ _ _) $$ HW
  iintro HW
  iapply (wp_load_owns _ _ _ _) $$ HX
  iintro HX
  iapply (wp_load_owns _ _ _ _) $$ HA
  iintro HA
  iapply (wp_store_owns _ _ _ _) $$ HA
  iintro HA
  rw [put_at, load_unit3, load_at, setBlk_self, blk_self]
  iapply HK
  isplitl [HW]; · iexact HW
  isplitl [HX]; · iexact HX
  iexact HA

end Runs

end Cert.Main.Hand

end
-- ==== Proof.Main.Eq.lean ====
/-
  The printed body of the main kernel is the body written with functions.
-/
module

public import proofs.«01_k».proof.Proof.Main.Units

@[expose] public section

open scoped Idealize.ShloMosaic.ProgEq Idealize.ShloMosaic.Chain
open Idealize.ShloMosaic Idealize.SL.Sem

set_option maxRecDepth 65536
set_option maxHeartbeats 0

noncomputable section

namespace Cert.Main.Hand

/-- The printed body, at any float type. -/
def printed (_ _ : Unit) {F : FTy → Type} [FloatOps F] [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) : Prog (TpuEff nD τ sig (Elt F) Λ₀ .tc) PUnit :=
  Cert.Main.cc0_trellis_matmul i arg2 harg2 arg3 harg3 arg4 harg4 arg5 harg5 arg6 harg6 arg7 harg7 arg8 harg8 arg9 harg9 arg10 harg10 arg11 harg11 arg12 harg12

/-- The body written with functions, at any float type. -/
def written (_ _ : Unit) {F : FTy → Type} [FloatOps F] [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) : Prog (TpuEff nD τ sig (Elt F) Λ₀ .tc) PUnit :=
  Cert.Main.Hand.cc0_trellis_matmul i arg2 harg2 arg3 harg3 arg4 harg4 arg5 harg5 arg6 harg6 arg7 harg7 arg8 harg8 arg9 harg9 arg10 harg10 arg11 harg11 arg12 harg12

prog_eq Cert.Main.Hand.printed_eq : Cert.Main.Hand.printed Cert.Main.Hand.written from Cert.Main.Hand.A to Cert.Main.Hand.A at () () by intros; rfl

theorem body_eq {F : FTy → Type} [FloatOps F] [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) :
    Cert.Main.cc0_trellis_matmul (F := F) i arg2 harg2 arg3 harg3 arg4 harg4 arg5 harg5 arg6 harg6 arg7 harg7 arg8 harg8 arg9 harg9 arg10 harg10 arg11 harg11 arg12 harg12 = Cert.Main.Hand.cc0_trellis_matmul i arg2 harg2 arg3 harg3 arg4 harg4 arg5 harg5 arg6 harg6 arg7 harg7 arg8 harg8 arg9 harg9 arg10 harg10 arg11 harg11 arg12 harg12 :=
  printed_eq i arg2 harg2 arg3 harg3 arg4 harg4 arg5 harg5 arg6 harg6 arg7 harg7 arg8 harg8 arg9 harg9 arg10 harg10 arg11 harg11 arg12 harg12

end Cert.Main.Hand

end

end
-- ==== Proof.Main.Body.lean ====
/-
  The triple of the main kernel's body: what it leaves in its output block, its weights and its scales, as functions of what it finds.
-/
module

public import proofs.«01_k».proof.Proof.Main.Runs
public import proofs.«01_k».proof.Proof.Main.Eq

@[expose] public section

set_option maxRecDepth 16384

noncomputable section

namespace Cert.Main.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open _root_.Hand
open Cert.Main Facts₀ Facts

variable {F : FTy → Type} [FloatOps F]

local notation "𝕄" => MT nD τ sig Unit (Elt F) ℕ (UR sig nD τ) ℕ

/-- The weights after one trip of the loop that decodes the first block. -/
def tripV (x : Vec F S1024x512 .i16) (t : Fin k0_t1_loop.trips) (w : Vec F S2x1024x4096 .bf16) : Vec F S2x1024x4096 .bf16 :=
  tilesV (wordsAt x (k0_off1 t)) (runs (k0_off2 t 0#32) (k0_off2 t 1#32) (k0_off2 t 2#32) (k0_off2 t 3#32) (k0_off2 t 4#32) (k0_off2 t 5#32) (k0_off2 t 6#32) (k0_off2 t 7#32)) w

/-- The weights after `k` trips of it. -/
def loopV (x : Vec F S1024x512 .i16) (w : Vec F S2x1024x4096 .bf16) : Nat → Vec F S2x1024x4096 .bf16
  | 0 => w
  | k + 1 => if h : k < k0_t1_loop.trips then tripV x ⟨k, h⟩ (loopV x w k) else loopV x w k

/-- The weights that the products are taken of. -/
def firstV (i : grid0.Coords) (x : Vec F S1024x512 .i16) (w : Vec F S2x1024x4096 .bf16) : Vec F S2x1024x4096 .bf16 :=
  if k0_cond1 i = 1#1 then loopV x w k0_t1_loop.trips else w

/-- The scales that the products are multiplied by. -/
def freshV (i : grid0.Coords) (x : Vec F S1x1x1024 .f32) (s : Vec F S1024x128 .f32) : Vec F S1024x128 .f32 :=
  if Scalar.cmpi .ne (Scalar.extui (Scalar.cmpi .eq (BitVec.ofNat 32 (i 1).val) 0#32) : BitVec 32) 0#32 = 1#1 then scalesV x [0, 128, 256, 384, 512, 640, 768, 896] s else s

/-- The weights after the three sub-blocks that each point decodes. -/
def nextV (i : grid0.Coords) (x : Vec F S1024x512 .i16) (w : Vec F S2x1024x4096 .bf16) : Vec F S2x1024x4096 .bf16 :=
  tilesV (wordsAt x (k0_off5 i 2#32)) (runs (k0_off6 i 2#32 0#32) (k0_off6 i 2#32 1#32) (k0_off6 i 2#32 2#32) (k0_off6 i 2#32 3#32) (k0_off6 i 2#32 4#32) (k0_off6 i 2#32 5#32) (k0_off6 i 2#32 6#32) (k0_off6 i 2#32 7#32)) (tilesV (wordsAt x (k0_off5 i 1#32)) (runs (k0_off6 i 1#32 0#32) (k0_off6 i 1#32 1#32) (k0_off6 i 1#32 2#32) (k0_off6 i 1#32 3#32) (k0_off6 i 1#32 4#32) (k0_off6 i 1#32 5#32) (k0_off6 i 1#32 6#32) (k0_off6 i 1#32 7#32)) (tilesV (wordsAt x (k0_off5 i 0#32)) (runs (k0_off6 i 0#32 0#32) (k0_off6 i 0#32 1#32) (k0_off6 i 0#32 2#32) (k0_off6 i 0#32 3#32) (k0_off6 i 0#32 4#32) (k0_off6 i 0#32 5#32) (k0_off6 i 0#32 6#32) (k0_off6 i 0#32 7#32)) w))

/-- The output block (and the rotation's scratch) of weights `w`, scales `s`, output scales `v` and tokens `x`. -/
def outsV (i : grid0.Coords) (w : Vec F S2x1024x4096 .bf16) (x : Vec F S512x4096 .bf16) (s : Vec F S1024x128 .f32) (v : Vec F S1x1x1024 .f32)
    (p : Vec F S512x1024 .bf16 × Vec F S288x128 .f32) : Vec F S512x1024 .bf16 × Vec F S288x128 .f32 :=
  rotHalfV v (productV w x (k0_off4 i)) s L10 L11 L12 L13 512 640 768 896 (rotHalfV v (productV w x (k0_off3 i)) s L00 L01 L02 L03 0 128 256 384 p)

section Runs

variable (c : Dev nD) (E : Set ℕ)

local notation "WP" => wp frame (wpE (defs₀ (F := F)) Variants.none c none) E

theorem first_run [Facts] {q : PosShare TreeShare} {i : grid0.Coords} {x : Memref sig .tc .vmem S1024x512 .i16} {b : Memref sig .tc .vmem S128x128 .i32} {w : Memref sig .tc .vmem S2x1024x4096 .bf16} {hw : w.IsWhole}
    (xx : Vec F S1024x512 .i16) (xb : Vec F S128x128 .i32) (xw : Vec F S2x1024x4096 .bf16) (Q : PUnit → sProp 𝕄) :
    iprop(owns (c : Thread nD τ) x q xx ∗ owns (c : Thread nD τ) b fullShare xb ∗ owns (c : Thread nD τ) w fullShare xw)
      ⊢ iprop((iprop(owns (c : Thread nD τ) x q xx ∗ (∃ d, owns (c : Thread nD τ) b fullShare d)
            ∗ owns (c : Thread nD τ) w fullShare (firstV i xx xw)) -∗ Q ⟨⟩)
        -∗ WP (first (F := F) i x b w hw) Q) := by
  unfold first firstV
  by_cases h : k0_cond1 i = 1#1
  · rw [dif_pos h, if_pos h, Scf.Loop.for]
    iintro ⟨HX, HB, HW⟩ HK
    iapply (Scf.wp_for_bind frame (wpE (defs₀ (F := F)) Variants.none c none) E k0_t1_loop.lb k0_t1_loop.ub k0_t1_loop.st (k0_t1_ok i h) ()
      _ (fun k _ => iprop(owns (c : Thread nD τ) x q xx ∗ (∃ d, owns (c : Thread nD τ) b fullShare d) ∗ owns (c : Thread nD τ) w fullShare (loopV xx xw k))) ?_) $$ [HX HB HW]
    · intro t acc
      simp only [wp_bind]
      iintro ⟨HX, ⟨%d, HB⟩, HW⟩
      iapply (decode_run c E xx d _ _) $$ [HX HB HW]
      · isplitl [HX]; · iexact HX
        isplitl [HB]; · iexact HB
        iexact HW
      iintro ⟨HX, HB, HW⟩
      iapply (le_wp_ret _ _ _ _ _)
      isplitl [HX]; · iexact HX
      isplitl [HB]; · iexists _; iexact HB
      rw [loopV, dif_pos t.isLt]
      iexact HW
    · isplitl [HX]; · iexact HX
      isplitl [HB]; · iexists _; iexact HB
      iexact HW
    iintro %acc H
    iapply (le_wp_ret _ _ _ _ _)
    iapply HK
    iexact H
  · rw [dif_neg h, if_neg h]
    iintro ⟨HX, HB, HW⟩ HK
    iapply (le_wp_ret _ _ _ _ _)
    iapply HK
    isplitl [HX]; · iexact HX
    isplitl [HB]; · iexists _; iexact HB
    iexact HW

theorem fresh_run {q : PosShare TreeShare} {i : grid0.Coords} {x : Memref sig .tc .vmem S1x1x1024 .f32} {s : Memref sig .tc .vmem S1024x128 .f32} (xx : Vec F S1x1x1024 .f32)
    (xs : Vec F S1024x128 .f32) (Q : PUnit → sProp 𝕄) :
    iprop(owns (c : Thread nD τ) x q xx ∗ owns (c : Thread nD τ) s fullShare xs)
      ⊢ iprop((iprop(owns (c : Thread nD τ) x q xx ∗ owns (c : Thread nD τ) s fullShare (freshV i xx xs)) -∗ Q ⟨⟩) -∗ WP (fresh (F := F) i x s) Q) := by
  unfold fresh freshV
  by_cases h : Scalar.cmpi .ne (Scalar.extui (Scalar.cmpi .eq (BitVec.ofNat 32 (i 1).val) 0#32) : BitVec 32) 0#32 = 1#1
  · rw [dif_pos h, if_pos h]
    exact scales_run c E xx _ _ xs Q
  · rw [dif_neg h, if_neg h]
    iintro H HK
    iapply (le_wp_ret _ _ _ _ _)
    iapply HK
    iexact H

set_option maxHeartbeats 1000000 in
theorem body_run [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole)
    (x2 x3 : Vec F S1024x512 .i16) (x4 x5 : Vec F S1x1x1024 .f32) (x6 : Vec F S512x4096 .bf16) (y : Vec F S512x1024 .bf16) (w : Vec F S2x1024x4096 .bf16) (vt : Vec F S128x128 .i32)
    (bf : Vec F S288x128 .f32) (rs : Vec F S1024x128 .f32) (acc : Vec F S512x512 .f32) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare y ∗ owns (c : Thread nD τ) arg8 fullShare w ∗ owns (c : Thread nD τ) arg9 fullShare vt
        ∗ owns (c : Thread nD τ) arg10 fullShare bf ∗ owns (c : Thread nD τ) arg11 fullShare rs ∗ owns (c : Thread nD τ) arg12 fullShare acc)
      ⊢ iprop((iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare x6
            ∗ owns (c : Thread nD τ) arg7 fullShare (outsV i (firstV i x2 w) x6 (freshV i x4 rs) x5 (y, bf)).1
            ∗ owns (c : Thread nD τ) arg8 fullShare (nextV i x3 (firstV i x2 w)) ∗ (∃ d, owns (c : Thread nD τ) arg9 fullShare d)
            ∗ (∃ d, owns (c : Thread nD τ) arg10 fullShare d) ∗ owns (c : Thread nD τ) arg11 fullShare (freshV i x4 rs) ∗ (∃ d, owns (c : Thread nD τ) arg12 fullShare d)) -∗ Q ⟨⟩)
        -∗ WP (Cert.Main.cc0_trellis_matmul (F := F) i arg2 harg2 arg3 harg3 arg4 harg4 arg5 harg5 arg6 harg6 arg7 harg7 arg8 harg8 arg9 harg9 arg10 harg10 arg11 harg11 arg12 harg12) Q) := by
  rw [body_eq]
  unfold Hand.cc0_trellis_matmul
  simp only [wp_bind]
  iintro ⟨H2, H3, H4, H5, H6, H7, H8, H9, H10, H11, H12⟩ HK
  iapply (first_run c E x2 vt w _) $$ [H2 H9 H8]
  · isplitl [H2]; · iexact H2
    isplitl [H9]; · iexact H9
    iexact H8
  iintro ⟨H2, ⟨%vt', H9⟩, H8⟩
  iapply (fresh_run c E x4 rs _) $$ [H4 H11]
  · isplitl [H4]; · iexact H4
    iexact H11
  iintro ⟨H4, H11⟩
  iapply (product_run c E _ x6 acc _) $$ [H8 H6 H12]
  · isplitl [H8]; · iexact H8
    isplitl [H6]; · iexact H6
    iexact H12
  iintro ⟨H8, H6, H12⟩
  iapply (rotHalf_run c E x5 (y, bf) _ _ _) $$ [H5 H7 H10 H11 H12]
  · isplitl [H5]; · iexact H5
    isplitl [H7]; · iexact H7
    isplitl [H10]; · iexact H10
    isplitl [H11]; · iexact H11
    iexact H12
  iintro ⟨H5, H7, H10, H11, H12⟩
  iapply (product_run c E _ x6 _ _) $$ [H8 H6 H12]
  · isplitl [H8]; · iexact H8
    isplitl [H6]; · iexact H6
    iexact H12
  iintro ⟨H8, H6, H12⟩
  iapply (rotHalf_run c E x5 _ _ _ _) $$ [H5 H7 H10 H11 H12]
  · isplitl [H5]; · iexact H5
    isplitl [H7]; · iexact H7
    isplitl [H10]; · iexact H10
    isplitl [H11]; · iexact H11
    iexact H12
  iintro ⟨H5, H7, H10, H11, H12⟩
  iapply (decode_run c E x3 vt' _ _) $$ [H3 H9 H8]
  · isplitl [H3]; · iexact H3
    isplitl [H9]; · iexact H9
    iexact H8
  iintro ⟨H3, H9, H8⟩
  iapply (decode_run c E x3 _ _ _) $$ [H3 H9 H8]
  · isplitl [H3]; · iexact H3
    isplitl [H9]; · iexact H9
    iexact H8
  iintro ⟨H3, H9, H8⟩
  iapply (decode_run c E x3 _ _ _) $$ [H3 H9 H8]
  · isplitl [H3]; · iexact H3
    isplitl [H9]; · iexact H9
    iexact H8
  iintro ⟨H3, H9, H8⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  iexists _; iexact H12

end Runs

end Cert.Main.Hand

end
-- ==== Proof.Main.Frame.lean ====
/-
  The frame of the main kernel: it runs from any memory and leaves its arguments as they were. Nothing is said of its output here.
-/
module

public import proofs.«01_k».proof.Proof.Main.Body
public import proofs.«01_k».proof.Proof.Gen.Main.Points
public import Idealize.ShloMosaic.Lib.Claim

@[expose] public section

set_option maxRecDepth 16384

noncomputable section

namespace Cert.Main.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Main Cert.Main.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x512 .i16 := win0_0.stage (cfg0.slots t 0)
abbrev ms0_1 (t : Fin cfg0.N) : Memref sig .tc .vmem S1024x512 .i16 := win0_1.stage (cfg0.slots t 1)
abbrev ms0_2 (t : Fin cfg0.N) : Memref sig .tc .vmem S1x1x1024 .f32 := win0_2.stage (cfg0.slots t 2)
abbrev ms0_3 (t : Fin cfg0.N) : Memref sig .tc .vmem S1x1x1024 .f32 := win0_3.stage (cfg0.slots t 3)
abbrev ms0_4 (t : Fin cfg0.N) : Memref sig .tc .vmem S512x4096 .bf16 := win0_4.stage (cfg0.slots t 4)
abbrev ms0_5 (t : Fin cfg0.N) : Memref sig .tc .vmem S512x1024 .bf16 := win0_5.stage (cfg0.slots t 5)
abbrev sc0 : Memref sig .tc .vmem S2x1024x4096 .bf16 := Memref.whole cc0_scratch0
abbrev sc1 : Memref sig .tc .vmem S128x128 .i32 := Memref.whole cc0_scratch1
abbrev sc2 : Memref sig .tc .vmem S288x128 .f32 := Memref.whole cc0_scratch2
abbrev sc3 : Memref sig .tc .vmem S1024x128 .f32 := Memref.whole cc0_scratch3
abbrev sc4 : Memref sig .tc .vmem S512x512 .f32 := Memref.whole cc0_scratch4

/-- The invariant between the points: the scratch operands at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- Of the output nothing is said. -/
def forgets0 : Fin 6 → Bool := fun w => w.val == 5

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ _ _ _ _ _ _ _ _ _ _
    (iblk m c 0 t) (iblk m c 1 t) (iblk m c 2 t) (iblk m c 3 t) (iblk m c 4 t) d5 s0 s1 s2 s3 s4 _) $$ [H0 H1 H2 H3 H4 H5 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexists _; iexact HS0
      isplitl [HS1]; · iexact HS1
      isplitl [HS2]; · iexact HS2
      isplitl [HS3]; · iexists _; iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 4 rfl).trans ((hA c 4).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the main kernel's run ends, with its arguments as they were and no semaphore counted up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of_rel m ρ (fun c => (dats m 0 c).toRForget forgets0) (A_eq m) ((θ_run defs _ _).mono (fun _ h => h.1) (run_main_quiescent m ρ)))
    ((θ_run defs _ _).mono (fun _ h => h.2) (run_main_quiescent m ρ))

end Cert.Main.Hand

end
-- ==== Proof.MainIdeal.Units.lean ====
/-
  The body of the main kernel, written as calls of the functions that the kernel's source is made of: the decoding of one
  sub-block, the scales' broadcast, the product of one half block of rows, the rotation of 256 rows by 128 tokens. Each loop
  that the printed program shows unrolled is a recursion over a list of offsets here.
-/
module

public import proofs.«01_k».proof.MainIdeal
public import Idealize.ShloMosaic.Lib.Tactic.Chain
public import Idealize.ShloMosaic.Lib.Tactic.ProgEq

@[expose] public section

set_option maxRecDepth 16384

noncomputable section

namespace Cert.MainIdeal.Hand

open Idealize.ShloMosaic Idealize.SL.Sem
open Cert.MainIdeal Facts₀ Facts

variable {F : FTy → Type} [FloatOps F] [Facts]

theorem inb2 {r c a b n k : Nat} (h : r + a ≤ n) (h' : c + b ≤ k) :
    ∀ x : Fin 2, (![r, c] : Fin 2 → Nat) x + (![a, b] : Fin 2 → Nat) x ≤ (![n, k] : Fin 2 → Nat) x := by
  intro x; fin_cases x
  · exact h
  · exact h'

theorem inb3 {c b k : Nat} (h : c + b ≤ k) :
    ∀ x : Fin 3, (![0, 0, c] : Fin 3 → Nat) x + (![1, 1, b] : Fin 3 → Nat) x ≤ (![1, 1, k] : Fin 3 → Nat) x := by
  intro x; fin_cases x
  · exact le_rfl
  · exact le_rfl
  · exact h

theorem inbS {r n : Nat} (h : r + 64 ≤ n) :
    ∀ x : Fin 2, (![8, 128] : Fin 2 → Nat) x = 0 ∨ (![r, 0] : Fin 2 → Nat) x + (![9, 1] : Fin 2 → Nat) x * ((![8, 128] : Fin 2 → Nat) x - 1) < (![n, 128] : Fin 2 → Nat) x := by
  intro x; fin_cases x
  · right; show r + 9 * 7 < n; omega
  · right; show 0 + 1 * 127 < 128; omega

/-! ## Pure pieces -/

/-- One stage of the butterfly over `2 ^ b`-distant partners. -/
def stage (b : Nat) (f : Nat → FVec F S8x128 .f32) : Nat → FVec F S8x128 .f32 := fun k =>
  if k / 2 ^ b % 2 = 0 then addf (f k) (f (k + 2 ^ b)) else subf (f (k - 2 ^ b)) (f k)

/-- The four stages over sixteen vectors. -/
def butterfly (f : Nat → FVec F S8x128 .f32) : Nat → FVec F S8x128 .f32 := stage 3 (stage 2 (stage 1 (stage 0 f)))

/-- The `k`-th of a list of vectors. -/
def nth (l : List (FVec F S8x128 .f32)) (k : Nat) : FVec F S8x128 .f32 := l.getD k (constant S8x128 .f32 0x00000000#32)

/-- The words of a sub-block with their successors in the upper and lower halves, transposed. -/
def wordsT (x : Vec F S128x128 .i16) : IVec S128x128 32 :=
  let v16 : IVec S128x128 32 := extui 32 x natLt_16_32
  let v17 : IVec S128x128 32 := iota .tc S128x128 32 [1] iota_S128x128_d1_w32
  let v19 : BitVec 32 := Scalar.select (Scalar.cmpi .eq 32#32 0#32) 1#32 32#32
  let v21 : IVec S128x128 32 := remsi v17 (broadcast S128x128 v19)
  let v23 : IVec S128x128 1 := cmpi .ne v21 (broadcast S128x128 0#32)
  let v25 : IVec S128x128 1 := cmpi .slt v21 (broadcast S128x128 0#32)
  let v28 : IVec S128x128 1 := broadcastTo S128x128 (broadcast S128x128 (Scalar.cmpi .slt v19 0#32)) broadcasts_S128x128_S128x128
  let v33 : IVec S128x128 32 := select (andi (xori v25 v28) v23) (addi v21 (broadcast S128x128 v19)) v21
  let v35 : IVec S128x128 1 := cmpi .eq v33 (broadcast S128x128 31#32)
  let v38 : IVec S128x128 32 := select v35 (dynamicRotate 1 31#32 none v16 rotates_S128x128_d1) (dynamicRotate 1 127#32 none v16 rotates_S128x128_d1)
  transpose S128x128 [1, 0] (ori (shli v16 (broadcast S128x128 16#32)) v38) transposes_S128x128_p1_0_S128x128

/-- The weights that one row of those words holds: eight trellis states a word. -/
def weights (x : Vec F S1x128 .i32) : FVec F S8x128 .f32 :=
  let sh : IVec S8x128 32 := subi (broadcast S8x128 16#32) (muli (broadcast S8x128 2#32) (iota .tc S8x128 32 [0] iota_S8x128_d0_w32))
  let word : IVec S8x128 32 := broadcastTo S8x128 (shapeCast S1x128 x shapeCasts_S1x128_S1x128) broadcasts_S1x128_S8x128
  let state : IVec S8x128 32 := andi (shrui word sh) (broadcast S8x128 65535#32)
  let h : IVec S8x128 32 := addi (muli state (broadcast S8x128 89226354#32)) (broadcast S8x128 64248484#32)
  let hi : IVec S8x128 32 := xori (andi (shrsi h (broadcast S8x128 3#32)) (broadcast S8x128 2181029888#32)) (broadcast S8x128 1064042496#32)
  let lo : IVec S8x128 32 := xori (andi (shrsi (shli h (broadcast S8x128 16#32)) (broadcast S8x128 3#32)) (broadcast S8x128 2181029888#32)) (broadcast S8x128 1064042496#32)
  addf (bitcastToFloat .f32 lo) (bitcastToFloat .f32 hi)

/-- Sixteen vectors one under the other. -/
def stack (p : Nat → FVec F S8x128 .f32) : FVec F S128x128 .f32 :=
  concatenate S128x128 0 [⟨S8x128, p 0⟩, ⟨S8x128, p 1⟩, ⟨S8x128, p 2⟩, ⟨S8x128, p 3⟩, ⟨S8x128, p 4⟩, ⟨S8x128, p 5⟩, ⟨S8x128, p 6⟩, ⟨S8x128, p 7⟩, ⟨S8x128, p 8⟩, ⟨S8x128, p 9⟩, ⟨S8x128, p 10⟩, ⟨S8x128, p 11⟩, ⟨S8x128, p 12⟩, ⟨S8x128, p 13⟩, ⟨S8x128, p 14⟩, ⟨S8x128, p 15⟩] concatenates_S8x128_S8x128_S8x128_S8x128_S8x128_S8x128_S8x128_S8x128_S8x128_S8x128_S8x128_S8x128_S8x128_S8x128_S8x128_S8x128_S128x128_d0

/-- What is stored of sixteen rows of words. -/
def wTile (p : Nat → FVec F S8x128 .f32) : FVec F S1x128x128 .bf16 :=
  shapeCast S1x128x128 (transpose S128x128 [1, 0] (truncf .bf16 (stack p) bitsLt_bf16_f32) transposes_S128x128_p1_0_S128x128) shapeCasts_S128x128_S1x128x128

/-- What is stored of sixteen rotated vectors and their scales. -/
def yTile (p : Nat → FVec F S8x128 .f32) (sv : Vec F S1x1x128 .f32) : FVec F S128x128 .bf16 :=
  truncf .bf16 (mulf (transpose S128x128 [1, 0] (stack p) transposes_S128x128_p1_0_S128x128)
    (broadcastTo S128x128 (mulf (shapeCast S1x128 sv shapeCasts_S1x1x128_S1x128) (broadcast S1x128 (Scalar.ofBits .f32 0x3D800000#32))) broadcasts_S1x128_S128x128)) bitsLt_bf16_f32

/-- What is stored of 128 scales: each along its row. -/
def rsTile (x : Vec F S1x1x128 .f32) : FVec F S128x128 .f32 :=
  shapeCast S128x128 (transpose S128x128 [1, 0] (broadcastTo S128x128 (shapeCast S1x128 (shapeCast S1x128 x shapeCasts_S1x1x128_S1x128) shapeCasts_S1x128_S1x128) broadcasts_S1x128_S128x128) transposes_S128x128_p1_0_S128x128) shapeCasts_S128x128_S128x128

/-- The product of half a block of weights with the tokens. -/
def prod (w : Vec F S1x512x4096 .bf16) (x : Vec F S512x4096 .bf16) : FVec F S512x512 .f32 :=
  shapeCast S512x512 (matmul dot_S512x4096_S512x4096_S512x512_1_1_0_0_n_n none (shapeCast S512x4096 w shapeCasts_S1x512x4096_S512x4096) x (constant S512x512 .f32 0x00000000#32)) shapeCasts_S512x512_S512x512

/-! ## The rotation -/

/-- Rows of products, each times its rows of scales. -/
def scaled (a : Memref sig .tc .vmem S512x512 .f32) (b : Memref sig .tc .vmem S1024x128 .f32) (c : Nat) (hc : c + 128 ≤ 512) :
    (l : List (Nat × Nat)) → (∀ p ∈ l, p.1 + 8 ≤ 512 ∧ p.2 + 8 ≤ 1024) → Prog (TpuEff nD τ sig (Elt F) Λ₀ .tc) (List (FVec F S8x128 .f32))
  | [], _ => pure []
  | (r, s) :: l, h => do
    let x : Vec F S8x128 .f32 ← Prog.lift (.load a (Rect.unit (s := S512x512) ![r, c] S8x128.size (inb2 (h (r, s) (List.mem_cons_self ..)).1 hc)).toLoadRect (View.loadsAt_vmem h_S8x128))
    let y : Vec F S8x128 .f32 ← Prog.lift (.load b (Rect.unit (s := S1024x128) ![s, 0] S8x128.size (inb2 (h (r, s) (List.mem_cons_self ..)).2 le_rfl)).toLoadRect (View.loadsAt_vmem h_S8x128))
    let rest ← scaled a b c hc l fun p hp => h p (List.mem_cons_of_mem _ hp)
    pure (mulf x y :: rest)

/-- Eight rows from each offset on. -/
def loadRows (b : Memref sig .tc .vmem S288x128 .f32) : (l : List Nat) → (∀ o ∈ l, o + 8 ≤ 288) → Prog (TpuEff nD τ sig (Elt F) Λ₀ .tc) (List (FVec F S8x128 .f32))
  | [], _ => pure []
  | o :: l, h => do
    let x : Vec F S8x128 .f32 ← Prog.lift (.load b (Rect.unit (s := S288x128) ![o, 0] S8x128.size (inb2 (h o (List.mem_cons_self ..)) le_rfl)).toLoadRect (View.loadsAt_vmem h_S8x128))
    let rest ← loadRows b l fun p hp => h p (List.mem_cons_of_mem _ hp)
    pure (x :: rest)

/-- The vectors `val k, val (k+1), …` to eight rows from each offset on. -/
def storeRows (b : Memref sig .tc .vmem S288x128 .f32) (val : Nat → FVec F S8x128 .f32) : (l : List Nat) → (∀ o ∈ l, o + 8 ≤ 288) → Nat → Prog (TpuEff nD τ sig (Elt F) Λ₀ .tc) PUnit
  | [], _, _ => pure ⟨⟩
  | o :: l, h, k => do
    let _x : Vec F S8x128 .f32 ← Prog.lift (.load b (Rect.unit (s := S288x128) ![o, 0] S8x128.size (inb2 (h o (List.mem_cons_self ..)) le_rfl)).toLoadRect (View.loadsAt_vmem h_S8x128))
    Prog.lift (.store b (Rect.unit (s := S288x128) ![o, 0] S8x128.size (inb2 (h o (List.mem_cons_self ..)) le_rfl)) (shapeCast S8x128 (val k) shapeCasts_S8x128_S8x128) Finset.univ (View.stores_vmem_bits_univ h_S8x128 rfl) (.inl rfl))
    storeRows b val l (fun p hp => h p (List.mem_cons_of_mem _ hp)) (k + 1)

/-- Every ninth row from each offset on, eight of them. -/
def loadStrided (b : Memref sig .tc .vmem S288x128 .f32) : (l : List Nat) → (∀ o ∈ l, o + 64 ≤ 288) → Prog (TpuEff nD τ sig (Elt F) Λ₀ .tc) (List (FVec F S8x128 .f32))
  | [], _ => pure []
  | o :: l, h => do
    let x : Vec F S8x128 .f32 ← Prog.lift (.load b (⟨![o, 0], S8x128.size, ![9, 1], inbS (h o (List.mem_cons_self ..))⟩ : LoadRect S288x128) (View.loadsAt_vmem h_S8x128))
    let rest ← loadStrided b l fun p hp => h p (List.mem_cons_of_mem _ hp)
    pure (x :: rest)

/-- The vectors `val k, val (k+1), …` to every ninth row from each offset on. -/
def storeStrided (b : Memref sig .tc .vmem S288x128 .f32) (val : Nat → FVec F S8x128 .f32) : (l : List Nat) → (∀ o ∈ l, o + 64 ≤ 288) → Nat → Prog (TpuEff nD τ sig (Elt F) Λ₀ .tc) PUnit
  | [], _, _ => pure ⟨⟩
  | o :: l, h, k => do
    let _x : Vec F S8x128 .f32 ← Prog.lift (.load b (⟨![o, 0], S8x128.size, ![9, 1], inbS (h o (List.mem_cons_self ..))⟩ : LoadRect S288x128) (View.loadsAt_vmem h_S8x128))
    Prog.lift (.store b ⟨(⟨![o, 0], S8x128.size, ![9, 1], inbS (h o (List.mem_cons_self ..))⟩ : LoadRect S288x128), spos_9_1⟩ (shapeCast S8x128 (val k) shapeCasts_S8x128_S8x128) Finset.univ (View.stores_vmem_bits_univ h_S8x128 rfl) (.inl rfl))
    storeStrided b val l (fun p hp => h p (List.mem_cons_of_mem _ hp)) (k + 1)

theorem packedY (c d : Nat) (h : ∀ x : Fin 2, (![c, d] : Fin 2 → Nat) x + S128x128.size x ≤ S512x1024.size x) (hc : c % 128 = 0) :
    (Rect.unit (s := S512x1024) ![c, d] S128x128.size h).PackedRows (EltTy.packing .bf16) := by
  right
  refine ⟨le_rfl, rfl, .inl ⟨?_, ?_⟩⟩
  · show 2 ∣ c; omega
  · show 2 ∣ 128; decide

/-- Sixteen rotated vectors out: transposed, scaled and stored at token row `c`, output column `d`. -/
def outTile (v : Memref sig .tc .vmem S1x1x1024 .f32) (y : Memref sig .tc .vmem S512x1024 .bf16) (hy : y.IsWhole) (b : Memref sig .tc .vmem S288x128 .f32)
    (l : List Nat) (hl : ∀ o ∈ l, o + 8 ≤ 288) (c d : Nat) (hc : c + 128 ≤ 512) (hc' : c % 128 = 0) (hd : d + 128 ≤ 1024) : Prog (TpuEff nD τ sig (Elt F) Λ₀ .tc) PUnit := do
  let xs ← loadRows b l hl
  let sv : Vec F S1x1x128 .f32 ← Prog.lift (.load v (Rect.unit (s := S1x1x1024) ![0, 0, d] S1x1x128.size (inb3 hd)).toLoadRect (View.loadsAt_vmem h_S1x1x128))
  let _x : Vec F S128x128 .bf16 ← Prog.lift (.load y (Rect.unit (s := S512x1024) ![c, d] S128x128.size (inb2 hc hd)).toLoadRect (View.loadsAt_vmem h_S128x128))
  Prog.lift (.store y (Rect.unit (s := S512x1024) ![c, d] S128x128.size (inb2 hc hd)) (yTile (nth xs) sv) Finset.univ (View.stores_vmem h_S128x128 (hy.storeExact_slice rfl _ (packedY c d _ hc')) (fun _ => rfl)) (.inl rfl))

/-- The row offsets of the first pass, and of the two strided ones. -/
abbrev rows0 : List Nat := [0, 9, 18, 27, 36, 45, 54, 63, 72, 81, 90, 99, 108, 117, 126, 135]
abbrev rows1 : List Nat := [144, 153, 162, 171, 180, 189, 198, 207, 216, 225, 234, 243, 252, 261, 270, 279]
abbrev strided0 : List Nat := [0, 1, 2, 3, 4, 5, 6, 7, 144, 145, 146, 147, 148, 149, 150, 151]
abbrev strided1 : List Nat := [72, 73, 74, 75, 76, 77, 78, 79, 216, 217, 218, 219, 220, 221, 222, 223]

/-- The rotation of 256 rows of products at 128 tokens, from column `c` on. -/
def rotation (v : Memref sig .tc .vmem S1x1x1024 .f32) (y : Memref sig .tc .vmem S512x1024 .bf16) (hy : y.IsWhole)
    (b : Memref sig .tc .vmem S288x128 .f32) (s : Memref sig .tc .vmem S1024x128 .f32) (a : Memref sig .tc .vmem S512x512 .f32)
    (l0 l1 : List (Nat × Nat)) (h0 : ∀ p ∈ l0, p.1 + 8 ≤ 512 ∧ p.2 + 8 ≤ 1024) (h1 : ∀ p ∈ l1, p.1 + 8 ≤ 512 ∧ p.2 + 8 ≤ 1024)
    (c d d' : Nat) (hc : c + 128 ≤ 512) (hc' : c % 128 = 0) (hd : d + 128 ≤ 1024) (hd' : d' + 128 ≤ 1024) : Prog (TpuEff nD τ sig (Elt F) Λ₀ .tc) PUnit := do
  let x0 ← scaled a s c hc l0 h0
  storeRows b (butterfly (nth x0)) rows0 (by decide) 0
  let x1 ← scaled a s c hc l1 h1
  storeRows b (butterfly (nth x1)) rows1 (by decide) 0
  let x2 ← loadStrided b strided0 (by decide)
  storeStrided b (butterfly (nth x2)) strided0 (by decide) 0
  let x3 ← loadStrided b strided1 (by decide)
  storeStrided b (butterfly (nth x3)) strided1 (by decide) 0
  outTile v y hy b rows0 (by decide) c d hc hc' hd
  outTile v y hy b rows1 (by decide) c d' hc hc' hd'

/-! ## The decoding -/

/-- The weights of the rows of words named. -/
def loadWords (b : Memref sig .tc .vmem S128x128 .i32) : (l : List Nat) → (∀ o ∈ l, o + 1 ≤ 128) → Prog (TpuEff nD τ sig (Elt F) Λ₀ .tc) (List (FVec F S8x128 .f32))
  | [], _ => pure []
  | o :: l, h => do
    let x : Vec F S1x128 .i32 ← Prog.lift (.load b (Rect.unit (s := S128x128) ![o, 0] S1x128.size (inb2 (h o (List.mem_cons_self ..)) le_rfl)).toLoadRect (View.loadsAt_vmem h_S1x128))
    let rest ← loadWords b l fun p hp => h p (List.mem_cons_of_mem _ hp)
    pure (weights x :: rest)

/-- What a store of a tile of weights at `o` needs. -/
abbrev Fits (o : Fin 3 → Nat) : Prop :=
  ∃ h : ∀ a, o a + S1x128x128.size a ≤ S2x1024x4096.size a, (Rect.unit (s := S2x1024x4096) o S1x128x128.size h).PackedRows (EltTy.packing .bf16)

/-- Sixteen rows of words after another, each sixteen stored as a tile of weights. -/
def tiles (b : Memref sig .tc .vmem S128x128 .i32) (w : Memref sig .tc .vmem S2x1024x4096 .bf16) (hw : w.IsWhole) :
    (l : List (List Nat × (Fin 3 → Nat))) → (∀ p ∈ l, (∀ o ∈ p.1, o + 1 ≤ 128) ∧ Fits p.2) → Prog (TpuEff nD τ sig (Elt F) Λ₀ .tc) PUnit
  | [], _ => pure ⟨⟩
  | (r, o) :: l, h => do
    let xs ← loadWords b r (h (r, o) (List.mem_cons_self ..)).1
    let _x : Vec F S1x128x128 .bf16 ← Prog.lift (.load w (Rect.unit (s := S2x1024x4096) o S1x128x128.size (h (r, o) (List.mem_cons_self ..)).2.choose).toLoadRect (View.loadsAt_vmem h_S1x128x128))
    Prog.lift (.store w (Rect.unit (s := S2x1024x4096) o S1x128x128.size (h (r, o) (List.mem_cons_self ..)).2.choose) (wTile (nth xs)) Finset.univ (View.stores_vmem h_S1x128x128 (hw.storeExact_slice rfl _ (h (r, o) (List.mem_cons_self ..)).2.choose_spec) (fun _ => rfl)) (.inl rfl))
    tiles b w hw l fun p hp => h p (List.mem_cons_of_mem _ hp)

/-- The eight runs of sixteen rows of words, with the offsets of their tiles. -/
abbrev runs (o0 o1 o2 o3 o4 o5 o6 o7 : Fin 3 → Nat) : List (List Nat × (Fin 3 → Nat)) :=
  [([0, 1, 2, 3, 4, 5, 6, 7, 8, 9, 10, 11, 12, 13, 14, 15], o0),
   ([16, 17, 18, 19, 20, 21, 22, 23, 24, 25, 26, 27, 28, 29, 30, 31], o1),
   ([32, 33, 34, 35, 36, 37, 38, 39, 40, 41, 42, 43, 44, 45, 46, 47], o2),
   ([48, 49, 50, 51, 52, 53, 54, 55, 56, 57, 58, 59, 60, 61, 62, 63], o3),
   ([64, 65, 66, 67, 68, 69, 70, 71, 72, 73, 74, 75, 76, 77, 78, 79], o4),
   ([80, 81, 82, 83, 84, 85, 86, 87, 88, 89, 90, 91, 92, 93, 94, 95], o5),
   ([96, 97, 98, 99, 100, 101, 102, 103, 104, 105, 106, 107, 108, 109, 110, 111], o6),
   ([112, 113, 114, 115, 116, 117, 118, 119, 120, 121, 122, 123, 124, 125, 126, 127], o7)]

theorem runs_ok {o0 o1 o2 o3 o4 o5 o6 o7 : Fin 3 → Nat} (h0 : Fits o0) (h1 : Fits o1) (h2 : Fits o2) (h3 : Fits o3) (h4 : Fits o4) (h5 : Fits o5) (h6 : Fits o6) (h7 : Fits o7) :
    ∀ p ∈ runs o0 o1 o2 o3 o4 o5 o6 o7, (∀ o ∈ p.1, o + 1 ≤ 128) ∧ Fits p.2 := by
  intro p hp
  simp only [runs, List.mem_cons, List.not_mem_nil, or_false] at hp
  rcases hp with rfl | rfl | rfl | rfl | rfl | rfl | rfl | rfl
  · exact ⟨(by decide : ∀ o ∈ [0, 1, 2, 3, 4, 5, 6, 7, 8, 9, 10, 11, 12, 13, 14, 15], o + 1 ≤ 128), h0⟩
  · exact ⟨(by decide : ∀ o ∈ [16, 17, 18, 19, 20, 21, 22, 23, 24, 25, 26, 27, 28, 29, 30, 31], o + 1 ≤ 128), h1⟩
  · exact ⟨(by decide : ∀ o ∈ [32, 33, 34, 35, 36, 37, 38, 39, 40, 41, 42, 43, 44, 45, 46, 47], o + 1 ≤ 128), h2⟩
  · exact ⟨(by decide : ∀ o ∈ [48, 49, 50, 51, 52, 53, 54, 55, 56, 57, 58, 59, 60, 61, 62, 63], o + 1 ≤ 128), h3⟩
  · exact ⟨(by decide : ∀ o ∈ [64, 65, 66, 67, 68, 69, 70, 71, 72, 73, 74, 75, 76, 77, 78, 79], o + 1 ≤ 128), h4⟩
  · exact ⟨(by decide : ∀ o ∈ [80, 81, 82, 83, 84, 85, 86, 87, 88, 89, 90, 91, 92, 93, 94, 95], o + 1 ≤ 128), h5⟩
  · exact ⟨(by decide : ∀ o ∈ [96, 97, 98, 99, 100, 101, 102, 103, 104, 105, 106, 107, 108, 109, 110, 111], o + 1 ≤ 128), h6⟩
  · exact ⟨(by decide : ∀ o ∈ [112, 113, 114, 115, 116, 117, 118, 119, 120, 121, 122, 123, 124, 125, 126, 127], o + 1 ≤ 128), h7⟩

/-- The decoding of one sub-block of words at `oc` into the tiles at `o0, …, o7`. -/
def decode (x : Memref sig .tc .vmem S1024x512 .i16) (b : Memref sig .tc .vmem S128x128 .i32) (w : Memref sig .tc .vmem S2x1024x4096 .bf16) (hw : w.IsWhole)
    (oc : Fin 2 → Nat) (hoc : ∀ a, oc a + S128x128.size a ≤ S1024x512.size a) (o0 o1 o2 o3 o4 o5 o6 o7 : Fin 3 → Nat)
    (h : ∀ p ∈ runs o0 o1 o2 o3 o4 o5 o6 o7, (∀ o ∈ p.1, o + 1 ≤ 128) ∧ Fits p.2) : Prog (TpuEff nD τ sig (Elt F) Λ₀ .tc) PUnit := do
  let c : Vec F S128x128 .i16 ← Prog.lift (.load x (Rect.unit (s := S1024x512) oc S128x128.size hoc).toLoadRect (View.loadsAt_vmem h_S128x128))
  let _x : Vec F S128x128 .i32 ← Prog.lift (.load b (Rect.unit (s := S128x128) ![0, 0] S128x128.size (inb2 le_rfl le_rfl)).toLoadRect (View.loadsAt_vmem h_S128x128))
  Prog.lift (.store b (Rect.unit (s := S128x128) ![0, 0] S128x128.size (inb2 le_rfl le_rfl)) (shapeCast S128x128 (wordsT (F := F) c) shapeCasts_S128x128_S128x128) Finset.univ (View.stores_vmem_bits_univ h_S128x128 rfl) (.inl rfl))
  tiles b w hw (runs o0 o1 o2 o3 o4 o5 o6 o7) h

/-! ## The scales, the product and the body -/

/-- The scales of 128 rows from each offset on, each along its row. -/
def scales (x : Memref sig .tc .vmem S1x1x1024 .f32) (s : Memref sig .tc .vmem S1024x128 .f32) : (l : List Nat) → (∀ o ∈ l, o + 128 ≤ 1024) → Prog (TpuEff nD τ sig (Elt F) Λ₀ .tc) PUnit
  | [], _ => pure ⟨⟩
  | o :: l, h => do
    let v : Vec F S1x1x128 .f32 ← Prog.lift (.load x (Rect.unit (s := S1x1x1024) ![0, 0, o] S1x1x128.size (inb3 (h o (List.mem_cons_self ..)))).toLoadRect (View.loadsAt_vmem h_S1x1x128))
    let _x : Vec F S128x128 .f32 ← Prog.lift (.load s (Rect.unit (s := S1024x128) ![o, 0] S128x128.size (inb2 (h o (List.mem_cons_self ..)) le_rfl)).toLoadRect (View.loadsAt_vmem h_S128x128))
    Prog.lift (.store s (Rect.unit (s := S1024x128) ![o, 0] S128x128.size (inb2 (h o (List.mem_cons_self ..)) le_rfl)) (rsTile v) Finset.univ (View.stores_vmem_bits_univ h_S128x128 rfl) (.inl rfl))
    scales x s l fun p hp => h p (List.mem_cons_of_mem _ hp)

/-- The product of the half block of weights at `o` with the tokens. -/
def product (w : Memref sig .tc .vmem S2x1024x4096 .bf16) (x : Memref sig .tc .vmem S512x4096 .bf16) (a : Memref sig .tc .vmem S512x512 .f32)
    (o : Fin 3 → Nat) (ho : ∀ x, o x + S1x512x4096.size x ≤ S2x1024x4096.size x) : Prog (TpuEff nD τ sig (Elt F) Λ₀ .tc) PUnit := do
  let v : Vec F S1x512x4096 .bf16 ← Prog.lift (.load w (Rect.unit (s := S2x1024x4096) o S1x512x4096.size ho).toLoadRect (View.loadsAt_vmem h_S1x512x4096))
  let t : Vec F S512x4096 .bf16 ← Prog.lift (.load x (Rect.unit (s := S512x4096) ![0, 0] S512x4096.size (inb2 le_rfl le_rfl)).toLoadRect (View.loadsAt_vmem h_S512x4096))
  let _x : Vec F S512x512 .f32 ← Prog.lift (.load a (Rect.unit (s := S512x512) ![0, 0] S512x512.size (inb2 le_rfl le_rfl)).toLoadRect (View.loadsAt_vmem h_S512x512))
  Prog.lift (.store a (Rect.unit (s := S512x512) ![0, 0] S512x512.size (inb2 le_rfl le_rfl)) (prod v t) Finset.univ (View.stores_vmem_bits_univ h_S512x512 rfl) (.inl rfl))

/-- The rows of products and of scales of each half of each group of 256 rows. -/
abbrev L00 : List (Nat × Nat) := [(0, 0), (8, 8), (16, 16), (24, 24), (32, 32), (40, 40), (48, 48), (56, 56), (64, 64), (72, 72), (80, 80), (88, 88), (96, 96), (104, 104), (112, 112), (120, 120)]
abbrev L01 : List (Nat × Nat) := [(128, 128), (136, 136), (144, 144), (152, 152), (160, 160), (168, 168), (176, 176), (184, 184), (192, 192), (200, 200), (208, 208), (216, 216), (224, 224), (232, 232), (240, 240), (248, 248)]
abbrev L02 : List (Nat × Nat) := [(256, 256), (264, 264), (272, 272), (280, 280), (288, 288), (296, 296), (304, 304), (312, 312), (320, 320), (328, 328), (336, 336), (344, 344), (352, 352), (360, 360), (368, 368), (376, 376)]
abbrev L03 : List (Nat × Nat) := [(384, 384), (392, 392), (400, 400), (408, 408), (416, 416), (424, 424), (432, 432), (440, 440), (448, 448), (456, 456), (464, 464), (472, 472), (480, 480), (488, 488), (496, 496), (504, 504)]
abbrev L10 : List (Nat × Nat) := [(0, 512), (8, 520), (16, 528), (24, 536), (32, 544), (40, 552), (48, 560), (56, 568), (64, 576), (72, 584), (80, 592), (88, 600), (96, 608), (104, 616), (112, 624), (120, 632)]
abbrev L11 : List (Nat × Nat) := [(128, 640), (136, 648), (144, 656), (152, 664), (160, 672), (168, 680), (176, 688), (184, 696), (192, 704), (200, 712), (208, 720), (216, 728), (224, 736), (232, 744), (240, 752), (248, 760)]
abbrev L12 : List (Nat × Nat) := [(256, 768), (264, 776), (272, 784), (280, 792), (288, 800), (296, 808), (304, 816), (312, 824), (320, 832), (328, 840), (336, 848), (344, 856), (352, 864), (360, 872), (368, 880), (376, 888)]
abbrev L13 : List (Nat × Nat) := [(384, 896), (392, 904), (400, 912), (408, 920), (416, 928), (424, 936), (432, 944), (440, 952), (448, 960), (456, 968), (464, 976), (472, 984), (480, 992), (488, 1000), (496, 1008), (504, 1016)]

/-- The rotations of both groups of 256 rows at the 128 tokens from `c` on. -/
def rotTok (v : Memref sig .tc .vmem S1x1x1024 .f32) (y : Memref sig .tc .vmem S512x1024 .bf16) (hy : y.IsWhole)
    (b : Memref sig .tc .vmem S288x128 .f32) (s : Memref sig .tc .vmem S1024x128 .f32) (a : Memref sig .tc .vmem S512x512 .f32)
    (l0 l1 l2 l3 : List (Nat × Nat)) (h : ∀ l ∈ [l0, l1, l2, l3], ∀ p ∈ l, p.1 + 8 ≤ 512 ∧ p.2 + 8 ≤ 1024)
    (c d0 d1 d2 d3 : Nat) (hc : c + 128 ≤ 512) (hc' : c % 128 = 0) (hd : ∀ d ∈ [d0, d1, d2, d3], d + 128 ≤ 1024) : Prog (TpuEff nD τ sig (Elt F) Λ₀ .tc) PUnit := do
  rotation v y hy b s a l0 l1 (h _ (by simp)) (h _ (by simp)) c d0 d1 hc hc' (hd _ (by simp)) (hd _ (by simp))
  rotation v y hy b s a l2 l3 (h _ (by simp)) (h _ (by simp)) c d2 d3 hc hc' (hd _ (by simp)) (hd _ (by simp))

/-- The rotations of a half block: all four groups of 128 tokens. -/
def rotHalf (v : Memref sig .tc .vmem S1x1x1024 .f32) (y : Memref sig .tc .vmem S512x1024 .bf16) (hy : y.IsWhole)
    (b : Memref sig .tc .vmem S288x128 .f32) (s : Memref sig .tc .vmem S1024x128 .f32) (a : Memref sig .tc .vmem S512x512 .f32)
    (l0 l1 l2 l3 : List (Nat × Nat)) (h : ∀ l ∈ [l0, l1, l2, l3], ∀ p ∈ l, p.1 + 8 ≤ 512 ∧ p.2 + 8 ≤ 1024)
    (d0 d1 d2 d3 : Nat) (hd : ∀ d ∈ [d0, d1, d2, d3], d + 128 ≤ 1024) : Prog (TpuEff nD τ sig (Elt F) Λ₀ .tc) PUnit := do
  rotTok v y hy b s a l0 l1 l2 l3 h 0 d0 d1 d2 d3 (by decide) (by decide) hd
  rotTok v y hy b s a l0 l1 l2 l3 h 128 d0 d1 d2 d3 (by decide) (by decide) hd
  rotTok v y hy b s a l0 l1 l2 l3 h 256 d0 d1 d2 d3 (by decide) (by decide) hd
  rotTok v y hy b s a l0 l1 l2 l3 h 384 d0 d1 d2 d3 (by decide) (by decide) hd

theorem fits2 (i : grid0.Coords) (t : Fin k0_t1_loop.trips) (h : k0_cond1 i = 1#1) (r : Fin 8) : Fits (k0_off2 t (BitVec.ofNat 32 r.val)) :=
  ⟨k0_off2_inb i t h r, k0_off2_packedbf16 i t h r⟩

theorem fits6 (i : grid0.Coords) (n : Fin 3) (r : Fin 8) : Fits (k0_off6 i (BitVec.ofNat 32 n.val) (BitVec.ofNat 32 r.val)) :=
  ⟨k0_off6_inb i n r, k0_off6_packedbf16 i n r⟩

/-- At the first point: the first block of weights, decoded whole. -/
def first (i : grid0.Coords) (arg2 : Memref sig .tc .vmem S1024x512 .i16) (arg9 : Memref sig .tc .vmem S128x128 .i32)
    (arg8 : Memref sig .tc .vmem S2x1024x4096 .bf16) (harg8 : arg8.IsWhole) : Prog (TpuEff nD τ sig (Elt F) Λ₀ .tc) PUnit :=
  if h1 : k0_cond1 i = 1#1 then do
    Scf.Loop.for (σ := Unit) k0_t1_loop (k0_t1_ok i h1) ⟨⟩ fun t _ => do
      decode arg2 arg9 arg8 harg8 (k0_off1 t) (k0_off1_inb i t h1) (k0_off2 t 0#32) (k0_off2 t 1#32) (k0_off2 t 2#32) (k0_off2 t 3#32) (k0_off2 t 4#32) (k0_off2 t 5#32) (k0_off2 t 6#32) (k0_off2 t 7#32)
        (runs_ok (fits2 i t h1 0) (fits2 i t h1 1) (fits2 i t h1 2) (fits2 i t h1 3) (fits2 i t h1 4) (fits2 i t h1 5) (fits2 i t h1 6) (fits2 i t h1 7))
      pure ⟨⟩
    pure ⟨⟩
  else pure ⟨⟩

/-- At the first block of tokens: the scales of the block of weights. -/
def fresh (i : grid0.Coords) (arg4 : Memref sig .tc .vmem S1x1x1024 .f32) (arg11 : Memref sig .tc .vmem S1024x128 .f32) :
    Prog (TpuEff nD τ sig (Elt F) Λ₀ .tc) PUnit :=
  if h2 : Scalar.cmpi .ne (Scalar.extui (Scalar.cmpi .eq (BitVec.ofNat 32 (i 1).val) 0#32) : BitVec 32) 0#32 = 1#1 then
    scales arg4 arg11 [0, 128, 256, 384, 512, 640, 768, 896] (by decide)
  else pure ⟨⟩

/-- The kernel's body. -/
def cc0_trellis_matmul (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) : Prog (TpuEff nD τ sig (Elt F) Λ₀ .tc) PUnit := do
  first i arg2 arg9 arg8 harg8
  fresh i arg4 arg11
  product arg8 arg6 arg12 (k0_off3 i) (k0_off3_inb i)
  rotHalf arg5 arg7 harg7 arg10 arg11 arg12 L00 L01 L02 L03 (by decide) 0 128 256 384 (by decide)
  product arg8 arg6 arg12 (k0_off4 i) (k0_off4_inb i)
  rotHalf arg5 arg7 harg7 arg10 arg11 arg12 L10 L11 L12 L13 (by decide) 512 640 768 896 (by decide)
  decode arg3 arg9 arg8 harg8 (k0_off5 i 0#32) (k0_off5_inb i 0) (k0_off6 i 0#32 0#32) (k0_off6 i 0#32 1#32) (k0_off6 i 0#32 2#32) (k0_off6 i 0#32 3#32) (k0_off6 i 0#32 4#32) (k0_off6 i 0#32 5#32) (k0_off6 i 0#32 6#32) (k0_off6 i 0#32 7#32) (runs_ok (fits6 i 0 0) (fits6 i 0 1) (fits6 i 0 2) (fits6 i 0 3) (fits6 i 0 4) (fits6 i 0 5) (fits6 i 0 6) (fits6 i 0 7))
  decode arg3 arg9 arg8 harg8 (k0_off5 i 1#32) (k0_off5_inb i 1) (k0_off6 i 1#32 0#32) (k0_off6 i 1#32 1#32) (k0_off6 i 1#32 2#32) (k0_off6 i 1#32 3#32) (k0_off6 i 1#32 4#32) (k0_off6 i 1#32 5#32) (k0_off6 i 1#32 6#32) (k0_off6 i 1#32 7#32) (runs_ok (fits6 i 1 0) (fits6 i 1 1) (fits6 i 1 2) (fits6 i 1 3) (fits6 i 1 4) (fits6 i 1 5) (fits6 i 1 6) (fits6 i 1 7))
  decode arg3 arg9 arg8 harg8 (k0_off5 i 2#32) (k0_off5_inb i 2) (k0_off6 i 2#32 0#32) (k0_off6 i 2#32 1#32) (k0_off6 i 2#32 2#32) (k0_off6 i 2#32 3#32) (k0_off6 i 2#32 4#32) (k0_off6 i 2#32 5#32) (k0_off6 i 2#32 6#32) (k0_off6 i 2#32 7#32) (runs_ok (fits6 i 2 0) (fits6 i 2 1) (fits6 i 2 2) (fits6 i 2 3) (fits6 i 2 4) (fits6 i 2 5) (fits6 i 2 6) (fits6 i 2 7))

end Cert.MainIdeal.Hand

end
-- ==== Proof.MainIdeal.Runs.lean ====
/-
  What the pieces of the main kernel's body compute, as functions of the memory they find, and their triples: each piece run on
  memrefs of known contents leaves them at those functions' values.
-/
module

public import proofs.«01_k».proof.Proof.MainIdeal.Units
public import proofs.«01_k».proof.Proof.Shared.Mem
public import proofs.«01_k».proof.Proof.Gen.MainIdeal.Frame
public import Idealize.ShloMosaic.Lib.Pipeline.Value

@[expose] public section

set_option maxRecDepth 16384

noncomputable section

namespace Cert.MainIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open _root_.Hand
open Cert.MainIdeal Facts₀ Facts

variable {F : FTy → Type} [FloatOps F]

local notation "𝕄" => MT nD τ sig Unit (Elt F) ℕ (UR sig nD τ) ℕ

/-! ## The values -/

def scaledV (a : Vec F S512x512 .f32) (s : Vec F S1024x128 .f32) (c : Nat) (l : List (Nat × Nat)) : List (FVec F S8x128 .f32) :=
  l.map fun p => mulf (blk 8 128 1 a p.1 c) (blk 8 128 1 s p.2 0)

def rowsV (b : Vec F S288x128 .f32) (l : List Nat) : List (FVec F S8x128 .f32) := l.map fun o => blk 8 128 1 b o 0

def stridedV (b : Vec F S288x128 .f32) (l : List Nat) : List (FVec F S8x128 .f32) := l.map fun o => blk 8 128 9 b o 0

def putRows (val : Nat → FVec F S8x128 .f32) : List Nat → Nat → Vec F S288x128 .f32 → Vec F S288x128 .f32
  | [], _, b => b
  | o :: l, k, b => putRows val l (k + 1) (setBlk 8 128 b o 0 (val k))

def putStrided (val : Nat → FVec F S8x128 .f32) : List Nat → Nat → Vec F S288x128 .f32 → Vec F S288x128 .f32
  | [], _, b => b
  | o :: l, k, b => putStrided val l (k + 1) (setStr 8 128 9 b o (val k))

/-- The scratch of the rotation after its passes. -/
def passV (a : Vec F S512x512 .f32) (s : Vec F S1024x128 .f32) (l0 l1 : List (Nat × Nat)) (c : Nat) (b : Vec F S288x128 .f32) : Vec F S288x128 .f32 :=
  let b1 := putRows (butterfly (nth (scaledV a s c l0))) rows0 0 b
  let b2 := putRows (butterfly (nth (scaledV a s c l1))) rows1 0 b1
  let b3 := putStrided (butterfly (nth (stridedV b2 strided0))) strided0 0 b2
  putStrided (butterfly (nth (stridedV b3 strided1))) strided1 0 b3

def outV (v : Vec F S1x1x1024 .f32) (b : Vec F S288x128 .f32) (l : List Nat) (c d : Nat) (y : Vec F S512x1024 .bf16) : Vec F S512x1024 .bf16 :=
  setBlk 128 128 y c d (yTile (nth (rowsV b l)) (blk3 1 128 v 0 0 d))

/-- The output and the scratch after a rotation. -/
def rotationV (v : Vec F S1x1x1024 .f32) (a : Vec F S512x512 .f32) (s : Vec F S1024x128 .f32) (l0 l1 : List (Nat × Nat)) (c d d' : Nat)
    (p : Vec F S512x1024 .bf16 × Vec F S288x128 .f32) : Vec F S512x1024 .bf16 × Vec F S288x128 .f32 :=
  (outV v (passV a s l0 l1 c p.2) rows1 c d' (outV v (passV a s l0 l1 c p.2) rows0 c d p.1), passV a s l0 l1 c p.2)

def rotTokV (v : Vec F S1x1x1024 .f32) (a : Vec F S512x512 .f32) (s : Vec F S1024x128 .f32) (l0 l1 l2 l3 : List (Nat × Nat)) (c d0 d1 d2 d3 : Nat)
    (p : Vec F S512x1024 .bf16 × Vec F S288x128 .f32) : Vec F S512x1024 .bf16 × Vec F S288x128 .f32 :=
  rotationV v a s l2 l3 c d2 d3 (rotationV v a s l0 l1 c d0 d1 p)

def rotHalfV (v : Vec F S1x1x1024 .f32) (a : Vec F S512x512 .f32) (s : Vec F S1024x128 .f32) (l0 l1 l2 l3 : List (Nat × Nat)) (d0 d1 d2 d3 : Nat)
    (p : Vec F S512x1024 .bf16 × Vec F S288x128 .f32) : Vec F S512x1024 .bf16 × Vec F S288x128 .f32 :=
  rotTokV v a s l0 l1 l2 l3 384 d0 d1 d2 d3 (rotTokV v a s l0 l1 l2 l3 256 d0 d1 d2 d3
    (rotTokV v a s l0 l1 l2 l3 128 d0 d1 d2 d3 (rotTokV v a s l0 l1 l2 l3 0 d0 d1 d2 d3 p)))

def wordsV (b : Vec F S128x128 .i32) (l : List Nat) : List (FVec F S8x128 .f32) := l.map fun o => weights (blk 1 128 1 b o 0)

def tilesV (b : Vec F S128x128 .i32) : List (List Nat × (Fin 3 → Nat)) → Vec F S2x1024x4096 .bf16 → Vec F S2x1024x4096 .bf16
  | [], w => w
  | (r, o) :: l, w => tilesV b l (setBlk3 128 128 w (o 0) (o 1) (o 2) (wTile (nth (wordsV b r))))

/-- The transposed words of a sub-block. -/
def wordsAt (x : Vec F S1024x512 .i16) (oc : Fin 2 → Nat) : Vec F S128x128 .i32 := wordsT (F := F) (blk 128 128 1 x (oc 0) (oc 1))

def scalesV (x : Vec F S1x1x1024 .f32) : List Nat → Vec F S1024x128 .f32 → Vec F S1024x128 .f32
  | [], s => s
  | o :: l, s => scalesV x l (setBlk 128 128 s o 0 (rsTile (blk3 1 128 x 0 0 o)))

def productV (w : Vec F S2x1024x4096 .bf16) (x : Vec F S512x4096 .bf16) (o : Fin 3 → Nat) : Vec F S512x512 .f32 :=
  prod (blk3 512 4096 w (o 0) (o 1) (o 2)) x

theorem scaledV_nil (a : Vec F S512x512 .f32) (s : Vec F S1024x128 .f32) (c : Nat) : scaledV a s c [] = [] := rfl
theorem scaledV_cons (a : Vec F S512x512 .f32) (s : Vec F S1024x128 .f32) (c r r' : Nat) (l : List (Nat × Nat)) :
    scaledV a s c ((r, r') :: l) = mulf (blk 8 128 1 a r c) (blk 8 128 1 s r' 0) :: scaledV a s c l := rfl
theorem rowsV_nil (b : Vec F S288x128 .f32) : rowsV b [] = [] := rfl
theorem rowsV_cons (b : Vec F S288x128 .f32) (o : Nat) (l : List Nat) : rowsV b (o :: l) = blk 8 128 1 b o 0 :: rowsV b l := rfl
theorem stridedV_nil (b : Vec F S288x128 .f32) : stridedV b [] = [] := rfl
theorem stridedV_cons (b : Vec F S288x128 .f32) (o : Nat) (l : List Nat) : stridedV b (o :: l) = blk 8 128 9 b o 0 :: stridedV b l := rfl
theorem wordsV_nil (b : Vec F S128x128 .i32) : wordsV b [] = [] := rfl
theorem wordsV_cons (b : Vec F S128x128 .i32) (o : Nat) (l : List Nat) : wordsV b (o :: l) = weights (blk 1 128 1 b o 0) :: wordsV b l := rfl

/-! ## The triples -/

section Runs

variable (c : Dev nD) (E : Set ℕ)

/-- A program's weakest precondition on core `c`. -/
local notation "WP" => wp frame (wpE (defs₀ (F := F)) Variants.none c none) E

theorem blk_self {n k : Nat} [NeZero n] [NeZero k] {α : Type} (x : (⟨2, ![n, k]⟩ : Shape).Idx → α) : blk n k 1 x 0 0 = x := by
  funext i; show cell x (0 + 1 * _) (0 + _) = _; rw [Nat.zero_add, Nat.zero_add, Nat.one_mul, cell_val]

theorem setBlk_self {n k : Nat} [NeZero n] [NeZero k] {α : Type} (x w : (⟨2, ![n, k]⟩ : Shape).Idx → α) : setBlk n k x 0 0 w = w := by
  funext i
  unfold setBlk
  rw [if_pos ⟨Nat.zero_le _, by rw [Nat.zero_add]; exact ValueIdx.idx2_lt0 i, Nat.zero_le _, by rw [Nat.zero_add]; exact ValueIdx.idx2_lt1 i⟩]
  exact cell_val w i

theorem scaled_run {q q' : PosShare TreeShare} {a : Memref sig .tc .vmem S512x512 .f32} {b : Memref sig .tc .vmem S1024x128 .f32} {k : Nat} (hk : k + 128 ≤ 512)
    (x : Vec F S512x512 .f32) (y : Vec F S1024x128 .f32) : ∀ (l : List (Nat × Nat)) (h : ∀ p ∈ l, p.1 + 8 ≤ 512 ∧ p.2 + 8 ≤ 1024) (Q : List (FVec F S8x128 .f32) → sProp 𝕄),
    iprop(owns (c : Thread nD τ) a q x ∗ owns (c : Thread nD τ) b q' y)
      ⊢ iprop((iprop(owns (c : Thread nD τ) a q x ∗ owns (c : Thread nD τ) b q' y) -∗ Q (scaledV x y k l)) -∗ WP (scaled (F := F) a b k hk l h) Q)
  | [], h, Q => by
    unfold scaled
    rw [scaledV_nil]
    iintro H HK
    iapply (le_wp_ret _ _ _ _ _)
    iapply HK; iexact H
  | (r, s) :: l, h, Q => by
    unfold scaled
    rw [scaledV_cons]
    simp only [wp_bind]
    iintro ⟨HA, HB⟩ HK
    iapply (wp_load_owns _ _ _ _) $$ HA
    iintro HA
    iapply (wp_load_owns _ _ _ _) $$ HB
    iintro HB
    iapply (scaled_run hk x y l _ _) $$ [HA HB]
    · isplitl [HA] <;> iassumption
    iintro H
    iapply (le_wp_ret _ _ _ _ _)
    rw [load_at, load_at]
    iapply HK; iexact H

theorem loadRows_run {q : PosShare TreeShare} {b : Memref sig .tc .vmem S288x128 .f32} (x : Vec F S288x128 .f32) :
    ∀ (l : List Nat) (h : ∀ o ∈ l, o + 8 ≤ 288) (Q : List (FVec F S8x128 .f32) → sProp 𝕄),
    owns (c : Thread nD τ) b q x ⊢ iprop((owns (c : Thread nD τ) b q x -∗ Q (rowsV x l)) -∗ WP (loadRows (F := F) b l h) Q)
  | [], h, Q => by
    unfold loadRows
    rw [rowsV_nil]
    iintro H HK
    iapply (le_wp_ret _ _ _ _ _)
    iapply HK; iexact H
  | o :: l, h, Q => by
    unfold loadRows
    rw [rowsV_cons]
    simp only [wp_bind]
    iintro H HK
    iapply (wp_load_owns _ _ _ _) $$ H
    iintro H
    iapply (loadRows_run x l _ _) $$ H
    iintro H
    iapply (le_wp_ret _ _ _ _ _)
    rw [load_at]
    iapply HK; iexact H

theorem loadStrided_run {q : PosShare TreeShare} {b : Memref sig .tc .vmem S288x128 .f32} (x : Vec F S288x128 .f32) :
    ∀ (l : List Nat) (h : ∀ o ∈ l, o + 64 ≤ 288) (Q : List (FVec F S8x128 .f32) → sProp 𝕄),
    owns (c : Thread nD τ) b q x ⊢ iprop((owns (c : Thread nD τ) b q x -∗ Q (stridedV x l)) -∗ WP (loadStrided (F := F) b l h) Q)
  | [], h, Q => by
    unfold loadStrided
    rw [stridedV_nil]
    iintro H HK
    iapply (le_wp_ret _ _ _ _ _)
    iapply HK; iexact H
  | o :: l, h, Q => by
    unfold loadStrided
    rw [stridedV_cons]
    simp only [wp_bind]
    iintro H HK
    iapply (wp_load_owns _ _ _ _) $$ H
    iintro H
    iapply (loadStrided_run x l _ _) $$ H
    iintro H
    iapply (le_wp_ret _ _ _ _ _)
    rw [load_strided]
    iapply HK; iexact H

theorem storeRows_run {b : Memref sig .tc .vmem S288x128 .f32} (val : Nat → FVec F S8x128 .f32) :
    ∀ (l : List Nat) (h : ∀ o ∈ l, o + 8 ≤ 288) (k : Nat) (x : Vec F S288x128 .f32) (Q : PUnit → sProp 𝕄),
    owns (c : Thread nD τ) b fullShare x ⊢ iprop((owns (c : Thread nD τ) b fullShare (putRows val l k x) -∗ Q ⟨⟩) -∗ WP (storeRows (F := F) b val l h k) Q)
  | [], h, k, x, Q => by
    unfold storeRows
    iintro H HK
    iapply (le_wp_ret _ _ _ _ _)
    iapply HK; iexact H
  | o :: l, h, k, x, Q => by
    unfold storeRows
    simp only [wp_bind]
    iintro H HK
    iapply (wp_load_owns _ _ _ _) $$ H
    iintro H
    iapply (wp_store_owns _ _ _ _) $$ H
    iintro H
    rw [put_at, shapeCast_self]
    iapply (storeRows_run val l _ (k + 1) _ _) $$ H
    iexact HK

theorem storeStrided_run {b : Memref sig .tc .vmem S288x128 .f32} (val : Nat → FVec F S8x128 .f32) :
    ∀ (l : List Nat) (h : ∀ o ∈ l, o + 64 ≤ 288) (k : Nat) (x : Vec F S288x128 .f32) (Q : PUnit → sProp 𝕄),
    owns (c : Thread nD τ) b fullShare x ⊢ iprop((owns (c : Thread nD τ) b fullShare (putStrided val l k x) -∗ Q ⟨⟩) -∗ WP (storeStrided (F := F) b val l h k) Q)
  | [], h, k, x, Q => by
    unfold storeStrided
    iintro H HK
    iapply (le_wp_ret _ _ _ _ _)
    iapply HK; iexact H
  | o :: l, h, k, x, Q => by
    unfold storeStrided
    simp only [wp_bind]
    iintro H HK
    iapply (wp_load_owns _ _ _ _) $$ H
    iintro H
    iapply (wp_store_owns _ _ _ _) $$ H
    iintro H
    rw [put_strided_eq, shapeCast_self]
    iapply (storeStrided_run val l _ (k + 1) _ _) $$ H
    iexact HK

theorem outTile_run {qv qb : PosShare TreeShare} {v : Memref sig .tc .vmem S1x1x1024 .f32} {y : Memref sig .tc .vmem S512x1024 .bf16} {hy : y.IsWhole} {b : Memref sig .tc .vmem S288x128 .f32}
    {l : List Nat} {hl : ∀ o ∈ l, o + 8 ≤ 288} {k d : Nat} {hc : k + 128 ≤ 512} {hc' : k % 128 = 0} {hd : d + 128 ≤ 1024}
    (xv : Vec F S1x1x1024 .f32) (xy : Vec F S512x1024 .bf16) (xb : Vec F S288x128 .f32) (Q : PUnit → sProp 𝕄) :
    iprop(owns (c : Thread nD τ) v qv xv ∗ owns (c : Thread nD τ) y fullShare xy ∗ owns (c : Thread nD τ) b qb xb)
      ⊢ iprop((iprop(owns (c : Thread nD τ) v qv xv ∗ owns (c : Thread nD τ) y fullShare (outV xv xb l k d xy) ∗ owns (c : Thread nD τ) b qb xb) -∗ Q ⟨⟩)
        -∗ WP (outTile (F := F) v y hy b l hl k d hc hc' hd) Q) := by
  unfold outTile
  simp only [wp_bind]
  iintro ⟨HV, HY, HB⟩ HK
  iapply (loadRows_run c E xb l _ _) $$ HB
  iintro HB
  iapply (wp_load_owns _ _ _ _) $$ HV
  iintro HV
  iapply (wp_load_owns _ _ _ _) $$ HY
  iintro HY
  iapply (wp_store_owns _ _ _ _) $$ HY
  iintro HY
  rw [put_at, load_unit3]
  iapply HK
  isplitl [HV]; · iexact HV
  isplitl [HY]; · iexact HY
  iexact HB

theorem rotation_run {qv qs qa : PosShare TreeShare} {v : Memref sig .tc .vmem S1x1x1024 .f32} {y : Memref sig .tc .vmem S512x1024 .bf16} {hy : y.IsWhole}
    {b : Memref sig .tc .vmem S288x128 .f32} {s : Memref sig .tc .vmem S1024x128 .f32} {a : Memref sig .tc .vmem S512x512 .f32}
    {l0 l1 : List (Nat × Nat)} {h0 : ∀ p ∈ l0, p.1 + 8 ≤ 512 ∧ p.2 + 8 ≤ 1024} {h1 : ∀ p ∈ l1, p.1 + 8 ≤ 512 ∧ p.2 + 8 ≤ 1024}
    {k d d' : Nat} {hc : k + 128 ≤ 512} {hc' : k % 128 = 0} {hd : d + 128 ≤ 1024} {hd' : d' + 128 ≤ 1024}
    (xv : Vec F S1x1x1024 .f32) (xy : Vec F S512x1024 .bf16) (xb : Vec F S288x128 .f32) (xs : Vec F S1024x128 .f32) (xa : Vec F S512x512 .f32) (Q : PUnit → sProp 𝕄) :
    iprop(owns (c : Thread nD τ) v qv xv ∗ owns (c : Thread nD τ) y fullShare xy ∗ owns (c : Thread nD τ) b fullShare xb
        ∗ owns (c : Thread nD τ) s qs xs ∗ owns (c : Thread nD τ) a qa xa)
      ⊢ iprop((iprop(owns (c : Thread nD τ) v qv xv ∗ owns (c : Thread nD τ) y fullShare (rotationV xv xa xs l0 l1 k d d' (xy, xb)).1
            ∗ owns (c : Thread nD τ) b fullShare (rotationV xv xa xs l0 l1 k d d' (xy, xb)).2
            ∗ owns (c : Thread nD τ) s qs xs ∗ owns (c : Thread nD τ) a qa xa) -∗ Q ⟨⟩)
        -∗ WP (rotation (F := F) v y hy b s a l0 l1 h0 h1 k d d' hc hc' hd hd') Q) := by
  unfold rotation
  simp only [wp_bind]
  iintro ⟨HV, HY, HB, HS, HA⟩ HK
  iapply (scaled_run c E _ xa xs l0 _ _) $$ [HA HS]
  · isplitl [HA] <;> iassumption
  iintro ⟨HA, HS⟩
  iapply (storeRows_run c E _ rows0 _ 0 xb _) $$ HB
  iintro HB
  iapply (scaled_run c E _ xa xs l1 _ _) $$ [HA HS]
  · isplitl [HA] <;> iassumption
  iintro ⟨HA, HS⟩
  iapply (storeRows_run c E _ rows1 _ 0 _ _) $$ HB
  iintro HB
  iapply (loadStrided_run c E _ strided0 _ _) $$ HB
  iintro HB
  iapply (storeStrided_run c E _ strided0 _ 0 _ _) $$ HB
  iintro HB
  iapply (loadStrided_run c E _ strided1 _ _) $$ HB
  iintro HB
  iapply (storeStrided_run c E _ strided1 _ 0 _ _) $$ HB
  iintro HB
  iapply (outTile_run c E xv xy _ _) $$ [HV HY HB]
  · isplitl [HV]; · iexact HV
    isplitl [HY]; · iexact HY
    iexact HB
  iintro ⟨HV, HY, HB⟩
  iapply (outTile_run c E xv _ _ _) $$ [HV HY HB]
  · isplitl [HV]; · iexact HV
    isplitl [HY]; · iexact HY
    iexact HB
  iintro ⟨HV, HY, HB⟩
  iapply HK
  isplitl [HV]; · iexact HV
  isplitl [HY]; · iexact HY
  isplitl [HB]; · iexact HB
  isplitl [HS]; · iexact HS
  iexact HA

theorem rotTok_run {qv qs qa : PosShare TreeShare} {v : Memref sig .tc .vmem S1x1x1024 .f32} {y : Memref sig .tc .vmem S512x1024 .bf16} {hy : y.IsWhole}
    {b : Memref sig .tc .vmem S288x128 .f32} {s : Memref sig .tc .vmem S1024x128 .f32} {a : Memref sig .tc .vmem S512x512 .f32}
    {l0 l1 l2 l3 : List (Nat × Nat)} {h : ∀ l ∈ [l0, l1, l2, l3], ∀ p ∈ l, p.1 + 8 ≤ 512 ∧ p.2 + 8 ≤ 1024}
    {k d0 d1 d2 d3 : Nat} {hc : k + 128 ≤ 512} {hc' : k % 128 = 0} {hd : ∀ d ∈ [d0, d1, d2, d3], d + 128 ≤ 1024}
    (xv : Vec F S1x1x1024 .f32) (p : Vec F S512x1024 .bf16 × Vec F S288x128 .f32) (xs : Vec F S1024x128 .f32) (xa : Vec F S512x512 .f32) (Q : PUnit → sProp 𝕄) :
    iprop(owns (c : Thread nD τ) v qv xv ∗ owns (c : Thread nD τ) y fullShare p.1 ∗ owns (c : Thread nD τ) b fullShare p.2
        ∗ owns (c : Thread nD τ) s qs xs ∗ owns (c : Thread nD τ) a qa xa)
      ⊢ iprop((iprop(owns (c : Thread nD τ) v qv xv ∗ owns (c : Thread nD τ) y fullShare (rotTokV xv xa xs l0 l1 l2 l3 k d0 d1 d2 d3 p).1
            ∗ owns (c : Thread nD τ) b fullShare (rotTokV xv xa xs l0 l1 l2 l3 k d0 d1 d2 d3 p).2
            ∗ owns (c : Thread nD τ) s qs xs ∗ owns (c : Thread nD τ) a qa xa) -∗ Q ⟨⟩)
        -∗ WP (rotTok (F := F) v y hy b s a l0 l1 l2 l3 h k d0 d1 d2 d3 hc hc' hd) Q) := by
  obtain ⟨xy, xb⟩ := p
  unfold rotTok
  simp only [wp_bind]
  iintro H HK
  iapply (rotation_run c E xv xy xb xs xa _) $$ H
  iintro H
  iapply (rotation_run c E xv _ _ xs xa _) $$ H
  iexact HK

theorem rotHalf_run {qv qs qa : PosShare TreeShare} {v : Memref sig .tc .vmem S1x1x1024 .f32} {y : Memref sig .tc .vmem S512x1024 .bf16} {hy : y.IsWhole}
    {b : Memref sig .tc .vmem S288x128 .f32} {s : Memref sig .tc .vmem S1024x128 .f32} {a : Memref sig .tc .vmem S512x512 .f32}
    {l0 l1 l2 l3 : List (Nat × Nat)} {h : ∀ l ∈ [l0, l1, l2, l3], ∀ p ∈ l, p.1 + 8 ≤ 512 ∧ p.2 + 8 ≤ 1024}
    {d0 d1 d2 d3 : Nat} {hd : ∀ d ∈ [d0, d1, d2, d3], d + 128 ≤ 1024}
    (xv : Vec F S1x1x1024 .f32) (p : Vec F S512x1024 .bf16 × Vec F S288x128 .f32) (xs : Vec F S1024x128 .f32) (xa : Vec F S512x512 .f32) (Q : PUnit → sProp 𝕄) :
    iprop(owns (c : Thread nD τ) v qv xv ∗ owns (c : Thread nD τ) y fullShare p.1 ∗ owns (c : Thread nD τ) b fullShare p.2
        ∗ owns (c : Thread nD τ) s qs xs ∗ owns (c : Thread nD τ) a qa xa)
      ⊢ iprop((iprop(owns (c : Thread nD τ) v qv xv ∗ owns (c : Thread nD τ) y fullShare (rotHalfV xv xa xs l0 l1 l2 l3 d0 d1 d2 d3 p).1
            ∗ owns (c : Thread nD τ) b fullShare (rotHalfV xv xa xs l0 l1 l2 l3 d0 d1 d2 d3 p).2
            ∗ owns (c : Thread nD τ) s qs xs ∗ owns (c : Thread nD τ) a qa xa) -∗ Q ⟨⟩)
        -∗ WP (rotHalf (F := F) v y hy b s a l0 l1 l2 l3 h d0 d1 d2 d3 hd) Q) := by
  unfold rotHalf
  simp only [wp_bind]
  iintro H HK
  iapply (rotTok_run c E xv p xs xa _) $$ H
  iintro H
  iapply (rotTok_run c E xv _ xs xa _) $$ H
  iintro H
  iapply (rotTok_run c E xv _ xs xa _) $$ H
  iintro H
  iapply (rotTok_run c E xv _ xs xa _) $$ H
  iexact HK

theorem loadWords_run {q : PosShare TreeShare} {b : Memref sig .tc .vmem S128x128 .i32} (x : Vec F S128x128 .i32) :
    ∀ (l : List Nat) (h : ∀ o ∈ l, o + 1 ≤ 128) (Q : List (FVec F S8x128 .f32) → sProp 𝕄),
    owns (c : Thread nD τ) b q x ⊢ iprop((owns (c : Thread nD τ) b q x -∗ Q (wordsV x l)) -∗ WP (loadWords (F := F) b l h) Q)
  | [], h, Q => by
    unfold loadWords
    rw [wordsV_nil]
    iintro H HK
    iapply (le_wp_ret _ _ _ _ _)
    iapply HK; iexact H
  | o :: l, h, Q => by
    unfold loadWords
    rw [wordsV_cons]
    simp only [wp_bind]
    iintro H HK
    iapply (wp_load_owns _ _ _ _) $$ H
    iintro H
    iapply (loadWords_run x l _ _) $$ H
    iintro H
    iapply (le_wp_ret _ _ _ _ _)
    rw [load_at]
    iapply HK; iexact H

theorem tiles_run {b : Memref sig .tc .vmem S128x128 .i32} {w : Memref sig .tc .vmem S2x1024x4096 .bf16} {hw : w.IsWhole} (x : Vec F S128x128 .i32) :
    ∀ (l : List (List Nat × (Fin 3 → Nat))) (h : ∀ p ∈ l, (∀ o ∈ p.1, o + 1 ≤ 128) ∧ Fits p.2) (xw : Vec F S2x1024x4096 .bf16) (Q : PUnit → sProp 𝕄),
    iprop(owns (c : Thread nD τ) b fullShare x ∗ owns (c : Thread nD τ) w fullShare xw)
      ⊢ iprop((iprop(owns (c : Thread nD τ) b fullShare x ∗ owns (c : Thread nD τ) w fullShare (tilesV x l xw)) -∗ Q ⟨⟩) -∗ WP (tiles (F := F) b w hw l h) Q)
  | [], h, xw, Q => by
    unfold tiles
    iintro H HK
    iapply (le_wp_ret _ _ _ _ _)
    iapply HK; iexact H
  | (r, o) :: l, h, xw, Q => by
    unfold tiles
    simp only [wp_bind]
    iintro ⟨HB, HW⟩ HK
    iapply (loadWords_run c E x r _ _) $$ HB
    iintro HB
    iapply (wp_load_owns _ _ _ _) $$ HW
    iintro HW
    iapply (wp_store_owns _ _ _ _) $$ HW
    iintro HW
    rw [put_unit3_eq]
    iapply (tiles_run x l _ _ _) $$ [HB HW]
    · isplitl [HB] <;> iassumption
    iexact HK

theorem decode_run {q : PosShare TreeShare} {x : Memref sig .tc .vmem S1024x512 .i16} {b : Memref sig .tc .vmem S128x128 .i32} {w : Memref sig .tc .vmem S2x1024x4096 .bf16} {hw : w.IsWhole}
    {oc : Fin 2 → Nat} {hoc : ∀ a, oc a + S128x128.size a ≤ S1024x512.size a} {o0 o1 o2 o3 o4 o5 o6 o7 : Fin 3 → Nat}
    {h : ∀ p ∈ runs o0 o1 o2 o3 o4 o5 o6 o7, (∀ o ∈ p.1, o + 1 ≤ 128) ∧ Fits p.2}
    (xx : Vec F S1024x512 .i16) (xb : Vec F S128x128 .i32) (xw : Vec F S2x1024x4096 .bf16) (Q : PUnit → sProp 𝕄) :
    iprop(owns (c : Thread nD τ) x q xx ∗ owns (c : Thread nD τ) b fullShare xb ∗ owns (c : Thread nD τ) w fullShare xw)
      ⊢ iprop((iprop(owns (c : Thread nD τ) x q xx ∗ owns (c : Thread nD τ) b fullShare (wordsAt xx oc)
            ∗ owns (c : Thread nD τ) w fullShare (tilesV (wordsAt xx oc) (runs o0 o1 o2 o3 o4 o5 o6 o7) xw)) -∗ Q ⟨⟩)
        -∗ WP (decode (F := F) x b w hw oc hoc o0 o1 o2 o3 o4 o5 o6 o7 h) Q) := by
  unfold decode
  simp only [wp_bind]
  iintro ⟨HX, HB, HW⟩ HK
  iapply (wp_load_owns _ _ _ _) $$ HX
  iintro HX
  iapply (wp_load_owns _ _ _ _) $$ HB
  iintro HB
  iapply (wp_store_owns _ _ _ _) $$ HB
  iintro HB
  rw [put_at, load_unit, shapeCast_self, setBlk_self]
  iapply (tiles_run c E _ (runs o0 o1 o2 o3 o4 o5 o6 o7) _ xw _) $$ [HB HW]
  · isplitl [HB]
    · iexact HB
    iexact HW
  iintro ⟨HB, HW⟩
  iapply HK
  isplitl [HX]; · iexact HX
  isplitl [HB]; · iexact HB
  iexact HW

theorem scales_run {q : PosShare TreeShare} {x : Memref sig .tc .vmem S1x1x1024 .f32} {s : Memref sig .tc .vmem S1024x128 .f32} (xx : Vec F S1x1x1024 .f32) :
    ∀ (l : List Nat) (h : ∀ o ∈ l, o + 128 ≤ 1024) (xs : Vec F S1024x128 .f32) (Q : PUnit → sProp 𝕄),
    iprop(owns (c : Thread nD τ) x q xx ∗ owns (c : Thread nD τ) s fullShare xs)
      ⊢ iprop((iprop(owns (c : Thread nD τ) x q xx ∗ owns (c : Thread nD τ) s fullShare (scalesV xx l xs)) -∗ Q ⟨⟩) -∗ WP (scales (F := F) x s l h) Q)
  | [], h, xs, Q => by
    unfold scales
    iintro H HK
    iapply (le_wp_ret _ _ _ _ _)
    iapply HK; iexact H
  | o :: l, h, xs, Q => by
    unfold scales
    simp only [wp_bind]
    iintro ⟨HX, HS⟩ HK
    iapply (wp_load_owns _ _ _ _) $$ HX
    iintro HX
    iapply (wp_load_owns _ _ _ _) $$ HS
    iintro HS
    iapply (wp_store_owns _ _ _ _) $$ HS
    iintro HS
    rw [put_at, load_unit3]
    iapply (scales_run xx l _ _ _) $$ [HX HS]
    · isplitl [HX]
      · iexact HX
      iexact HS
    iexact HK

theorem product_run {qw qx : PosShare TreeShare} {w : Memref sig .tc .vmem S2x1024x4096 .bf16} {x : Memref sig .tc .vmem S512x4096 .bf16} {a : Memref sig .tc .vmem S512x512 .f32}
    {o : Fin 3 → Nat} {ho : ∀ x, o x + S1x512x4096.size x ≤ S2x1024x4096.size x}
    (xw : Vec F S2x1024x4096 .bf16) (xx : Vec F S512x4096 .bf16) (xa : Vec F S512x512 .f32) (Q : PUnit → sProp 𝕄) :
    iprop(owns (c : Thread nD τ) w qw xw ∗ owns (c : Thread nD τ) x qx xx ∗ owns (c : Thread nD τ) a fullShare xa)
      ⊢ iprop((iprop(owns (c : Thread nD τ) w qw xw ∗ owns (c : Thread nD τ) x qx xx ∗ owns (c : Thread nD τ) a fullShare (productV xw xx o)) -∗ Q ⟨⟩)
        -∗ WP (product (F := F) w x a o ho) Q) := by
  unfold product
  simp only [wp_bind]
  iintro ⟨HW, HX, HA⟩ HK
  iapply (wp_load_owns _ _ _ _) $$ HW
  iintro HW
  iapply (wp_load_owns _ _ _ _) $$ HX
  iintro HX
  iapply (wp_load_owns _ _ _ _) $$ HA
  iintro HA
  iapply (wp_store_owns _ _ _ _) $$ HA
  iintro HA
  rw [put_at, load_unit3, load_at, setBlk_self, blk_self]
  iapply HK
  isplitl [HW]; · iexact HW
  isplitl [HX]; · iexact HX
  iexact HA

end Runs

end Cert.MainIdeal.Hand

end
-- ==== Proof.MainIdeal.Eq.lean ====
/-
  The printed body of the main kernel is the body written with functions.
-/
module

public import proofs.«01_k».proof.Proof.MainIdeal.Units

@[expose] public section

open scoped Idealize.ShloMosaic.ProgEq Idealize.ShloMosaic.Chain
open Idealize.ShloMosaic Idealize.SL.Sem

set_option maxRecDepth 65536
set_option maxHeartbeats 0

noncomputable section

namespace Cert.MainIdeal.Hand

/-- The printed body, at any float type. -/
def printed (_ _ : Unit) {F : FTy → Type} [FloatOps F] [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) : Prog (TpuEff nD τ sig (Elt F) Λ₀ .tc) PUnit :=
  Cert.MainIdeal.cc0_trellis_matmul i arg2 harg2 arg3 harg3 arg4 harg4 arg5 harg5 arg6 harg6 arg7 harg7 arg8 harg8 arg9 harg9 arg10 harg10 arg11 harg11 arg12 harg12

/-- The body written with functions, at any float type. -/
def written (_ _ : Unit) {F : FTy → Type} [FloatOps F] [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) : Prog (TpuEff nD τ sig (Elt F) Λ₀ .tc) PUnit :=
  Cert.MainIdeal.Hand.cc0_trellis_matmul i arg2 harg2 arg3 harg3 arg4 harg4 arg5 harg5 arg6 harg6 arg7 harg7 arg8 harg8 arg9 harg9 arg10 harg10 arg11 harg11 arg12 harg12

prog_eq Cert.MainIdeal.Hand.printed_eq : Cert.MainIdeal.Hand.printed Cert.MainIdeal.Hand.written from Cert.MainIdeal.Hand.A to Cert.MainIdeal.Hand.A at () () by intros; rfl

theorem body_eq {F : FTy → Type} [FloatOps F] [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole) :
    Cert.MainIdeal.cc0_trellis_matmul (F := F) i arg2 harg2 arg3 harg3 arg4 harg4 arg5 harg5 arg6 harg6 arg7 harg7 arg8 harg8 arg9 harg9 arg10 harg10 arg11 harg11 arg12 harg12 = Cert.MainIdeal.Hand.cc0_trellis_matmul i arg2 harg2 arg3 harg3 arg4 harg4 arg5 harg5 arg6 harg6 arg7 harg7 arg8 harg8 arg9 harg9 arg10 harg10 arg11 harg11 arg12 harg12 :=
  printed_eq i arg2 harg2 arg3 harg3 arg4 harg4 arg5 harg5 arg6 harg6 arg7 harg7 arg8 harg8 arg9 harg9 arg10 harg10 arg11 harg11 arg12 harg12

end Cert.MainIdeal.Hand

end

end
-- ==== Proof.MainIdeal.Body.lean ====
/-
  The triple of the main kernel's body: what it leaves in its output block, its weights and its scales, as functions of what it finds.
-/
module

public import proofs.«01_k».proof.Proof.MainIdeal.Runs
public import proofs.«01_k».proof.Proof.MainIdeal.Eq

@[expose] public section

set_option maxRecDepth 16384

noncomputable section

namespace Cert.MainIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open _root_.Hand
open Cert.MainIdeal Facts₀ Facts

variable {F : FTy → Type} [FloatOps F]

local notation "𝕄" => MT nD τ sig Unit (Elt F) ℕ (UR sig nD τ) ℕ

/-- The weights after one trip of the loop that decodes the first block. -/
def tripV (x : Vec F S1024x512 .i16) (t : Fin k0_t1_loop.trips) (w : Vec F S2x1024x4096 .bf16) : Vec F S2x1024x4096 .bf16 :=
  tilesV (wordsAt x (k0_off1 t)) (runs (k0_off2 t 0#32) (k0_off2 t 1#32) (k0_off2 t 2#32) (k0_off2 t 3#32) (k0_off2 t 4#32) (k0_off2 t 5#32) (k0_off2 t 6#32) (k0_off2 t 7#32)) w

/-- The weights after `k` trips of it. -/
def loopV (x : Vec F S1024x512 .i16) (w : Vec F S2x1024x4096 .bf16) : Nat → Vec F S2x1024x4096 .bf16
  | 0 => w
  | k + 1 => if h : k < k0_t1_loop.trips then tripV x ⟨k, h⟩ (loopV x w k) else loopV x w k

/-- The weights that the products are taken of. -/
def firstV (i : grid0.Coords) (x : Vec F S1024x512 .i16) (w : Vec F S2x1024x4096 .bf16) : Vec F S2x1024x4096 .bf16 :=
  if k0_cond1 i = 1#1 then loopV x w k0_t1_loop.trips else w

/-- The scales that the products are multiplied by. -/
def freshV (i : grid0.Coords) (x : Vec F S1x1x1024 .f32) (s : Vec F S1024x128 .f32) : Vec F S1024x128 .f32 :=
  if Scalar.cmpi .ne (Scalar.extui (Scalar.cmpi .eq (BitVec.ofNat 32 (i 1).val) 0#32) : BitVec 32) 0#32 = 1#1 then scalesV x [0, 128, 256, 384, 512, 640, 768, 896] s else s

/-- The weights after the three sub-blocks that each point decodes. -/
def nextV (i : grid0.Coords) (x : Vec F S1024x512 .i16) (w : Vec F S2x1024x4096 .bf16) : Vec F S2x1024x4096 .bf16 :=
  tilesV (wordsAt x (k0_off5 i 2#32)) (runs (k0_off6 i 2#32 0#32) (k0_off6 i 2#32 1#32) (k0_off6 i 2#32 2#32) (k0_off6 i 2#32 3#32) (k0_off6 i 2#32 4#32) (k0_off6 i 2#32 5#32) (k0_off6 i 2#32 6#32) (k0_off6 i 2#32 7#32)) (tilesV (wordsAt x (k0_off5 i 1#32)) (runs (k0_off6 i 1#32 0#32) (k0_off6 i 1#32 1#32) (k0_off6 i 1#32 2#32) (k0_off6 i 1#32 3#32) (k0_off6 i 1#32 4#32) (k0_off6 i 1#32 5#32) (k0_off6 i 1#32 6#32) (k0_off6 i 1#32 7#32)) (tilesV (wordsAt x (k0_off5 i 0#32)) (runs (k0_off6 i 0#32 0#32) (k0_off6 i 0#32 1#32) (k0_off6 i 0#32 2#32) (k0_off6 i 0#32 3#32) (k0_off6 i 0#32 4#32) (k0_off6 i 0#32 5#32) (k0_off6 i 0#32 6#32) (k0_off6 i 0#32 7#32)) w))

/-- The output block (and the rotation's scratch) of weights `w`, scales `s`, output scales `v` and tokens `x`. -/
def outsV (i : grid0.Coords) (w : Vec F S2x1024x4096 .bf16) (x : Vec F S512x4096 .bf16) (s : Vec F S1024x128 .f32) (v : Vec F S1x1x1024 .f32)
    (p : Vec F S512x1024 .bf16 × Vec F S288x128 .f32) : Vec F S512x1024 .bf16 × Vec F S288x128 .f32 :=
  rotHalfV v (productV w x (k0_off4 i)) s L10 L11 L12 L13 512 640 768 896 (rotHalfV v (productV w x (k0_off3 i)) s L00 L01 L02 L03 0 128 256 384 p)

section Runs

variable (c : Dev nD) (E : Set ℕ)

local notation "WP" => wp frame (wpE (defs₀ (F := F)) Variants.none c none) E

theorem first_run [Facts] {q : PosShare TreeShare} {i : grid0.Coords} {x : Memref sig .tc .vmem S1024x512 .i16} {b : Memref sig .tc .vmem S128x128 .i32} {w : Memref sig .tc .vmem S2x1024x4096 .bf16} {hw : w.IsWhole}
    (xx : Vec F S1024x512 .i16) (xb : Vec F S128x128 .i32) (xw : Vec F S2x1024x4096 .bf16) (Q : PUnit → sProp 𝕄) :
    iprop(owns (c : Thread nD τ) x q xx ∗ owns (c : Thread nD τ) b fullShare xb ∗ owns (c : Thread nD τ) w fullShare xw)
      ⊢ iprop((iprop(owns (c : Thread nD τ) x q xx ∗ (∃ d, owns (c : Thread nD τ) b fullShare d)
            ∗ owns (c : Thread nD τ) w fullShare (firstV i xx xw)) -∗ Q ⟨⟩)
        -∗ WP (first (F := F) i x b w hw) Q) := by
  unfold first firstV
  by_cases h : k0_cond1 i = 1#1
  · rw [dif_pos h, if_pos h, Scf.Loop.for]
    iintro ⟨HX, HB, HW⟩ HK
    iapply (Scf.wp_for_bind frame (wpE (defs₀ (F := F)) Variants.none c none) E k0_t1_loop.lb k0_t1_loop.ub k0_t1_loop.st (k0_t1_ok i h) ()
      _ (fun k _ => iprop(owns (c : Thread nD τ) x q xx ∗ (∃ d, owns (c : Thread nD τ) b fullShare d) ∗ owns (c : Thread nD τ) w fullShare (loopV xx xw k))) ?_) $$ [HX HB HW]
    · intro t acc
      simp only [wp_bind]
      iintro ⟨HX, ⟨%d, HB⟩, HW⟩
      iapply (decode_run c E xx d _ _) $$ [HX HB HW]
      · isplitl [HX]; · iexact HX
        isplitl [HB]; · iexact HB
        iexact HW
      iintro ⟨HX, HB, HW⟩
      iapply (le_wp_ret _ _ _ _ _)
      isplitl [HX]; · iexact HX
      isplitl [HB]; · iexists _; iexact HB
      rw [loopV, dif_pos t.isLt]
      iexact HW
    · isplitl [HX]; · iexact HX
      isplitl [HB]; · iexists _; iexact HB
      iexact HW
    iintro %acc H
    iapply (le_wp_ret _ _ _ _ _)
    iapply HK
    iexact H
  · rw [dif_neg h, if_neg h]
    iintro ⟨HX, HB, HW⟩ HK
    iapply (le_wp_ret _ _ _ _ _)
    iapply HK
    isplitl [HX]; · iexact HX
    isplitl [HB]; · iexists _; iexact HB
    iexact HW

theorem fresh_run {q : PosShare TreeShare} {i : grid0.Coords} {x : Memref sig .tc .vmem S1x1x1024 .f32} {s : Memref sig .tc .vmem S1024x128 .f32} (xx : Vec F S1x1x1024 .f32)
    (xs : Vec F S1024x128 .f32) (Q : PUnit → sProp 𝕄) :
    iprop(owns (c : Thread nD τ) x q xx ∗ owns (c : Thread nD τ) s fullShare xs)
      ⊢ iprop((iprop(owns (c : Thread nD τ) x q xx ∗ owns (c : Thread nD τ) s fullShare (freshV i xx xs)) -∗ Q ⟨⟩) -∗ WP (fresh (F := F) i x s) Q) := by
  unfold fresh freshV
  by_cases h : Scalar.cmpi .ne (Scalar.extui (Scalar.cmpi .eq (BitVec.ofNat 32 (i 1).val) 0#32) : BitVec 32) 0#32 = 1#1
  · rw [dif_pos h, if_pos h]
    exact scales_run c E xx _ _ xs Q
  · rw [dif_neg h, if_neg h]
    iintro H HK
    iapply (le_wp_ret _ _ _ _ _)
    iapply HK
    iexact H

set_option maxHeartbeats 1000000 in
theorem body_run [Facts] (i : grid0.Coords) (arg2 : Memref sig .tc .vmem S1024x512 .i16) (harg2 : arg2.IsWhole) (arg3 : Memref sig .tc .vmem S1024x512 .i16) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S512x4096 .bf16) (harg6 : arg6.IsWhole) (arg7 : Memref sig .tc .vmem S512x1024 .bf16) (harg7 : arg7.IsWhole) (arg8 : Memref sig .tc .vmem S2x1024x4096 .bf16) (harg8 : arg8.IsWhole) (arg9 : Memref sig .tc .vmem S128x128 .i32) (harg9 : arg9.IsWhole) (arg10 : Memref sig .tc .vmem S288x128 .f32) (harg10 : arg10.IsWhole) (arg11 : Memref sig .tc .vmem S1024x128 .f32) (harg11 : arg11.IsWhole) (arg12 : Memref sig .tc .vmem S512x512 .f32) (harg12 : arg12.IsWhole)
    (x2 x3 : Vec F S1024x512 .i16) (x4 x5 : Vec F S1x1x1024 .f32) (x6 : Vec F S512x4096 .bf16) (y : Vec F S512x1024 .bf16) (w : Vec F S2x1024x4096 .bf16) (vt : Vec F S128x128 .i32)
    (bf : Vec F S288x128 .f32) (rs : Vec F S1024x128 .f32) (acc : Vec F S512x512 .f32) (Q : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare y ∗ owns (c : Thread nD τ) arg8 fullShare w ∗ owns (c : Thread nD τ) arg9 fullShare vt
        ∗ owns (c : Thread nD τ) arg10 fullShare bf ∗ owns (c : Thread nD τ) arg11 fullShare rs ∗ owns (c : Thread nD τ) arg12 fullShare acc)
      ⊢ iprop((iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare x6
            ∗ owns (c : Thread nD τ) arg7 fullShare (outsV i (firstV i x2 w) x6 (freshV i x4 rs) x5 (y, bf)).1
            ∗ owns (c : Thread nD τ) arg8 fullShare (nextV i x3 (firstV i x2 w)) ∗ (∃ d, owns (c : Thread nD τ) arg9 fullShare d)
            ∗ (∃ d, owns (c : Thread nD τ) arg10 fullShare d) ∗ owns (c : Thread nD τ) arg11 fullShare (freshV i x4 rs) ∗ (∃ d, owns (c : Thread nD τ) arg12 fullShare d)) -∗ Q ⟨⟩)
        -∗ WP (Cert.MainIdeal.cc0_trellis_matmul (F := F) i arg2 harg2 arg3 harg3 arg4 harg4 arg5 harg5 arg6 harg6 arg7 harg7 arg8 harg8 arg9 harg9 arg10 harg10 arg11 harg11 arg12 harg12) Q) := by
  rw [body_eq]
  unfold Hand.cc0_trellis_matmul
  simp only [wp_bind]
  iintro ⟨H2, H3, H4, H5, H6, H7, H8, H9, H10, H11, H12⟩ HK
  iapply (first_run c E x2 vt w _) $$ [H2 H9 H8]
  · isplitl [H2]; · iexact H2
    isplitl [H9]; · iexact H9
    iexact H8
  iintro ⟨H2, ⟨%vt', H9⟩, H8⟩
  iapply (fresh_run c E x4 rs _) $$ [H4 H11]
  · isplitl [H4]; · iexact H4
    iexact H11
  iintro ⟨H4, H11⟩
  iapply (product_run c E _ x6 acc _) $$ [H8 H6 H12]
  · isplitl [H8]; · iexact H8
    isplitl [H6]; · iexact H6
    iexact H12
  iintro ⟨H8, H6, H12⟩
  iapply (rotHalf_run c E x5 (y, bf) _ _ _) $$ [H5 H7 H10 H11 H12]
  · isplitl [H5]; · iexact H5
    isplitl [H7]; · iexact H7
    isplitl [H10]; · iexact H10
    isplitl [H11]; · iexact H11
    iexact H12
  iintro ⟨H5, H7, H10, H11, H12⟩
  iapply (product_run c E _ x6 _ _) $$ [H8 H6 H12]
  · isplitl [H8]; · iexact H8
    isplitl [H6]; · iexact H6
    iexact H12
  iintro ⟨H8, H6, H12⟩
  iapply (rotHalf_run c E x5 _ _ _ _) $$ [H5 H7 H10 H11 H12]
  · isplitl [H5]; · iexact H5
    isplitl [H7]; · iexact H7
    isplitl [H10]; · iexact H10
    isplitl [H11]; · iexact H11
    iexact H12
  iintro ⟨H5, H7, H10, H11, H12⟩
  iapply (decode_run c E x3 vt' _ _) $$ [H3 H9 H8]
  · isplitl [H3]; · iexact H3
    isplitl [H9]; · iexact H9
    iexact H8
  iintro ⟨H3, H9, H8⟩
  iapply (decode_run c E x3 _ _ _) $$ [H3 H9 H8]
  · isplitl [H3]; · iexact H3
    isplitl [H9]; · iexact H9
    iexact H8
  iintro ⟨H3, H9, H8⟩
  iapply (decode_run c E x3 _ _ _) $$ [H3 H9 H8]
  · isplitl [H3]; · iexact H3
    isplitl [H9]; · iexact H9
    iexact H8
  iintro ⟨H3, H9, H8⟩
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  iexists _; iexact H12

end Runs

end Cert.MainIdeal.Hand

end
-- ==== Proof.MainIdeal.Frame.lean ====
/-
  The frame of the main kernel: it runs from any memory and leaves its arguments as they were. Nothing is said of its output here.
-/
module

public import proofs.«01_k».proof.Proof.MainIdeal.Body
public import proofs.«01_k».proof.Proof.Gen.MainIdeal.Points
public import Idealize.ShloMosaic.Lib.Claim

@[expose] public section

set_option maxRecDepth 16384

noncomputable section

namespace Cert.MainIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MainIdeal Cert.MainIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1024x512 .i16 := win0_0.stage (cfg0.slots t 0)
abbrev ms0_1 (t : Fin cfg0.N) : Memref sig .tc .vmem S1024x512 .i16 := win0_1.stage (cfg0.slots t 1)
abbrev ms0_2 (t : Fin cfg0.N) : Memref sig .tc .vmem S1x1x1024 .f32 := win0_2.stage (cfg0.slots t 2)
abbrev ms0_3 (t : Fin cfg0.N) : Memref sig .tc .vmem S1x1x1024 .f32 := win0_3.stage (cfg0.slots t 3)
abbrev ms0_4 (t : Fin cfg0.N) : Memref sig .tc .vmem S512x4096 .bf16 := win0_4.stage (cfg0.slots t 4)
abbrev ms0_5 (t : Fin cfg0.N) : Memref sig .tc .vmem S512x1024 .bf16 := win0_5.stage (cfg0.slots t 5)
abbrev sc0 : Memref sig .tc .vmem S2x1024x4096 .bf16 := Memref.whole cc0_scratch0
abbrev sc1 : Memref sig .tc .vmem S128x128 .i32 := Memref.whole cc0_scratch1
abbrev sc2 : Memref sig .tc .vmem S288x128 .f32 := Memref.whole cc0_scratch2
abbrev sc3 : Memref sig .tc .vmem S1024x128 .f32 := Memref.whole cc0_scratch3
abbrev sc4 : Memref sig .tc .vmem S512x512 .f32 := Memref.whole cc0_scratch4

/-- The invariant between the points: the scratch operands at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)
          ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- Of the output nothing is said. -/
def forgets0 : Fin 6 → Bool := fun w => w.val == 5

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ _ _ _ _ _ _ _ _ _ _
    (iblk m c 0 t) (iblk m c 1 t) (iblk m c 2 t) (iblk m c 3 t) (iblk m c 4 t) d5 s0 s1 s2 s3 s4 _) $$ [H0 H1 H2 H3 H4 H5 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iintro ⟨H0, H1, H2, H3, H4, H5, HS0, HS1, HS2, HS3, HS4⟩
  isplitl [HS0 HS1 HS2 HS3 HS4 Hg]
  · isplitl [HS0 HS1 HS2 HS3 HS4]
    · isplitl [HS0]; · iexists _; iexact HS0
      isplitl [HS1]; · iexact HS1
      isplitl [HS2]; · iexact HS2
      isplitl [HS3]; · iexists _; iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 4 rfl).trans ((hA c 4).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the main kernel's run ends, with its arguments as they were and no semaphore counted up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of_rel m ρ (fun c => (dats m 0 c).toRForget forgets0) (A_eq m) ((θ_run defs _ _).mono (fun _ h => h.1) (run_main_quiescent m ρ)))
    ((θ_run defs _ _).mono (fun _ h => h.2) (run_main_quiescent m ρ))

end Cert.MainIdeal.Hand

end
-- ==== Proof.Shared.Weight.lean ====
/-
  One weight in two readings, as the kernel and as the reference compute it.
-/
module

public import Idealize.ShloMosaic.Lib.IdealHost

@[expose] public section

noncomputable section

namespace Hand

open Idealize.ShloMosaic

/-- The kernel's weight of a word (with its successor in the lower half) at a field. -/
def kernelWAt (word field : BitVec 32) : EReal :=
  let state := IntOp.andi (IntOp.shrui .vector word (IntOp.subi 16#32 (IntOp.muli 2#32 field))) 65535#32
  let h := IntOp.addi (IntOp.muli state 89226354#32) 64248484#32
  Ideal.ofBits .f32 (IntOp.xori (IntOp.andi (IntOp.shrsi .vector (IntOp.shli .vector h 16#32) 3#32) 2181029888#32) 1064042496#32)
    + Ideal.ofBits .f32 (IntOp.xori (IntOp.andi (IntOp.shrsi .vector h 3#32) 2181029888#32) 1064042496#32)

/-- The same at a field's number. -/
def kernelW (word : BitVec 32) (s : Nat) : EReal := kernelWAt word (BitVec.ofNat 32 s)

/-- The reference's weight of a half of the masked word. -/
def refHalf (u : BitVec 32) : EReal :=
  Ideal.ofBits .f32 (IntOp.ori (IntOp.shli .host (IntOp.andi u 32768#32) 16#32) (IntOp.shli .host (IntOp.andi u 32767#32) 13#32)) * Ideal.ofBits .f32 0x77800000#32

/-- The reference's weight of a word and its successor. -/
def refW (w n : BitVec 32) (s : Nat) : EReal :=
  let state := IntOp.andi (IntOp.ori (IntOp.shli .host w (IntOp.muli 2#32 (BitVec.ofNat 32 s)))
    (IntOp.shrui .host n (IntOp.subi 16#32 (IntOp.muli 2#32 (BitVec.ofNat 32 s))))) 65535#32
  let x := IntOp.xori (IntOp.andi (IntOp.addi (IntOp.muli state 89226354#32) 64248484#32) 2415890431#32) 996162400#32
  refHalf (IntOp.andi x 65535#32) + refHalf (IntOp.shrui .host x 16#32)

end Hand

end
-- ==== Proof.Shared.Sign.lean ====
/-
  The Walsh–Hadamard transform over 256 numbers as two rounds of butterflies over sixteen: the sign matrix, the butterfly over the
  reals as a sum with signs, and the two rounds as one sum.
-/
module

public import Idealize.ShloMosaic.Lib.IdealHost
public import Mathlib.Algebra.BigOperators.Intervals
public import Mathlib.Tactic.IntervalCases
public import Mathlib.Tactic.Ring
public import Mathlib.Tactic.NormNum

@[expose] public section

noncomputable section

namespace Hand

open Finset

/-- Whether a number below 256 has an odd number of bits. -/
def par (n : Nat) : Nat := (n + n / 2 + n / 4 + n / 8 + n / 16 + n / 32 + n / 64 + n / 128) % 2

/-- The entry of the Hadamard matrix: minus one to the number of common bits. -/
def sgn (k j : Nat) : ℝ := if par (k &&& j) = 0 then 1 else -1

theorem par_split : ∀ n n' : Fin 256, par (n.val &&& n'.val)
    = (par ((n.val / 128 * 8 + n.val % 8) &&& (n'.val / 128 * 8 + n'.val % 8)) + par ((n.val / 8 % 16) &&& (n'.val / 8 % 16))) % 2 := by
  decide +kernel

theorem sgn_split {n n' : Nat} (h : n < 256) (h' : n' < 256) :
    sgn n n' = sgn (n / 128 * 8 + n % 8) (n' / 128 * 8 + n' % 8) * sgn (n / 8 % 16) (n' / 8 % 16) := by
  have e := par_split ⟨n, h⟩ ⟨n', h'⟩
  dsimp only at e
  unfold sgn
  have h2 : ∀ a, par a = 0 ∨ par a = 1 := fun a => by unfold par; omega
  rcases h2 ((n / 128 * 8 + n % 8) &&& (n' / 128 * 8 + n' % 8)) with h1 | h1 <;> rcases h2 ((n / 8 % 16) &&& (n' / 8 % 16)) with h3 | h3 <;>
    rw [e, h1, h3] <;> norm_num

theorem sgn_comm (k j : Nat) : sgn k j = sgn j k := by unfold sgn; rw [Nat.and_comm]

/-- One stage of the butterfly over the reals. -/
def stageR (b : Nat) (f : Nat → ℝ) : Nat → ℝ := fun k =>
  if k / 2 ^ b % 2 = 0 then f k + f (k + 2 ^ b) else f (k - 2 ^ b) - f k

/-- The four stages. -/
def butterflyR (f : Nat → ℝ) : Nat → ℝ := stageR 3 (stageR 2 (stageR 1 (stageR 0 f)))

theorem butterflyR_eq (f : Nat → ℝ) {k : Nat} (hk : k < 16) : butterflyR f k = ∑ j ∈ range 16, sgn k j * f j := by
  simp only [Finset.sum_range_succ, Finset.sum_range_zero]
  unfold butterflyR
  interval_cases k <;> simp [stageR, sgn, par] <;> ring

/-- Sixteen times sixteen numbers, counted with the high and the low three bits outermost. -/
theorem sum_split (F : Nat → ℝ) :
    ∑ j ∈ range 16, ∑ k ∈ range 16, F (128 * (j / 8) + 8 * k + j % 8) = ∑ n ∈ range 256, F n := by
  rw [← Finset.sum_product']
  refine Finset.sum_nbij' (fun p => 128 * (p.1 / 8) + 8 * p.2 + p.1 % 8) (fun n => (n / 128 * 8 + n % 8, n / 8 % 16)) ?_ ?_ ?_ ?_ ?_
  · intro p hp
    simp only [mem_product, mem_range] at hp ⊢; omega
  · intro n hn
    simp only [mem_product, mem_range] at hn ⊢; omega
  · intro p hp
    simp only [mem_product, mem_range] at hp
    ext <;> dsimp only <;> omega
  · intro n hn
    simp only [mem_range] at hn; dsimp only; omega
  · intro p _; rfl

/-- The two rounds of butterflies are the Hadamard matrix. -/
theorem rounds (x : Nat → ℝ) {n : Nat} (hn : n < 256) :
    butterflyR (fun j => butterflyR (fun k => x (128 * (j / 8) + 8 * k + j % 8)) (n / 8 % 16)) (n / 128 * 8 + n % 8)
      = ∑ n' ∈ range 256, sgn n n' * x n' := by
  rw [butterflyR_eq _ (by omega), ← sum_split]
  refine Finset.sum_congr rfl fun j hj => ?_
  rw [butterflyR_eq _ (by omega), Finset.mul_sum]
  refine Finset.sum_congr rfl fun k hk => ?_
  simp only [mem_range] at hj hk
  rw [sgn_split hn (by omega), show (128 * (j / 8) + 8 * k + j % 8) / 128 * 8 + (128 * (j / 8) + 8 * k + j % 8) % 8 = j by omega,
    show (128 * (j / 8) + 8 * k + j % 8) / 8 % 16 = k by omega, mul_assoc]

end Hand

end
-- ==== Proof.MainIdeal.Tiles.lean ====
/-
  The pieces that the kernel computes on whole vectors, read at one element, over the extended reals.
-/
module

public import proofs.«01_k».proof.Proof.MainIdeal.Runs
public import proofs.«01_k».proof.Proof.Shared.Weight
public import proofs.«01_k».proof.Proof.Shared.Sign
public import proofs.«01_k».proof.Proof.Gen.MainIdeal
public import Idealize.ShloMosaic.Lib.ValueLayout
public import Idealize.ShloMosaic.Lib.KernelVsHost
public import Idealize.ShloMosaic.Lib.MatmulPlain

@[expose] public section

set_option maxRecDepth 16384

noncomputable section

namespace Cert.MainIdeal.Hand

open Idealize.ShloMosaic Idealize.ShloMosaic.ValueIdx
open _root_.Hand
open Cert.MainIdeal Facts₀ Facts

theorem nth_map {α : Type} (f : α → FVec Ideal S8x128 .f32) (l : List α) {k : Nat} (h : k < l.length) : nth (l.map f) k = f l[k] := by
  unfold nth
  rw [List.getD_eq_getElem?_getD, List.getElem?_map, List.getElem?_eq_getElem h]
  rfl

theorem nth_out (l : List (FVec Ideal S8x128 .f32)) {k : Nat} (h : l.length ≤ k) (p : S8x128.Idx) : nth l k p = ((0 : ℝ) : EReal) := by
  unfold nth
  rw [List.getD_eq_getElem?_getD, List.getElem?_eq_none h]
  exact Ideal.ofBits_zero_f32

theorem stage_real (b : Nat) {f : Nat → FVec Ideal S8x128 .f32} {x : Nat → ℝ} {p : S8x128.Idx} (h : ∀ k, f k p = (x k : EReal)) (k : Nat) :
    stage b f k p = (stageR b x k : EReal) := by
  unfold stage stageR
  split
  · exact (congrArg₂ (· + ·) (h k) (h _)).trans (EReal.coe_add _ _).symm
  · exact (congrArg₂ (· - ·) (h _) (h k)).trans (EReal.coe_sub _ _).symm

theorem butterfly_real {f : Nat → FVec Ideal S8x128 .f32} {x : Nat → ℝ} {p : S8x128.Idx} (h : ∀ k, f k p = (x k : EReal)) (k : Nat) :
    butterfly f k p = (butterflyR x k : EReal) :=
  stage_real 3 (stage_real 2 (stage_real 1 (stage_real 0 h))) k

/-- Sixteen vectors one under the other, at an element. -/
theorem stack_cell (p : Nat → FVec Ideal S8x128 .f32) {r t : Nat} (hr : r < 128) (ht : t < 128) :
    cell (stack p) r t = cell (p (r / 8)) (r % 8) t := by
  rw [cell_lt _ hr ht, cell_lt _ (show r % 8 < 8 by omega) ht]
  refine concatenate_ofFn_apply (t := S128x128) (s₁ := S8x128) 0 (fun n : Fin 16 => p n.val) _ rfl 8 rfl (ix2 ⟨r, hr⟩ ⟨t, ht⟩) ⟨r / 8, by omega⟩ rfl
    (ix2 ⟨r % 8, by omega⟩ ⟨t, ht⟩) rfl fun b hb => ?_
  match b with
  | ⟨0, _⟩ => exact absurd rfl hb
  | ⟨1, _⟩ => rfl

theorem transpose_cell {α : Type} (x : S128x128.Idx → α) {r t : Nat} (hr : r < 128) (ht : t < 128) :
    cell (transpose S128x128 [1, 0] x transposes_S128x128_p1_0_S128x128) r t = cell x t r := by
  rw [cell_lt _ hr ht, cell_lt _ ht hr]
  refine transpose_apply _ _ _ _ _ fun b => ?_
  match b with
  | ⟨0, _⟩ => rfl
  | ⟨1, _⟩ => rfl

theorem transpose_at {α : Type} (x : S128x128.Idx → α) {r t : Nat} (hr : r < 128) (ht : t < 128) :
    transpose S128x128 [1, 0] x transposes_S128x128_p1_0_S128x128 (ix2 ⟨r, hr⟩ ⟨t, ht⟩) = cell x t r := by
  rw [← transpose_cell x hr ht, cell_lt _ hr ht]

theorem yTile_cell (p : Nat → FVec Ideal S8x128 .f32) (sv : Vec Ideal S1x1x128 .f32) {t n : Nat} (ht : t < 128) (hn : n < 128) :
    cell (yTile p sv) t n = cell (p (n / 8)) (n % 8) t * (cell3 sv 0 0 n * Ideal.ofBits .f32 0x3D800000#32) := by
  rw [cell_lt _ ht hn, ← stack_cell p hn ht, ← transpose_at (stack p) ht hn, show cell3 sv 0 0 n = sv (ix3 (0 : Fin 1) (0 : Fin 1) ⟨n, hn⟩) from cell3_eq sv _ rfl rfl rfl]
  refine congrArg (fun a : EReal => transpose S128x128 [1, 0] (stack p) transposes_S128x128_p1_0_S128x128 (ix2 ⟨t, ht⟩ ⟨n, hn⟩) * a) ?_
  refine (broadcastTo_1b_ab_apply _ _ _ _).trans ?_
  exact congrArg (fun a : EReal => a * Ideal.ofBits .f32 0x3D800000#32) (shapeCast_1ab_ab_apply _ _ _ _)

theorem wTile_cell (p : Nat → FVec Ideal S8x128 .f32) {r x : Nat} (hr : r < 128) (hx : x < 128) :
    cell3 (wTile p) 0 r x = cell (p (x / 8)) (x % 8) r := by
  rw [show cell3 (wTile p) 0 r x = wTile p (ix3 (0 : Fin 1) ⟨r, hr⟩ ⟨x, hx⟩) from cell3_eq (wTile p) _ rfl (Eq.refl r) (Eq.refl x), ← stack_cell p hx hr]
  refine (shapeCast_ab_1ab_apply _ _ _ _ _).trans ?_
  exact transpose_at (truncf .bf16 (stack p) bitsLt_bf16_f32) hr hx

theorem rsTile_cell (x : Vec Ideal S1x1x128 .f32) {r t : Nat} (hr : r < 128) (ht : t < 128) : cell (rsTile x) r t = cell3 x 0 0 r := by
  rw [cell_lt _ hr ht, show cell3 x 0 0 r = x (ix3 (0 : Fin 1) (0 : Fin 1) ⟨r, hr⟩) from cell3_eq x _ rfl rfl (Eq.refl r)]
  unfold rsTile
  rw [shapeCast_self, transpose_at _ hr ht, cell_lt _ ht hr, broadcastTo_1b_ab_apply, shapeCast_self]
  exact shapeCast_1ab_ab_apply _ _ _ _

/-- The word after a word, around the end of its run of 32. -/
def nx (i : Nat) : Nat := if i % 32 = 31 then i - 31 else i + 1

theorem last_cond : ∀ i : Fin 128,
    (let v19 : BitVec 32 := Scalar.select (Scalar.cmpi .eq 32#32 0#32) 1#32 32#32
     let v21 : BitVec 32 := IntOp.remsi .vector (BitVec.ofNat 32 i.val) v19
     let c : BitVec 1 := IntOp.andi (IntOp.xori (IntOp.cmpi .slt v21 0#32) (Scalar.cmpi .slt v19 0#32)) (IntOp.cmpi .ne v21 0#32)
     IntOp.cmpi .eq (if c = 1#1 then IntOp.addi v21 v19 else v21) 31#32) = BitVec.ofBool (decide (i.val % 32 = 31)) := by
  decide +kernel

theorem wordsT_cell (x : Vec Ideal S128x128 .i16) {i r : Nat} (hi : i < 128) (hr : r < 128) :
    cell (wordsT (F := Ideal) x) i r = IntOp.ori (IntOp.shli .vector ((cell x r i).setWidth 32) 16#32) ((cell x r (nx i)).setWidth 32) := by
  have hn : nx i < 128 := by unfold nx; split <;> omega
  rw [cell_lt _ hi hr]
  unfold wordsT
  dsimp only
  rw [transpose_at _ hi hr, cell_lt _ hr hi, cell_lt x hr hi, cell_lt x hr hn]
  refine congrArg₂ IntOp.ori rfl ?_
  have e1 : iota .tc S128x128 32 [1] iota_S128x128_d1_w32 (ix2 ⟨r, hr⟩ ⟨i, hi⟩) = BitVec.ofNat 32 i := iota_single_apply _ _ _ _ _ _
  have h := last_cond ⟨i, hi⟩
  dsimp only at h
  rw [← e1] at h
  refine (congrArg (fun c : BitVec 1 => if c = 1#1 then dynamicRotate 1 31#32 none (extui 32 x natLt_16_32) rotates_S128x128_d1 (ix2 ⟨r, hr⟩ ⟨i, hi⟩)
    else dynamicRotate 1 127#32 none (extui 32 x natLt_16_32) rotates_S128x128_d1 (ix2 ⟨r, hr⟩ ⟨i, hi⟩)) h).trans ?_
  by_cases hc : i % 32 = 31
  · have hnx : nx i = i - 31 := if_pos hc
    rw [if_pos (by simp [hc])]
    refine (dynamicRotate_apply _ _ _ _ _ (ix2 ⟨r, hr⟩ ⟨nx i, hn⟩) fun b => ?_).trans rfl
    match b with
    | ⟨0, _⟩ => rfl
    | ⟨1, _⟩ => show nx i = (i + 128 - 31) % 128; omega
  · have hnx : nx i = i + 1 := if_neg hc
    rw [if_neg (by simp [hc])]
    refine (dynamicRotate_apply _ _ _ _ _ (ix2 ⟨r, hr⟩ ⟨nx i, hn⟩) fun b => ?_).trans rfl
    match b with
    | ⟨0, _⟩ => rfl
    | ⟨1, _⟩ => show nx i = (i + 128 - 127) % 128; omega

theorem prod_cell (w : Vec Ideal S1x512x4096 .bf16) (x : Vec Ideal S512x4096 .bf16) {r t : Nat} (hr : r < 512) (ht : t < 512) :
    cell (prod w x) r t = ∑ k : Fin 4096, cell3 w 0 r k.val * cell x t k.val := by
  rw [cell_lt _ hr ht]
  unfold prod
  rw [shapeCast_self]
  refine (Ideal.matmul_transposedRhs_apply (M := 512) (K := 4096) (N := 512) none _ x _ ⟨r, hr⟩ ⟨t, ht⟩).trans ?_
  refine (congrArg₂ (· + ·) Ideal.ofBits_zero_f32 rfl).trans ((zero_add _).trans (Finset.sum_congr rfl fun k _ => ?_))
  rw [cell_lt x ht k.isLt, show cell3 w 0 r k.val = w (ix3 (0 : Fin 1) ⟨r, hr⟩ k) from cell3_eq w _ rfl (Eq.refl r) rfl]
  exact congrArg (· * _) (shapeCast_1ab_ab_apply _ _ _ _)

end Cert.MainIdeal.Hand

end
-- ==== Proof.MainIdeal.Weights.lean ====
/-
  The pieces that the kernel computes on whole vectors, the weights of a row of words, read at one element, over the extended reals.
-/
module

public import proofs.«01_k».proof.Proof.MainIdeal.Runs
public import proofs.«01_k».proof.Proof.Shared.Weight
public import proofs.«01_k».proof.Proof.Shared.Sign
public import proofs.«01_k».proof.Proof.Gen.MainIdeal
public import Idealize.ShloMosaic.Lib.ValueLayout
public import Idealize.ShloMosaic.Lib.KernelVsHost
public import Idealize.ShloMosaic.Lib.MatmulPlain

@[expose] public section

set_option maxRecDepth 16384

noncomputable section

namespace Cert.MainIdeal.Hand

open Idealize.ShloMosaic Idealize.ShloMosaic.ValueIdx
open _root_.Hand
open Cert.MainIdeal Facts₀ Facts

/-- The weights of rows of words `wd` at the fields `io`. -/
def weightsOf (io wd : IVec S8x128 32) : FVec Ideal S8x128 .f32 :=
  let sh : IVec S8x128 32 := subi (broadcast S8x128 16#32) (muli (broadcast S8x128 2#32) io)
  let state : IVec S8x128 32 := andi (shrui wd sh) (broadcast S8x128 65535#32)
  let h : IVec S8x128 32 := addi (muli state (broadcast S8x128 89226354#32)) (broadcast S8x128 64248484#32)
  let hi : IVec S8x128 32 := xori (andi (shrsi h (broadcast S8x128 3#32)) (broadcast S8x128 2181029888#32)) (broadcast S8x128 1064042496#32)
  let lo : IVec S8x128 32 := xori (andi (shrsi (shli h (broadcast S8x128 16#32)) (broadcast S8x128 3#32)) (broadcast S8x128 2181029888#32)) (broadcast S8x128 1064042496#32)
  addf (bitcastToFloat .f32 lo) (bitcastToFloat .f32 hi)

theorem bits_sum (lo hi : IVec S8x128 32) (p : S8x128.Idx) :
    (addf (bitcastToFloat .f32 lo) (bitcastToFloat .f32 hi) : FVec Ideal S8x128 .f32) p = Ideal.ofBits .f32 (lo p) + Ideal.ofBits .f32 (hi p) := rfl

theorem masked_apply (h : IVec S8x128 32) (k a x : BitVec 32) (p : S8x128.Idx) :
    xori (andi (shrsi h (broadcast S8x128 k)) (broadcast S8x128 a)) (broadcast S8x128 x) p = IntOp.xori (IntOp.andi (IntOp.shrsi .vector (h p) k) a) x := rfl

theorem shifted_apply (h : IVec S8x128 32) (k : BitVec 32) (p : S8x128.Idx) : shli h (broadcast S8x128 k) p = IntOp.shli .vector (h p) k := rfl

theorem gen_apply (h : IVec S8x128 32) (a x : BitVec 32) (p : S8x128.Idx) :
    addi (muli h (broadcast S8x128 a)) (broadcast S8x128 x) p = IntOp.addi (IntOp.muli (h p) a) x := rfl

theorem state_apply (w f : IVec S8x128 32) (k a x : BitVec 32) (p : S8x128.Idx) :
    andi (shrui w (subi (broadcast S8x128 k) (muli (broadcast S8x128 a) f))) (broadcast S8x128 x) p
      = IntOp.andi (IntOp.shrui .vector (w p) (IntOp.subi k (IntOp.muli a (f p)))) x := rfl

theorem weightsOf_apply (io wd : IVec S8x128 32) (p : S8x128.Idx) : weightsOf io wd p = kernelWAt (wd p) (io p) := by
  unfold weightsOf kernelWAt
  dsimp only
  rw [bits_sum, masked_apply, masked_apply, shifted_apply, gen_apply, state_apply]

theorem weights_word (x : Vec Ideal S1x128 .i32) {s t : Nat} (hs : s < 8) (ht : t < 128) :
    broadcastTo S8x128 (shapeCast S1x128 x shapeCasts_S1x128_S1x128) broadcasts_S1x128_S8x128 (ix2 ⟨s, hs⟩ ⟨t, ht⟩) = x (ix2 (0 : Fin 1) ⟨t, ht⟩) := by
  rw [shapeCast_self]; exact broadcastTo_1b_ab_apply _ _ _ _

theorem weights_field {s t : Nat} (hs : s < 8) (ht : t < 128) : iota .tc S8x128 32 [0] iota_S8x128_d0_w32 (ix2 ⟨s, hs⟩ ⟨t, ht⟩) = BitVec.ofNat 32 s :=
  iota_single_apply _ _ _ _ _ _

theorem weights_eq (x : Vec Ideal S1x128 .i32) : weights x = weightsOf (iota .tc S8x128 32 [0] iota_S8x128_d0_w32) (broadcastTo S8x128 (shapeCast S1x128 x shapeCasts_S1x128_S1x128) broadcasts_S1x128_S8x128) := rfl

theorem weights_cell (x : Vec Ideal S1x128 .i32) {s t : Nat} (hs : s < 8) (ht : t < 128) :
    cell (weights x : FVec Ideal S8x128 .f32) s t = kernelW (cell x 0 t) s := by
  have h : cell (weights x : FVec Ideal S8x128 .f32) s t = weights x (ix2 ⟨s, hs⟩ ⟨t, ht⟩) := cell_lt _ hs ht
  have h' : cell x 0 t = x (ix2 (0 : Fin 1) ⟨t, ht⟩) := cell_eq x _ rfl (Eq.refl t)
  refine h.trans ?_
  refine (congrFun (weights_eq x) _).trans ?_
  refine (weightsOf_apply _ _ _).trans ?_
  exact congrArg₂ kernelWAt ((weights_word x hs ht).trans h'.symm) (weights_field hs ht)

end Cert.MainIdeal.Hand

end
-- ==== Proof.MainIdeal.Decode.lean ====
/-
  What the decoding leaves in the weights: the weight at each row and column, of the words of the block that was decoded.
-/
module

public import proofs.«01_k».proof.Proof.MainIdeal.Tiles
public import proofs.«01_k».proof.Proof.MainIdeal.Weights
public import proofs.«01_k».proof.Proof.MainIdeal.Body
public import proofs.«01_k».proof.Proof.Gen.MainIdeal.Points

@[expose] public section

set_option maxRecDepth 16384

noncomputable section

namespace Cert.MainIdeal.Hand

open Idealize.ShloMosaic Idealize.ShloMosaic.ValueIdx
open _root_.Hand
open Cert.MainIdeal Cert.MainIdeal.Gen Facts₀ Facts

/-- The weight at column `j` of a row of words `f`: eight columns a word. -/
def wAt (f : Nat → BitVec 16) (j : Nat) : EReal :=
  kernelW (IntOp.ori (IntOp.shli .vector ((f (j / 8)).setWidth 32) 16#32) ((f (nx (j / 8))).setWidth 32)) (j % 8)

/-- The runs of sixteen rows of words `k0, k0 + 1, …`, with the offsets of their tiles. -/
def runsL (o : Nat → Fin 3 → Nat) (k0 m : Nat) : List (List Nat × (Fin 3 → Nat)) := (List.range' k0 m).map fun k => (List.range' (16 * k) 16, o k)

theorem tile_cell (b : Vec Ideal S128x128 .i32) {k r x : Nat} (hr : r < 128) (hx : x < 128) :
    cell3 (wTile (nth (wordsV b (List.range' (16 * k) 16)))) 0 r x = kernelW (cell b (16 * k + x / 8) r) (x % 8) := by
  have e : nth (wordsV b (List.range' (16 * k) 16)) (x / 8) = (weights (blk 1 128 1 b (16 * k + 1 * (x / 8)) 0) : FVec Ideal S8x128 .f32) := by
    unfold wordsV
    rw [nth_map _ _ (by rw [List.length_range']; omega), List.getElem_range']
  rw [wTile_cell _ hr hx, e, weights_cell _ (by omega) hr]
  refine congrArg (fun a => kernelW a (x % 8)) ?_
  show cell b (16 * k + 1 * (x / 8) + 1 * (0 % 1)) (0 + r % 128) = _
  exact congrArg₂ (cell b) (by omega) (by omega)

theorem tiles_cell (b : Vec Ideal S128x128 .i32) (o : Nat → Fin 3 → Nat) {l0 R C : Nat} (m : Nat) :
    ∀ (k0 : Nat), (∀ k, k0 ≤ k → k < k0 + m → o k 0 = l0 ∧ o k 1 = R ∧ o k 2 = C + 128 * k) → k0 + m ≤ 8 →
    ∀ (w : Vec Ideal S2x1024x4096 .bf16) {l i j : Nat}, l < 2 → i < 1024 → j < 4096 →
      cell3 (tilesV b (runsL o k0 m) w) l i j
        = if l = l0 ∧ R ≤ i ∧ i < R + 128 ∧ C + 128 * k0 ≤ j ∧ j < C + 128 * (k0 + m) then kernelW (cell b ((j - C) / 8) (i - R)) ((j - C) % 8) else cell3 w l i j := by
  induction m with
  | zero => intro k0 _ _ w l i j hl hi hj; rw [if_neg (by omega)]; rfl
  | succ m ih =>
    intro k0 ho hk w l i j hl hi hj
    obtain ⟨o0, o1, o2⟩ := ho k0 le_rfl (by omega)
    rw [show tilesV b (runsL o k0 (m + 1)) w
      = tilesV b (runsL o (k0 + 1) m) (setBlk3 128 128 w (o k0 0) (o k0 1) (o k0 2) (wTile (nth (wordsV b (List.range' (16 * k0) 16))))) from rfl,
      ih (k0 + 1) (fun k h h' => ho k (by omega) (by omega)) (by omega) _ hl hi hj, setBlk3_in _ _ hl hi hj, o0, o1, o2]
    by_cases h : l = l0 ∧ R ≤ i ∧ i < R + 128 ∧ C + 128 * k0 ≤ j ∧ j < C + 128 * k0 + 128
    · rw [if_neg (by omega), if_pos h, if_pos (by omega), tile_cell _ (by omega) (by omega)]
      rw [show 16 * k0 + (j - (C + 128 * k0)) / 8 = (j - C) / 8 by omega, show (j - (C + 128 * k0)) % 8 = (j - C) % 8 by omega]
    · rw [if_neg h]
      by_cases h' : l = l0 ∧ R ≤ i ∧ i < R + 128 ∧ C + 128 * (k0 + 1) ≤ j ∧ j < C + 128 * (k0 + 1 + m)
      · rw [if_pos h', if_pos (by omega)]
      · rw [if_neg h', if_neg (by omega)]

/-- The sub-block (of 128 rows by 1024 columns) that an element is in. -/
def sub (i j : Nat) : Nat := i / 128 * 4 + j / 1024

/-- One sub-block decoded. -/
theorem decode_cell (x : Vec Ideal S1024x512 .i16) (oc : Fin 2 → Nat) {o0 o1 o2 o3 o4 o5 o6 o7 : Fin 3 → Nat} {l0 q : Nat} (hq : q < 32)
    (hc : oc 0 = q / 4 * 128 ∧ oc 1 = q % 4 * 128)
    (ho : ∀ k : Fin 8, (![o0, o1, o2, o3, o4, o5, o6, o7] : Fin 8 → Fin 3 → Nat) k 0 = l0 ∧ (![o0, o1, o2, o3, o4, o5, o6, o7] : Fin 8 → Fin 3 → Nat) k 1 = q / 4 * 128
      ∧ (![o0, o1, o2, o3, o4, o5, o6, o7] : Fin 8 → Fin 3 → Nat) k 2 = q % 4 * 1024 + 128 * k.val)
    (w : Vec Ideal S2x1024x4096 .bf16) {l i j : Nat} (hl : l < 2) (hi : i < 1024) (hj : j < 4096) :
    cell3 (tilesV (wordsAt x oc) (runs o0 o1 o2 o3 o4 o5 o6 o7) w) l i j = if l = l0 ∧ sub i j = q then wAt (cell x i) j else cell3 w l i j := by
  have e : runs o0 o1 o2 o3 o4 o5 o6 o7 = runsL (fun k => (![o0, o1, o2, o3, o4, o5, o6, o7] : Fin 8 → Fin 3 → Nat) (Fin.ofNat 8 k)) 0 8 := rfl
  rw [e, tiles_cell _ _ (l0 := l0) (R := q / 4 * 128) (C := q % 4 * 1024) 8 0 (fun k _ hk => ?_) (by omega) w hl hi hj]
  · unfold sub
    by_cases h : l = l0 ∧ i / 128 * 4 + j / 1024 = q
    · rw [if_pos (by omega), if_pos h]
      unfold wordsAt wAt
      rw [wordsT_cell _ (by omega) (by omega), hc.1, hc.2]
      have hn : nx ((j - q % 4 * 1024) / 8) < 128 := by unfold nx; split <;> omega
      have hn' : q % 4 * 128 + nx ((j - q % 4 * 1024) / 8) = nx (j / 8) := by unfold nx; split <;> split <;> omega
      rw [cell_blk _ (by omega) (by omega), cell_blk _ (by omega) hn, hn', show q / 4 * 128 + 1 * (i - q / 4 * 128) = i by omega,
        show q % 4 * 128 + (j - q % 4 * 1024) / 8 = j / 8 by omega, show (j - q % 4 * 1024) % 8 = j % 8 by omega]
    · rw [if_neg (by omega), if_neg h]
  · have := ho ⟨k, by omega⟩
    rw [show Fin.ofNat 8 k = ⟨k, by omega⟩ from Fin.ext (Nat.mod_eq_of_lt (by omega))]
    exact this

theorem trips_eq : k0_t1_loop.trips = 32 := by decide +kernel

theorem off1_eq : ∀ t : Fin k0_t1_loop.trips, k0_off1 t 0 = t.val / 4 * 128 ∧ k0_off1 t 1 = t.val % 4 * 128 := by decide +kernel

theorem off2_eq : ∀ t : Fin k0_t1_loop.trips, ∀ r : Fin 8, k0_off2 t (BitVec.ofNat 32 r.val) 0 = 0 ∧ k0_off2 t (BitVec.ofNat 32 r.val) 1 = t.val / 4 * 128
    ∧ k0_off2 t (BitVec.ofNat 32 r.val) 2 = t.val % 4 * 1024 + 128 * r.val := by decide +kernel

theorem loop_cell (x : Vec Ideal S1024x512 .i16) (w : Vec Ideal S2x1024x4096 .bf16) {l i j : Nat} (hl : l < 2) (hi : i < 1024) (hj : j < 4096) :
    ∀ k ≤ 32, cell3 (loopV x w k) l i j = if l = 0 ∧ sub i j < k then wAt (cell x i) j else cell3 w l i j := by
  intro k
  induction k with
  | zero => intro _; rw [if_neg (by omega)]; rfl
  | succ k ih =>
    intro hk
    have hk' : k < k0_t1_loop.trips := by rw [trips_eq]; omega
    unfold loopV
    rw [dif_pos hk']
    unfold tripV
    rw [decode_cell x _ (l0 := 0) (q := k) (by omega) (off1_eq ⟨k, hk'⟩) (fun r => ?_) _ hl hi hj, ih (by omega)]
    · by_cases h : l = 0 ∧ sub i j = k
      · rw [if_pos h, if_pos (by omega)]
      · rw [if_neg h]
        by_cases h' : l = 0 ∧ sub i j < k
        · rw [if_pos h', if_pos (by omega)]
        · rw [if_neg h', if_neg (by omega)]
    · match r with
      | ⟨0, _⟩ => exact off2_eq ⟨k, hk'⟩ 0
      | ⟨1, _⟩ => exact off2_eq ⟨k, hk'⟩ 1
      | ⟨2, _⟩ => exact off2_eq ⟨k, hk'⟩ 2
      | ⟨3, _⟩ => exact off2_eq ⟨k, hk'⟩ 3
      | ⟨4, _⟩ => exact off2_eq ⟨k, hk'⟩ 4
      | ⟨5, _⟩ => exact off2_eq ⟨k, hk'⟩ 5
      | ⟨6, _⟩ => exact off2_eq ⟨k, hk'⟩ 6
      | ⟨7, _⟩ => exact off2_eq ⟨k, hk'⟩ 7

theorem sub_lt {i j : Nat} (hi : i < 1024) (hj : j < 4096) : sub i j < 32 := by unfold sub; omega

/-- The sub-block that the `n`-th decoding of the point at token block `i` decodes. -/
def subAt (i n : Nat) : Nat := min (3 * i + n) 31

/-- A point's offsets, at its block of rows `j` and block of tokens `i`. -/
structure Offs (p : grid0.Coords) (j i : Nat) : Prop where
  cond : (k0_cond1 p = 1#1) = (j = 0 ∧ i = 0)
  zero : (Scalar.cmpi .ne (Scalar.extui (Scalar.cmpi .eq (BitVec.ofNat 32 (p 1).val) 0#32) : BitVec 32) 0#32 = 1#1) = (i = 0)
  off3 : k0_off3 p 0 = j % 2 ∧ k0_off3 p 1 = 0 ∧ k0_off3 p 2 = 0
  off4 : k0_off4 p 0 = j % 2 ∧ k0_off4 p 1 = 512 ∧ k0_off4 p 2 = 0
  off5 : ∀ n : Fin 3, k0_off5 p (BitVec.ofNat 32 n.val) 0 = subAt i n.val / 4 * 128 ∧ k0_off5 p (BitVec.ofNat 32 n.val) 1 = subAt i n.val % 4 * 128
  off6 : ∀ n : Fin 3, ∀ r : Fin 8, k0_off6 p (BitVec.ofNat 32 n.val) (BitVec.ofNat 32 r.val) 0 = 1 - j % 2
    ∧ k0_off6 p (BitVec.ofNat 32 n.val) (BitVec.ofNat 32 r.val) 1 = subAt i n.val / 4 * 128
    ∧ k0_off6 p (BitVec.ofNat 32 n.val) (BitVec.ofNat 32 r.val) 2 = subAt i n.val % 4 * 1024 + 128 * r.val

theorem next_cell {p : grid0.Coords} {a b : Nat} (ho : Offs p a b) (x : Vec Ideal S1024x512 .i16) (w : Vec Ideal S2x1024x4096 .bf16) {l i j : Nat}
    (hl : l < 2) (hi : i < 1024) (hj : j < 4096) :
    cell3 (nextV p x w) l i j = if l = 1 - a % 2 ∧ (sub i j = subAt b 0 ∨ sub i j = subAt b 1 ∨ sub i j = subAt b 2) then wAt (cell x i) j else cell3 w l i j := by
  have hs : ∀ n : Fin 3, subAt b n.val < 32 := fun n => by unfold subAt; omega
  have hr : ∀ n : Fin 3, ∀ r : Fin 8,
      (![k0_off6 p (BitVec.ofNat 32 n.val) 0#32, k0_off6 p (BitVec.ofNat 32 n.val) 1#32, k0_off6 p (BitVec.ofNat 32 n.val) 2#32, k0_off6 p (BitVec.ofNat 32 n.val) 3#32,
        k0_off6 p (BitVec.ofNat 32 n.val) 4#32, k0_off6 p (BitVec.ofNat 32 n.val) 5#32, k0_off6 p (BitVec.ofNat 32 n.val) 6#32, k0_off6 p (BitVec.ofNat 32 n.val) 7#32] : Fin 8 → Fin 3 → Nat) r
        = k0_off6 p (BitVec.ofNat 32 n.val) (BitVec.ofNat 32 r.val) := by
    intro n r; fin_cases r <;> rfl
  have step := fun (n : Fin 3) (w : Vec Ideal S2x1024x4096 .bf16) => decode_cell x (k0_off5 p (BitVec.ofNat 32 n.val)) (l0 := 1 - a % 2) (hs n) (ho.off5 n)
    (fun r => by rw [hr n r]; exact ho.off6 n r) w hl hi hj
  unfold nextV
  refine (step 2 _).trans ?_
  by_cases h2 : l = 1 - a % 2 ∧ sub i j = subAt b 2
  · exact (if_pos h2).trans (if_pos ⟨h2.1, .inr (.inr h2.2)⟩).symm
  · refine (if_neg h2).trans ((step 1 _).trans ?_)
    by_cases h1 : l = 1 - a % 2 ∧ sub i j = subAt b 1
    · exact (if_pos h1).trans (if_pos ⟨h1.1, .inr (.inl h1.2)⟩).symm
    · refine (if_neg h1).trans ((step 0 _).trans ?_)
      by_cases h0 : l = 1 - a % 2 ∧ sub i j = subAt b 0
      · exact (if_pos h0).trans (if_pos ⟨h0.1, .inl h0.2⟩).symm
      · refine (if_neg h0).trans (if_neg ?_).symm
        rintro ⟨h, h' | h' | h'⟩
        · exact h0 ⟨h, h'⟩
        · exact h1 ⟨h, h'⟩
        · exact h2 ⟨h, h'⟩

theorem first_cell {p : grid0.Coords} {a b : Nat} (ho : Offs p a b) (x : Vec Ideal S1024x512 .i16) (w : Vec Ideal S2x1024x4096 .bf16) {l i j : Nat}
    (hl : l < 2) (hi : i < 1024) (hj : j < 4096) :
    cell3 (firstV p x w) l i j = if (a = 0 ∧ b = 0) ∧ l = 0 then wAt (cell x i) j else cell3 w l i j := by
  unfold firstV
  by_cases h : a = 0 ∧ b = 0
  · rw [if_pos (ho.cond.symm ▸ h), trips_eq, loop_cell x w hl hi hj 32 le_rfl]
    by_cases hl0 : l = 0
    · rw [if_pos ⟨hl0, sub_lt hi hj⟩, if_pos ⟨h, hl0⟩]
    · rw [if_neg (fun hh => hl0 hh.1), if_neg (fun hh => hl0 hh.2)]
  · rw [if_neg (fun hh => h (ho.cond ▸ hh)), if_neg (fun hh => h hh.1)]

/-- The list of the blocks of 128 scales, from the `k0`-th on. -/
def scalesL (k0 m : Nat) : List Nat := (List.range' k0 m).map (128 * ·)

theorem scales_cell (x : Vec Ideal S1x1x1024 .f32) {r t : Nat} (hr : r < 1024) (ht : t < 128) (m : Nat) :
    ∀ (k0 : Nat) (s : Vec Ideal S1024x128 .f32), cell (scalesV x (scalesL k0 m) s) r t = if 128 * k0 ≤ r ∧ r < 128 * (k0 + m) then cell3 x 0 0 r else cell s r t := by
  induction m with
  | zero => intro k0 s; rw [if_neg (by omega)]; rfl
  | succ m ih =>
    intro k0 s
    rw [show scalesV x (scalesL k0 (m + 1)) s = scalesV x (scalesL (k0 + 1) m) (setBlk 128 128 s (128 * k0) 0 (rsTile (blk3 1 128 x 0 0 (128 * k0)))) from rfl, ih,
      setBlk_in _ _ hr ht]
    by_cases h : 128 * k0 ≤ r ∧ r < 128 * k0 + 128
    · rw [if_neg (by omega), if_pos (by omega), if_pos (by omega), rsTile_cell _ (by omega) (by omega)]
      show cell3 x 0 (0 + 0 % 1) (128 * k0 + (r - 128 * k0) % 128) = _
      rw [show 128 * k0 + (r - 128 * k0) % 128 = r by omega]
    · by_cases h' : 128 * (k0 + 1) ≤ r ∧ r < 128 * (k0 + 1 + m)
      · rw [if_pos h', if_pos (by omega)]
      · rw [if_neg h', if_neg (by omega), if_neg (by omega)]

theorem fresh_cell {p : grid0.Coords} {a b : Nat} (ho : Offs p a b) (x : Vec Ideal S1x1x1024 .f32) (s : Vec Ideal S1024x128 .f32) {r t : Nat} (hr : r < 1024) (ht : t < 128) :
    cell (freshV p x s) r t = if b = 0 then cell3 x 0 0 r else cell s r t := by
  unfold freshV
  by_cases h : b = 0
  · rw [if_pos (ho.zero.symm ▸ h), if_pos h, show ([0, 128, 256, 384, 512, 640, 768, 896] : List Nat) = scalesL 0 8 from rfl, scales_cell x hr ht, if_pos (by omega)]
  · rw [if_neg (fun hh => h (ho.zero ▸ hh)), if_neg h]

end Cert.MainIdeal.Hand

end
-- ==== Proof.MainIdeal.Rotation.lean ====
/-
  The rotation of 256 rows of scaled products, as sums: its two rounds of butterflies are the sums over all 256 rows with signs.
-/
module

public import proofs.«01_k».proof.Proof.MainIdeal.Tiles
public import proofs.«01_k».proof.Proof.MainIdeal.Body

@[expose] public section

set_option maxRecDepth 16384

noncomputable section

namespace Cert.MainIdeal.Hand

open Idealize.ShloMosaic Idealize.ShloMosaic.ValueIdx
open _root_.Hand
open Cert.MainIdeal Facts₀ Facts

/-- The scratch's element of row `n` of 256: eight rows in every nine are used. -/
def scr (b : Vec Ideal S288x128 .f32) (n t : Nat) : EReal := cell b (9 * (n / 8) + n % 8) t

/-- The offsets of the rows of vectors `k0, k0+1, …`. -/
def rowsL (k0 m : Nat) : List Nat := (List.range' k0 m).map (9 * ·)

/-- The offsets of the strided rows, in the upper (`mid = 0`) or lower part of each group of 128. -/
def stridedL (mid j0 m : Nat) : List Nat := (List.range' j0 m).map fun j => j / 8 * 144 + 72 * mid + j % 8

/-- The offsets of the products and of their scales. -/
def pairsL (ra r0 k0 m : Nat) : List (Nat × Nat) := (List.range' k0 m).map fun v => (ra + 8 * v, r0 + 8 * v)

theorem putRows_scr (val : Nat → FVec Ideal S8x128 .f32) {n t : Nat} (hn : n < 256) (ht : t < 128) (m : Nat) :
    ∀ (k0 k : Nat) (b : Vec Ideal S288x128 .f32), scr (putRows val (rowsL k0 m) k b) n t
      = if k0 ≤ n / 8 ∧ n / 8 < k0 + m then cell (val (k + (n / 8 - k0))) (n % 8) t else scr b n t := by
  induction m with
  | zero => intro k0 k b; rw [if_neg (by omega)]; rfl
  | succ m ih =>
    intro k0 k b
    rw [show putRows val (rowsL k0 (m + 1)) k b = putRows val (rowsL (k0 + 1) m) (k + 1) (setBlk 8 128 b (9 * k0) 0 (val k)) from rfl, ih]
    unfold scr
    rw [setBlk_in _ _ (by omega) ht]
    by_cases h : n / 8 = k0
    · rw [if_neg (by omega), if_pos (by omega), if_pos (by omega), h, Nat.sub_self, Nat.add_zero, Nat.add_sub_cancel_left]
      rfl
    · by_cases h' : k0 ≤ n / 8 ∧ n / 8 < k0 + (m + 1)
      · rw [if_pos (by omega), if_pos h', show k + 1 + (n / 8 - (k0 + 1)) = k + (n / 8 - k0) by omega]
      · rw [if_neg (by omega), if_neg h', if_neg (by omega)]

theorem putStr_scr (val : Nat → FVec Ideal S8x128 .f32) {n t mid : Nat} (hn : n < 256) (ht : t < 128) (hm : mid < 2) (m : Nat) :
    ∀ (j0 k : Nat) (b : Vec Ideal S288x128 .f32), scr (putStrided val (stridedL mid j0 m) k b) n t
      = if n / 64 % 2 = mid ∧ j0 ≤ n / 128 * 8 + n % 8 ∧ n / 128 * 8 + n % 8 < j0 + m
        then cell (val (k + (n / 128 * 8 + n % 8 - j0))) (n / 8 % 8) t else scr b n t := by
  induction m with
  | zero => intro j0 k b; rw [if_neg (by omega)]; rfl
  | succ m ih =>
    intro j0 k b
    rw [show putStrided val (stridedL mid j0 (m + 1)) k b
      = putStrided val (stridedL mid (j0 + 1) m) (k + 1) (setStr 8 128 9 b (j0 / 8 * 144 + 72 * mid + j0 % 8) (val k)) from rfl, ih]
    unfold scr
    rw [setStr_in _ _ (by omega) ht]
    by_cases h : n / 64 % 2 = mid ∧ n / 128 * 8 + n % 8 = j0
    · obtain ⟨ha, hb⟩ := h
      have e : 9 * (n / 8) + n % 8 - (j0 / 8 * 144 + 72 * mid + j0 % 8) = 9 * (n / 8 % 8) := by omega
      rw [if_neg (by omega), e, if_pos (by omega), if_pos (by omega), show k + (n / 128 * 8 + n % 8 - j0) = k by omega, Nat.mul_div_cancel_left _ (by decide)]
    · by_cases h' : n / 64 % 2 = mid ∧ j0 ≤ n / 128 * 8 + n % 8 ∧ n / 128 * 8 + n % 8 < j0 + (m + 1)
      · rw [if_pos (by omega), if_pos h', show k + 1 + (n / 128 * 8 + n % 8 - (j0 + 1)) = k + (n / 128 * 8 + n % 8 - j0) by omega]
      · rw [if_neg (by omega), if_neg h', if_neg (by omega)]

/-- The butterfly of sixteen vectors of which an element is known. -/
theorem butterfly_list {l : List (FVec Ideal S8x128 .f32)} (hl : l.length = 16) {x : Nat → ℝ} {p : S8x128.Idx} (h : ∀ k < 16, nth l k p = (x k : EReal))
    {k : Nat} (hk : k < 16) : butterfly (nth l) k p = (butterflyR x k : EReal) := by
  have h' : ∀ k, nth l k p = ((if k < 16 then x k else 0 : ℝ) : EReal) := by
    intro k
    by_cases hk : k < 16
    · rw [if_pos hk, h k hk]
    · rw [if_neg hk]; exact nth_out l (by omega) p
  rw [butterfly_real h', butterflyR_eq _ hk, butterflyR_eq _ hk]
  exact congrArg _ (Finset.sum_congr rfl fun j hj => by rw [if_pos (Finset.mem_range.mp hj)])

/-- The first round: the rows of vectors `k0, …, k0 + 15`. -/
theorem round0 {a : Vec Ideal S512x512 .f32} {s : Vec Ideal S1024x128 .f32} {ra r0 c t : Nat} (ht : t < 128) {x : Nat → ℝ}
    (h : ∀ n < 256, cell a (ra + n) (c + t) * cell s (r0 + n) t = (x n : EReal)) {k0 : Nat} (hk0 : k0 + 16 ≤ 32)
    (b : Vec Ideal S288x128 .f32) {n : Nat} (hn : n < 256) :
    scr (putRows (butterfly (nth (scaledV a s c (pairsL ra r0 k0 16)))) (rowsL k0 16) 0 b) n t
      = if k0 ≤ n / 8 ∧ n / 8 < k0 + 16 then (butterflyR (fun k => x (8 * (k0 + k) + n % 8)) (n / 8 - k0) : EReal) else scr b n t := by
  rw [putRows_scr _ hn ht]
  by_cases hc : k0 ≤ n / 8 ∧ n / 8 < k0 + 16
  · rw [if_pos hc, if_pos hc, Nat.zero_add, cell_lt _ (show n % 8 < 8 by omega) ht]
    refine butterfly_list (by simp [scaledV, pairsL]) (fun k hk => ?_) (by omega)
    have e : nth (scaledV a s c (pairsL ra r0 k0 16)) k = mulf (blk 8 128 1 a (ra + 8 * (k0 + 1 * k)) c) (blk 8 128 1 s (r0 + 8 * (k0 + 1 * k)) 0) := by
      unfold scaledV pairsL
      rw [List.map_map, nth_map _ _ (by rw [List.length_range']; omega), List.getElem_range']
      rfl
    rw [← h (8 * (k0 + k) + n % 8) (by omega)]
    rw [e]
    refine congrArg₂ (fun a b : EReal => a * b) ?_ ?_
    · exact congrArg₂ (cell a) (by show ra + 8 * (k0 + 1 * k) + 1 * (n % 8) = _; omega) rfl
    · exact congrArg₂ (cell s) (by show r0 + 8 * (k0 + 1 * k) + 1 * (n % 8) = _; omega) (by show 0 + t = t; omega)
  · rw [if_neg hc, if_neg hc]

/-- The second round, at the upper or lower part of each group of 128 rows. -/
theorem round1 {t mid : Nat} (ht : t < 128) (hm : mid < 2) {z : Nat → ℝ} (b : Vec Ideal S288x128 .f32)
    (h : ∀ n < 256, n / 64 % 2 = mid → scr b n t = (z n : EReal)) {n : Nat} (hn : n < 256) :
    scr (putStrided (butterfly (nth (stridedV b (stridedL mid 0 16)))) (stridedL mid 0 16) 0 b) n t
      = if n / 64 % 2 = mid then (butterflyR (fun j => z (128 * (j / 8 % 2) + 8 * (n / 8 % 16) + j % 8)) (n / 128 * 8 + n % 8) : EReal) else scr b n t := by
  rw [putStr_scr _ hn ht hm]
  by_cases hc : n / 64 % 2 = mid
  · rw [if_pos (by omega), if_pos hc, Nat.zero_add, Nat.sub_zero, cell_lt _ (show n / 8 % 8 < 8 by omega) ht]
    refine butterfly_list (by simp [stridedV, stridedL]) (fun k hk => ?_) (by omega)
    have e : nth (stridedV b (stridedL mid 0 16)) k = blk 8 128 9 b ((0 + 1 * k) / 8 * 144 + 72 * mid + (0 + 1 * k) % 8) 0 := by
      unfold stridedV stridedL
      rw [List.map_map, nth_map _ _ (by rw [List.length_range']; omega), List.getElem_range']
      rfl
    rw [← h (128 * (k / 8 % 2) + 8 * (n / 8 % 16) + k % 8) (by omega) (by omega)]
    rw [e]
    unfold scr
    refine congrArg₂ (cell b) ?_ (by show 0 + t = t; omega)
    show (0 + 1 * k) / 8 * 144 + 72 * mid + (0 + 1 * k) % 8 + 9 * (n / 8 % 8) = _
    omega
  · rw [if_neg (by omega), if_neg hc]

/-- The scratch after the rotation's passes. -/
theorem pass_scr {a : Vec Ideal S512x512 .f32} {s : Vec Ideal S1024x128 .f32} {ra r0 c t : Nat} (ht : t < 128) {x : Nat → ℝ}
    (h : ∀ n < 256, cell a (ra + n) (c + t) * cell s (r0 + n) t = (x n : EReal)) (b : Vec Ideal S288x128 .f32) {n : Nat} (hn : n < 256) :
    scr (passV a s (pairsL ra r0 0 16) (pairsL ra r0 16 16) c b) n t = ((∑ n' ∈ Finset.range 256, sgn n n' * x n' : ℝ) : EReal) := by
  have e0 : rows0 = rowsL 0 16 := rfl
  have e1 : rows1 = rowsL 16 16 := rfl
  have e2 : strided0 = stridedL 0 0 16 := rfl
  have e3 : strided1 = stridedL 1 0 16 := rfl
  unfold passV
  rw [e0, e1, e2, e3]
  dsimp only
  generalize hb2 : putRows (butterfly (nth (scaledV a s c (pairsL ra r0 16 16)))) (rowsL 16 16) 0
    (putRows (butterfly (nth (scaledV a s c (pairsL ra r0 0 16)))) (rowsL 0 16) 0 b) = b2
  have h2 : ∀ n < 256, scr b2 n t = (butterflyR (fun k => x (128 * (n / 128) + 8 * k + n % 8)) (n / 8 % 16) : EReal) := by
    intro n hn
    rw [← hb2, round0 ht h (by omega) _ hn, round0 ht h (by omega) _ hn]
    by_cases hc : 16 ≤ n / 8 ∧ n / 8 < 16 + 16
    · rw [if_pos hc, show n / 8 - 16 = n / 8 % 16 by omega]
      congr 2; funext k; congr 1; omega
    · rw [if_neg hc, if_pos (by omega), show n / 8 - 0 = n / 8 % 16 by omega]
      congr 2; funext k; congr 1; omega
  generalize hb3 : putStrided (butterfly (nth (stridedV b2 (stridedL 0 0 16)))) (stridedL 0 0 16) 0 b2 = b3
  have h3 : ∀ n < 256, scr b3 n t = if n / 64 % 2 = 0 then _ else scr b2 n t := fun n hn => by
    rw [← hb3]; exact round1 ht (by decide) b2 (fun n hn _ => h2 n hn) hn
  rw [round1 ht (by decide) b3 (z := fun n => butterflyR (fun k => x (128 * (n / 128) + 8 * k + n % 8)) (n / 8 % 16))
    (fun n hn hm => by rw [h3 n hn, if_neg (by omega), h2 n hn]) hn, h3 n hn, ← rounds x hn]
  have e : ∀ j < 16, butterflyR (fun k => x (128 * ((128 * (j / 8 % 2) + 8 * (n / 8 % 16) + j % 8) / 128) + 8 * k + (128 * (j / 8 % 2) + 8 * (n / 8 % 16) + j % 8) % 8))
        ((128 * (j / 8 % 2) + 8 * (n / 8 % 16) + j % 8) / 8 % 16) = butterflyR (fun k => x (128 * (j / 8) + 8 * k + j % 8)) (n / 8 % 16) := by
    intro j hj
    rw [show (128 * (j / 8 % 2) + 8 * (n / 8 % 16) + j % 8) / 128 = j / 8 by omega,
      show (128 * (j / 8 % 2) + 8 * (n / 8 % 16) + j % 8) % 8 = j % 8 by omega,
      show (128 * (j / 8 % 2) + 8 * (n / 8 % 16) + j % 8) / 8 % 16 = n / 8 % 16 by omega]
  have e' : butterflyR (fun j => butterflyR (fun k => x (128 * ((128 * (j / 8 % 2) + 8 * (n / 8 % 16) + j % 8) / 128) + 8 * k + (128 * (j / 8 % 2) + 8 * (n / 8 % 16) + j % 8) % 8))
        ((128 * (j / 8 % 2) + 8 * (n / 8 % 16) + j % 8) / 8 % 16)) (n / 128 * 8 + n % 8)
      = butterflyR (fun j => butterflyR (fun k => x (128 * (j / 8) + 8 * k + j % 8)) (n / 8 % 16)) (n / 128 * 8 + n % 8) := by
    rw [butterflyR_eq _ (by omega), butterflyR_eq _ (by omega)]
    exact Finset.sum_congr rfl fun j hj => by rw [e j (Finset.mem_range.mp hj)]
  rw [← e']
  split
  · rfl
  · split
    · rfl
    · omega

/-- What the kernel divides by. -/
def sixteenth : EReal := Ideal.ofBits .f32 0x3D800000#32

theorem out_cell (v : Vec Ideal S1x1x1024 .f32) (b : Vec Ideal S288x128 .f32) {k0 c d : Nat} (hk : k0 + 16 ≤ 32) (y : Vec Ideal S512x1024 .bf16) {i j : Nat}
    (hi : i < 512) (hj : j < 1024) : cell (outV v b (rowsL k0 16) c d y) i j
      = if c ≤ i ∧ i < c + 128 ∧ d ≤ j ∧ j < d + 128 then scr b (8 * k0 + (j - d)) (i - c) * (cell3 v 0 0 j * sixteenth) else cell y i j := by
  unfold outV
  rw [setBlk_in _ _ hi hj]
  by_cases hc : c ≤ i ∧ i < c + 128 ∧ d ≤ j ∧ j < d + 128
  · rw [if_pos hc, if_pos hc, yTile_cell _ _ (by omega) (by omega)]
    refine congrArg₂ (fun a b : EReal => a * b) ?_ (congrArg (fun a : EReal => a * sixteenth) ?_)
    · have e : nth (rowsV b (rowsL k0 16)) ((j - d) / 8) = blk 8 128 1 b (9 * (k0 + 1 * ((j - d) / 8))) 0 := by
        unfold rowsV rowsL
        rw [List.map_map, nth_map _ _ (by rw [List.length_range']; omega), List.getElem_range']
        rfl
      rw [e, cell_blk _ (by omega) (by omega)]
      unfold scr
      exact congrArg₂ (cell b) (by omega) (by omega)
    · show cell3 v 0 (0 + 0 % 1) (d + (j - d) % 128) = _
      rw [show d + (j - d) % 128 = j by omega]
  · rw [if_neg hc, if_neg hc]

/-- The rotated and scaled value of token `i` at output `j` of scaled products `x`. -/
def rotated (x : Nat → Nat → ℝ) (v : Vec Ideal S1x1x1024 .f32) (i j : Nat) : EReal :=
  ((∑ n' ∈ Finset.range 256, sgn (j % 256) n' * x i (j / 256 * 256 + n') : ℝ) : EReal) * (cell3 v 0 0 j * sixteenth)

theorem rotation_cell (v : Vec Ideal S1x1x1024 .f32) {a : Vec Ideal S512x512 .f32} {s : Vec Ideal S1024x128 .f32} {ra r0 c : Nat} {x : Nat → Nat → ℝ}
    (h : ∀ i < 512, ∀ n < 256, cell a (ra + n) i * cell s (r0 + n) (i % 128) = (x i (r0 + n) : EReal)) (hc : c % 128 = 0) (hr : r0 % 256 = 0)
    (p : Vec Ideal S512x1024 .bf16 × Vec Ideal S288x128 .f32) {i j : Nat} (hi : i < 512) (hj : j < 1024) :
    cell (rotationV v a s (pairsL ra r0 0 16) (pairsL ra r0 16 16) c r0 (r0 + 128) p).1 i j
      = if c ≤ i ∧ i < c + 128 ∧ r0 ≤ j ∧ j < r0 + 256 then rotated x v i j else cell p.1 i j := by
  have key : c ≤ i ∧ i < c + 128 ∧ r0 ≤ j ∧ j < r0 + 256 →
      scr (passV a s (pairsL ra r0 0 16) (pairsL ra r0 16 16) c p.2) (j - r0) (i - c) * (cell3 v 0 0 j * sixteenth) = rotated x v i j := by
    intro hh
    rw [pass_scr (t := i - c) (by omega) (x := fun n => x i (r0 + n)) (fun n hn => ?_) _ (by omega)]
    · unfold rotated
      rw [show j - r0 = j % 256 by omega, show j / 256 * 256 = r0 by omega]
    · rw [show c + (i - c) = i by omega, show i - c = i % 128 by omega]
      exact h i hi n hn
  unfold rotationV
  rw [show rows0 = rowsL 0 16 from rfl, show rows1 = rowsL 16 16 from rfl, out_cell _ _ (by omega) _ hi hj, out_cell _ _ (by omega) _ hi hj]
  by_cases h1 : c ≤ i ∧ i < c + 128 ∧ r0 + 128 ≤ j ∧ j < r0 + 128 + 128
  · rw [if_pos h1, if_pos (by omega), ← key (by omega), show 8 * 16 + (j - (r0 + 128)) = j - r0 by omega]
  · rw [if_neg h1]
    by_cases h0 : c ≤ i ∧ i < c + 128 ∧ r0 ≤ j ∧ j < r0 + 128
    · rw [if_pos h0, if_pos (by omega), ← key (by omega), show 8 * 0 + (j - r0) = j - r0 by omega]
    · rw [if_neg h0, if_neg (by omega)]

theorem rotTok_cell (v : Vec Ideal S1x1x1024 .f32) {a : Vec Ideal S512x512 .f32} {s : Vec Ideal S1024x128 .f32} {r0 c : Nat} {x : Nat → Nat → ℝ}
    (h : ∀ i < 512, ∀ n < 512, cell a n i * cell s (r0 + n) (i % 128) = (x i (r0 + n) : EReal)) (hc : c % 128 = 0) (hr : r0 % 256 = 0)
    (p : Vec Ideal S512x1024 .bf16 × Vec Ideal S288x128 .f32) {i j : Nat} (hi : i < 512) (hj : j < 1024) :
    cell (rotTokV v a s (pairsL 0 r0 0 16) (pairsL 0 r0 16 16) (pairsL 256 (r0 + 256) 0 16) (pairsL 256 (r0 + 256) 16 16) c r0 (r0 + 128) (r0 + 256) (r0 + 256 + 128) p).1 i j
      = if c ≤ i ∧ i < c + 128 ∧ r0 ≤ j ∧ j < r0 + 512 then rotated x v i j else cell p.1 i j := by
  unfold rotTokV
  rw [rotation_cell v (x := x) (fun i hi n hn => ?_) hc (by omega) _ hi hj, rotation_cell v (x := x) (fun i hi n hn => ?_) hc hr _ hi hj]
  · split
    · rw [if_pos (by omega)]
    · split
      · rw [if_pos (by omega)]
      · rw [if_neg (by omega)]
  · have := h i hi n (by omega)
    rw [Nat.zero_add]; exact this
  · have := h i hi (256 + n) (by omega)
    rw [Nat.add_assoc]; exact this

theorem rotHalf_cell (v : Vec Ideal S1x1x1024 .f32) {a : Vec Ideal S512x512 .f32} {s : Vec Ideal S1024x128 .f32} {r0 : Nat} {x : Nat → Nat → ℝ}
    (h : ∀ i < 512, ∀ n < 512, cell a n i * cell s (r0 + n) (i % 128) = (x i (r0 + n) : EReal)) (hr : r0 % 256 = 0)
    (p : Vec Ideal S512x1024 .bf16 × Vec Ideal S288x128 .f32) {i j : Nat} (hi : i < 512) (hj : j < 1024) :
    cell (rotHalfV v a s (pairsL 0 r0 0 16) (pairsL 0 r0 16 16) (pairsL 256 (r0 + 256) 0 16) (pairsL 256 (r0 + 256) 16 16) r0 (r0 + 128) (r0 + 256) (r0 + 256 + 128) p).1 i j
      = if r0 ≤ j ∧ j < r0 + 512 then rotated x v i j else cell p.1 i j := by
  unfold rotHalfV
  rw [rotTok_cell v h rfl hr _ hi hj, rotTok_cell v h rfl hr _ hi hj, rotTok_cell v h rfl hr _ hi hj, rotTok_cell v h rfl hr _ hi hj]
  by_cases hh : r0 ≤ j ∧ j < r0 + 512
  · rw [if_pos hh]
    split; · rfl
    split; · rfl
    split; · rfl
    rw [if_pos (by omega)]
  · rw [if_neg hh, if_neg (by omega), if_neg (by omega), if_neg (by omega), if_neg (by omega)]

/-- The output block of a point: every element of it, of scaled products `x`. -/
theorem outs_cell (i : grid0.Coords) (w : Vec Ideal S2x1024x4096 .bf16) (xs : Vec Ideal S512x4096 .bf16) (s : Vec Ideal S1024x128 .f32) (v : Vec Ideal S1x1x1024 .f32)
    (p : Vec Ideal S512x1024 .bf16 × Vec Ideal S288x128 .f32) {x : Nat → Nat → ℝ}
    (h0 : ∀ t < 512, ∀ n < 512, cell (productV w xs (k0_off3 i)) n t * cell s n (t % 128) = (x t n : EReal))
    (h1 : ∀ t < 512, ∀ n < 512, cell (productV w xs (k0_off4 i)) n t * cell s (512 + n) (t % 128) = (x t (512 + n) : EReal))
    {t j : Nat} (ht : t < 512) (hj : j < 1024) : cell (outsV i w xs s v p).1 t j = rotated x v t j := by
  unfold outsV
  rw [show L00 = pairsL 0 0 0 16 from rfl, show L01 = pairsL 0 0 16 16 from rfl, show L02 = pairsL 256 (0 + 256) 0 16 from rfl, show L03 = pairsL 256 (0 + 256) 16 16 from rfl,
    show L10 = pairsL 0 512 0 16 from rfl, show L11 = pairsL 0 512 16 16 from rfl, show L12 = pairsL 256 (512 + 256) 0 16 from rfl, show L13 = pairsL 256 (512 + 256) 16 16 from rfl]
  refine (rotHalf_cell v (r0 := 512) (x := x) h1 rfl _ ht hj).trans ?_
  by_cases hh : 512 ≤ j ∧ j < 512 + 512
  · rw [if_pos hh]
  · rw [if_neg hh]
    refine (rotHalf_cell v (r0 := 0) (x := x) (fun t ht n hn => ?_) rfl _ ht hj).trans (if_pos (by omega))
    rw [Nat.zero_add]
    exact h0 t ht n hn

end Cert.MainIdeal.Hand

end
-- ==== Proof.MainIdeal.Blocks.lean ====
/-
  The blocks that a point of the grid reads, as cells of the arrays the kernel is called with.
-/
module

public import proofs.«01_k».proof.Proof.MainIdeal.Decode
public import proofs.«01_k».proof.Proof.MainIdeal.Rotation
public import proofs.«01_k».proof.Proof.Gen.MainIdeal.Points
public import Idealize.ShloMosaic.Lib.Claim

@[expose] public section

set_option maxRecDepth 16384

noncomputable section

namespace Cert.MainIdeal.Strong

open Idealize.ShloMosaic Idealize.ShloMosaic.TcCoe Idealize.ShloMosaic.Tactic Idealize.ShloMosaic.ValueIdx
open _root_.Hand Cert.MainIdeal.Hand
open Cert.MainIdeal Cert.MainIdeal.Gen Facts₀ Facts

variable (m : (ℓ : Loc nD τ sig) → Buf (Elt Ideal) ℓ) (c : Dev nD)

/-- The tokens, the codes and the two vectors of scales, as the kernel is called with them. -/
abbrev xArr : Vec Ideal S6144x4096 .bf16 := m ((c.tc : Thread nD τ).loc main_arg0)
abbrev codeArr : Vec Ideal S14336x512 .i16 := m ((c.tc : Thread nD τ).loc main_arg1)
abbrev rsArr : Vec Ideal S14336 .f32 := m ((c.tc : Thread nD τ).loc main_arg2)
abbrev svArr : Vec Ideal S14336 .f32 := m ((c.tc : Thread nD τ).loc main_arg3)

/-- A vector's element at a number. -/
def at1 (x : Vec Ideal S14336 .f32) (i : Nat) : EReal := x (ix1 (Fin.ofNat 14336 i))

theorem lt_N (t : Fin cfg0.N) : t.val < 168 := lt_of_lt_of_eq t.isLt N_0

theorem offs0 : ∀ t : Fin grid0.N, (decide (k0_cond1 (grid0.coords t) = 1#1) = decide (t.val / 12 = 0 ∧ t.val % 12 = 0))
    ∧ (decide (Scalar.cmpi .ne (Scalar.extui (Scalar.cmpi .eq (BitVec.ofNat 32 ((grid0.coords t) 1).val) 0#32) : BitVec 32) 0#32 = 1#1) = decide (t.val % 12 = 0)) := by
  decide +kernel

theorem offs3 : ∀ t : Fin grid0.N, (k0_off3 (grid0.coords t) 0 = t.val / 12 % 2 ∧ k0_off3 (grid0.coords t) 1 = 0 ∧ k0_off3 (grid0.coords t) 2 = 0)
    ∧ k0_off4 (grid0.coords t) 0 = t.val / 12 % 2 ∧ k0_off4 (grid0.coords t) 1 = 512 ∧ k0_off4 (grid0.coords t) 2 = 0 := by
  decide +kernel

theorem offs5 : ∀ t : Fin grid0.N, ∀ n : Fin 3, k0_off5 (grid0.coords t) (BitVec.ofNat 32 n.val) 0 = subAt (t.val % 12) n.val / 4 * 128
    ∧ k0_off5 (grid0.coords t) (BitVec.ofNat 32 n.val) 1 = subAt (t.val % 12) n.val % 4 * 128 := by
  decide +kernel

theorem offs6 : ∀ t : Fin grid0.N, ∀ n : Fin 3, ∀ r : Fin 8, k0_off6 (grid0.coords t) (BitVec.ofNat 32 n.val) (BitVec.ofNat 32 r.val) 0 = 1 - t.val / 12 % 2
    ∧ k0_off6 (grid0.coords t) (BitVec.ofNat 32 n.val) (BitVec.ofNat 32 r.val) 1 = subAt (t.val % 12) n.val / 4 * 128
    ∧ k0_off6 (grid0.coords t) (BitVec.ofNat 32 n.val) (BitVec.ofNat 32 r.val) 2 = subAt (t.val % 12) n.val % 4 * 1024 + 128 * r.val := by
  decide +kernel

theorem offs (t : Fin cfg0.N) : Offs (grid0.coords t) (t.val / 12) (t.val % 12) where
  cond := propext (decide_eq_decide.mp (offs0 t).1)
  zero := propext (decide_eq_decide.mp (offs0 t).2)
  off3 := (offs3 t).1
  off4 := (offs3 t).2
  off5 := offs5 t
  off6 := offs6 t

theorem index_eq : ∀ t : Fin grid0.N,
    win0_0.index t (0 : Fin 2) = 0 ∧ win0_0.index t (1 : Fin 2) = 0
    ∧ win0_1.index t (0 : Fin 2) = min (t.val / 12 + 1) 13 ∧ win0_1.index t (1 : Fin 2) = 0
    ∧ (win0_2.index t (0 : Fin 3) = t.val / 12 ∧ win0_2.index t (1 : Fin 3) = 0 ∧ win0_2.index t (2 : Fin 3) = 0)
    ∧ (win0_3.index t (0 : Fin 3) = t.val / 12 ∧ win0_3.index t (1 : Fin 3) = 0 ∧ win0_3.index t (2 : Fin 3) = 0)
    ∧ win0_4.index t (0 : Fin 2) = t.val % 12 ∧ win0_4.index t (1 : Fin 2) = 0
    ∧ win0_5.index t (0 : Fin 2) = t.val % 12 ∧ win0_5.index t (1 : Fin 2) = t.val / 12 := by
  decide +kernel

theorem cell_iblk0 (t : Fin cfg0.N) {r k : Nat} (hr : r < 1024) (hk : k < 512) : cell (iblk m c 0 t : Vec Ideal S1024x512 .i16) r k = cell (codeArr m c) r k := by
  obtain ⟨e0, e1, -⟩ := index_eq t
  rw [show cell (iblk m c 0 t : Vec Ideal S1024x512 .i16) r k = _ from cell_eq (iblk m c 0 t : Vec Ideal S1024x512 .i16) (ix2 ⟨r, hr⟩ ⟨k, hk⟩) (Eq.refl r) (Eq.refl k)]
  refine (congrFun (V_main_arg1 m c) _).trans (cell_eq (codeArr m c) _ ?_ ?_).symm
  · show win0_0.index t (0 : Fin 2) * 1024 + 1 * r = r; omega
  · show win0_0.index t (1 : Fin 2) * 512 + 1 * k = k; omega

theorem cell_iblk1 (t : Fin cfg0.N) {r k : Nat} (hr : r < 1024) (hk : k < 512) :
    cell (iblk m c 1 t : Vec Ideal S1024x512 .i16) r k = cell (codeArr m c) (1024 * min (t.val / 12 + 1) 13 + r) k := by
  obtain ⟨-, -, e0, e1, -⟩ := index_eq t
  rw [show cell (iblk m c 1 t : Vec Ideal S1024x512 .i16) r k = _ from cell_eq (iblk m c 1 t : Vec Ideal S1024x512 .i16) (ix2 ⟨r, hr⟩ ⟨k, hk⟩) (Eq.refl r) (Eq.refl k)]
  refine (congrFun (V_main_arg1 m c) _).trans (cell_eq (codeArr m c) _ ?_ ?_).symm
  · show win0_1.index t (0 : Fin 2) * 1024 + 1 * r = _; omega
  · show win0_1.index t (1 : Fin 2) * 512 + 1 * k = k; omega

theorem cell_iblk4 (t : Fin cfg0.N) {r k : Nat} (hr : r < 512) (hk : k < 4096) :
    cell (iblk m c 4 t : Vec Ideal S512x4096 .bf16) r k = cell (xArr m c) (512 * (t.val % 12) + r) k := by
  obtain ⟨-, -, -, -, -, -, e0, e1, -⟩ := index_eq t
  rw [show cell (iblk m c 4 t : Vec Ideal S512x4096 .bf16) r k = _ from cell_eq (iblk m c 4 t : Vec Ideal S512x4096 .bf16) (ix2 ⟨r, hr⟩ ⟨k, hk⟩) (Eq.refl r) (Eq.refl k)]
  refine (congrFun (V_main_arg0 m c) _).trans (cell_eq (xArr m c) _ ?_ ?_).symm
  · show win0_4.index t (0 : Fin 2) * 512 + 1 * r = _; omega
  · show win0_4.index t (1 : Fin 2) * 4096 + 1 * k = k; omega

/-- A vector cut into fourteen rows, read at a place of a row. -/
theorem rows_at (x : Vec Ideal S14336 .f32) (h : S14336.ShapeCasts S14x1x1024) (i : S14x1x1024.Idx) {n : Nat} (hn : 1024 * (i 0).val + (i 2).val = n) :
    shapeCast S14x1x1024 x h i = at1 x n := by
  have h0 : (i 0).val < 14 := (i 0).isLt
  have h1 : (i 1).val < 1 := (i 1).isLt
  have h2 : (i 2).val < 1024 := (i 2).isLt
  subst hn
  refine shapeCast_apply x h _ _ ?_
  rw [Shape.rowMajor_val_three, Shape.rowMajor_val_one]
  show (1024 * (i 0).val + (i 2).val) % 14336 = ((i 0).val * 1 + (i 1).val) * 1024 + (i 2).val
  omega

theorem cell_iblk2 (t : Fin cfg0.N) {r : Nat} (hr : r < 1024) :
    cell3 (iblk m c 2 t : Vec Ideal S1x1x1024 .f32) 0 0 r = at1 (rsArr m c) (1024 * (t.val / 12) + r) := by
  obtain ⟨-, -, -, -, ⟨e0, e1, e2⟩, -⟩ := index_eq t
  rw [show cell3 (iblk m c 2 t : Vec Ideal S1x1x1024 .f32) 0 0 r = _ from cell3_eq (iblk m c 2 t : Vec Ideal S1x1x1024 .f32) (ix3 (0 : Fin 1) (0 : Fin 1) ⟨r, hr⟩) rfl rfl (Eq.refl r)]
  unfold iblk
  entry_read
  refine rows_at (rsArr m c) _ _ ?_
  show 1024 * (win0_2.index t (0 : Fin 3) * 1 + 1 * 0) + (win0_2.index t (2 : Fin 3) * 1024 + 1 * r) = _
  omega

theorem cell_iblk3 (t : Fin cfg0.N) {r : Nat} (hr : r < 1024) :
    cell3 (iblk m c 3 t : Vec Ideal S1x1x1024 .f32) 0 0 r = at1 (svArr m c) (1024 * (t.val / 12) + r) := by
  obtain ⟨-, -, -, -, -, ⟨e0, e1, e2⟩, -⟩ := index_eq t
  rw [show cell3 (iblk m c 3 t : Vec Ideal S1x1x1024 .f32) 0 0 r = _ from cell3_eq (iblk m c 3 t : Vec Ideal S1x1x1024 .f32) (ix3 (0 : Fin 1) (0 : Fin 1) ⟨r, hr⟩) rfl rfl (Eq.refl r)]
  unfold iblk
  entry_read
  refine rows_at (svArr m c) _ _ ?_
  show 1024 * (win0_3.index t (0 : Fin 3) * 1 + 1 * 0) + (win0_3.index t (2 : Fin 3) * 1024 + 1 * r) = _
  omega

end Cert.MainIdeal.Strong

end
-- ==== Proof.MainIdeal.Invariant.lean ====
/-
  What the scratch holds between the points of the grid, and the block of output that a point computes from it.
-/
module

public import proofs.«01_k».proof.Proof.MainIdeal.Blocks

@[expose] public section

set_option maxRecDepth 16384

noncomputable section

namespace Cert.MainIdeal.Strong

open Idealize.ShloMosaic Idealize.ShloMosaic.TcCoe Idealize.ShloMosaic.Tactic Idealize.ShloMosaic.ValueIdx
open _root_.Hand Cert.MainIdeal.Hand
open Cert.MainIdeal Cert.MainIdeal.Gen

variable (m : (ℓ : Loc nD τ sig) → Buf (Elt Ideal) ℓ) (c : Dev nD)

/-- The weight at a row and a column. -/
def weight (r k : Nat) : EReal := wAt (cell (codeArr m c) r) k

/-- The product of a row of weights and a token, times the row's scale. -/
def scaledProd (r t : Nat) : EReal := (∑ k : Fin 4096, weight m c r k.val * cell (xArr m c) t k.val) * at1 (rsArr m c) r

/-- The output at token `t` and row `r`: the scaled products of the row's block of 256 rotated by the signs, then scaled. -/
def result (t r : Nat) : EReal :=
  ((∑ n ∈ Finset.range 256, sgn (r % 256) n * (scaledProd m c (r / 256 * 256 + n) t).toReal : ℝ) : EReal) * (at1 (svArr m c) r * sixteenth)

/-- The scaled products are numbers. -/
def Finite : Prop := ∀ r < 14336, ∀ t < 6144, ((scaledProd m c r t).toReal : EReal) = scaledProd m c r t

/-- Before point `n` (block of rows `n / 12`, block of tokens `n % 12`): one buffer holds the weights of the block of rows, the other the sub-blocks
    of the next block decoded so far, and the scales are those of the block of rows. -/
def Inv (n : Nat) (w : Vec Ideal S2x1024x4096 .bf16) (s : Vec Ideal S1024x128 .f32) : Prop :=
  n < 168 → (0 < n → ∀ i < 1024, ∀ j < 4096, cell3 w (n / 12 % 2) i j = weight m c (1024 * (n / 12) + i) j)
    ∧ (∀ i < 1024, ∀ j < 4096, sub i j < 3 * (n % 12) → cell3 w (1 - n / 12 % 2) i j = weight m c (1024 * min (n / 12 + 1) 13 + i) j)
    ∧ (0 < n % 12 → ∀ r < 1024, ∀ t < 128, cell s r t = at1 (rsArr m c) (1024 * (n / 12) + r))

theorem inv_zero (w : Vec Ideal S2x1024x4096 .bf16) (s : Vec Ideal S1024x128 .f32) : Inv m c 0 w s :=
  fun _ => ⟨fun h => absurd h (by decide), fun i _ j _ h => absurd h (by omega), fun h => absurd h (by decide)⟩

theorem nx_lt {i : Nat} (hi : i < 512) : nx i < 512 := by unfold nx; split <;> omega

theorem wAt_congr {f g : Nat → BitVec 16} (h : ∀ k < 512, f k = g k) {j : Nat} (hj : j < 4096) : wAt f j = wAt g j := by
  unfold wAt
  rw [h _ (by omega), h _ (nx_lt (by omega))]

variable {m c}

/-- The weights that a point computes with. -/
theorem now_cell (t : Fin cfg0.N) {w : Vec Ideal S2x1024x4096 .bf16} {s : Vec Ideal S1024x128 .f32} (h : Inv m c t.val w s) {i j : Nat} (hi : i < 1024) (hj : j < 4096) :
    cell3 (firstV (grid0.coords t) (iblk m c 0 t) w) (t.val / 12 % 2) i j = weight m c (1024 * (t.val / 12) + i) j := by
  rw [first_cell (offs t) _ w (by omega) hi hj]
  by_cases h0 : t.val = 0
  · rw [if_pos (by omega), h0]
    exact (wAt_congr (fun k hk => cell_iblk0 m c t hi hk) hj).trans (by show weight m c i j = _; rw [show 1024 * (0 / 12) + i = i by omega])
  · rw [if_neg (by omega)]
    exact (h (lt_N t)).1 (by omega) i hi j hj

/-- The sub-blocks of the next block that are decoded after a point. -/
theorem then_cell (t : Fin cfg0.N) {w : Vec Ideal S2x1024x4096 .bf16} {s : Vec Ideal S1024x128 .f32} (h : Inv m c t.val w s) {i j : Nat} (hi : i < 1024) (hj : j < 4096)
    (hs : sub i j < 3 * (t.val % 12) + 3) :
    cell3 (nextV (grid0.coords t) (iblk m c 1 t) (firstV (grid0.coords t) (iblk m c 0 t) w)) (1 - t.val / 12 % 2) i j = weight m c (1024 * min (t.val / 12 + 1) 13 + i) j := by
  have h32 := sub_lt hi hj
  rw [next_cell (offs t) _ _ (by omega) hi hj]
  by_cases hd : sub i j = subAt (t.val % 12) 0 ∨ sub i j = subAt (t.val % 12) 1 ∨ sub i j = subAt (t.val % 12) 2
  · rw [if_pos ⟨rfl, hd⟩]
    exact wAt_congr (fun k hk => cell_iblk1 m c t hi hk) hj
  · rw [if_neg (fun hh => hd hh.2), first_cell (offs t) _ w (by omega) hi hj, if_neg (by omega)]
    refine (h (lt_N t)).2.1 i hi j hj ?_
    unfold subAt at hd
    omega

theorem scale_cell (t : Fin cfg0.N) {w : Vec Ideal S2x1024x4096 .bf16} {s : Vec Ideal S1024x128 .f32} (h : Inv m c t.val w s) {r u : Nat} (hr : r < 1024) (hu : u < 128) :
    cell (freshV (grid0.coords t) (iblk m c 2 t) s) r u = at1 (rsArr m c) (1024 * (t.val / 12) + r) := by
  rw [fresh_cell (offs t) _ s hr hu]
  by_cases h0 : t.val % 12 = 0
  · rw [if_pos h0]; exact cell_iblk2 m c t hr
  · rw [if_neg h0]; exact (h (lt_N t)).2.2 (by omega) r hr u hu

theorem inv_step (t : Fin cfg0.N) {w : Vec Ideal S2x1024x4096 .bf16} {s : Vec Ideal S1024x128 .f32} (h : Inv m c t.val w s) :
    Inv m c (t.val + 1) (nextV (grid0.coords t) (iblk m c 1 t) (firstV (grid0.coords t) (iblk m c 0 t) w)) (freshV (grid0.coords t) (iblk m c 2 t) s) := by
  intro hn
  by_cases hl : t.val % 12 = 11
  · have e1 : (t.val + 1) / 12 = t.val / 12 + 1 := by omega
    have e2 : (t.val + 1) % 12 = 0 := by omega
    rw [e1, e2]
    refine ⟨fun _ i hi j hj => ?_, fun i _ j _ hs => absurd hs (by omega), fun h0 => absurd h0 (by omega)⟩
    have h32 := sub_lt hi hj
    have := then_cell t h hi hj (by omega)
    rw [show (t.val / 12 + 1) % 2 = 1 - t.val / 12 % 2 by omega, this, show min (t.val / 12 + 1) 13 = t.val / 12 + 1 by omega]
  · have e1 : (t.val + 1) / 12 = t.val / 12 := by omega
    have e2 : (t.val + 1) % 12 = t.val % 12 + 1 := by omega
    rw [e1, e2]
    refine ⟨fun _ i hi j hj => ?_, fun i hi j hj hs => then_cell t h hi hj (by omega), fun _ r hr u hu => scale_cell t h hr hu⟩
    rw [next_cell (offs t) _ _ (by omega) hi hj, if_neg (by omega)]
    exact now_cell t h hi hj

theorem product_cell (t : Fin cfg0.N) {w : Vec Ideal S2x1024x4096 .bf16} {s : Vec Ideal S1024x128 .f32} (h : Inv m c t.val w s) {o : Fin 3 → Nat} {a : Nat}
    (ho : o 0 = t.val / 12 % 2 ∧ o 1 = a ∧ o 2 = 0) (ha : a + 512 ≤ 1024) {n u : Nat} (hn : n < 512) (hu : u < 512) :
    cell (productV (firstV (grid0.coords t) (iblk m c 0 t) w) (iblk m c 4 t) o) n u
      = ∑ k : Fin 4096, weight m c (1024 * (t.val / 12) + (a + n)) k.val * cell (xArr m c) (512 * (t.val % 12) + u) k.val := by
  obtain ⟨o0, o1, o2⟩ := ho
  unfold productV
  rw [prod_cell _ _ hn hu]
  refine Finset.sum_congr rfl fun k _ => congrArg₂ (fun a b : EReal => a * b) ?_ (cell_iblk4 m c t hu k.isLt)
  refine Eq.trans ?_ (now_cell t h (i := a + n) (by omega) k.isLt)
  show cell3 _ (o 0) (o 1 + n % 512) (o 2 + k.val % 4096) = _
  rw [o0, o1, o2, Nat.mod_eq_of_lt hn, Nat.mod_eq_of_lt k.isLt, Nat.zero_add]

/-- The block of output of a point. -/
theorem out_cell (hF : Finite m c) (t : Fin cfg0.N) {w : Vec Ideal S2x1024x4096 .bf16} {s : Vec Ideal S1024x128 .f32} (h : Inv m c t.val w s)
    (p : Vec Ideal S512x1024 .bf16 × Vec Ideal S288x128 .f32) {u j : Nat} (hu : u < 512) (hj : j < 1024) :
    cell (outsV (grid0.coords t) (firstV (grid0.coords t) (iblk m c 0 t) w) (iblk m c 4 t) (freshV (grid0.coords t) (iblk m c 2 t) s) (iblk m c 3 t) p).1 u j
      = result m c (512 * (t.val % 12) + u) (1024 * (t.val / 12) + j) := by
  have ht := lt_N t
  have key : ∀ (o : Fin 3 → Nat) (a : Nat), o 0 = t.val / 12 % 2 ∧ o 1 = a ∧ o 2 = 0 → a + 512 ≤ 1024 → ∀ u < 512, ∀ n < 512,
      cell (productV (firstV (grid0.coords t) (iblk m c 0 t) w) (iblk m c 4 t) o) n u * cell (freshV (grid0.coords t) (iblk m c 2 t) s) (a + n) (u % 128)
        = ((scaledProd m c (1024 * (t.val / 12) + (a + n)) (512 * (t.val % 12) + u)).toReal : EReal) := by
    intro o a ho ha u hu n hn
    rw [product_cell t h ho ha hn hu, scale_cell t h (by omega) (by omega), hF _ (by omega) _ (by omega)]
    rfl
  refine (outs_cell (grid0.coords t) _ _ _ _ p (x := fun u n => (scaledProd m c (1024 * (t.val / 12) + n) (512 * (t.val % 12) + u)).toReal) ?_ ?_ hu hj).trans ?_
  · intro u hu n hn
    have := key _ 0 (offs t).off3 (by omega) u hu n hn
    rwa [Nat.zero_add] at this
  · intro u hu n hn
    exact key _ 512 (offs t).off4 (by omega) u hu n hn
  · unfold rotated result
    rw [cell_iblk3 m c t hj, show (1024 * (t.val / 12) + j) % 256 = j % 256 by omega]
    refine congrArg (fun a : ℝ => (a : EReal) * _) (Finset.sum_congr rfl fun n _ => ?_)
    rw [show (1024 * (t.val / 12) + j) / 256 * 256 + n = 1024 * (t.val / 12) + (j / 256 * 256 + n) by omega]

end Cert.MainIdeal.Strong

end
-- ==== Proof.MainIdeal.Run.lean ====
/-
  The run of the main kernel when the scaled products are numbers: what its output array holds when it ends.
-/
module

public import proofs.«01_k».proof.Proof.MainIdeal.Frame
public import proofs.«01_k».proof.Proof.MainIdeal.Invariant
public import proofs.«01_k».proof.Proof.Gen.MainIdeal.Points
public import Idealize.ShloMosaic.Lib.Claim
public import Idealize.ShloMosaic.Lib.Pipeline.ValueKit

@[expose] public section

set_option maxRecDepth 16384

noncomputable section

namespace Cert.MainIdeal.Strong

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open _root_.Hand
open Cert.MainIdeal Cert.MainIdeal.Gen
open Cert.MainIdeal.Hand (ms0_0 ms0_1 ms0_2 ms0_3 ms0_4 ms0_5 sc0 sc1 sc2 sc3 sc4 PhiA0_eq defs₀_row body_run outsV firstV nextV freshV)

local notation "𝕄" => MT nD τ sig Unit (Elt Ideal) ℕ (UR sig nD τ) ℕ

variable (m : (ℓ : Loc nD τ sig) → Buf (Elt Ideal) ℓ) (ρ : Dev nD → PrngReg)

/-- The block of output at point `t`. -/
def outBlock (c : Dev nD) (t : Fin cfg0.N) : Vec Ideal S512x1024 .bf16 := fun i => result m c (512 * (t.val % 12) + (i 0).val) (1024 * (t.val / 12) + (i 1).val)

/-- The scratch before point `n`. -/
def Phi (c : Dev nD) (n : Nat) : sProp 𝕄 :=
  iprop(∃ w, ∃ s, ⌜Inv m c n w s⌝ ∗ owns (c : Thread nD τ) sc0 fullShare w ∗ (∃ d, owns (c : Thread nD τ) sc1 fullShare d) ∗ (∃ d, owns (c : Thread nD τ) sc2 fullShare d)
    ∗ owns (c : Thread nD τ) sc3 fullShare s ∗ (∃ d, owns (c : Thread nD τ) sc4 fullShare d) ∗ (∃ r, prngReg c r))

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlock m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem out_eq (c : Dev nD) (hF : Finite m c) (t : Fin cfg0.N) {w : Vec Ideal S2x1024x4096 .bf16} {s : Vec Ideal S1024x128 .f32} (h : Inv m c t.val w s)
    (p : Vec Ideal S512x1024 .bf16 × Vec Ideal S288x128 .f32) :
    (outsV (grid0.coords t) (firstV (grid0.coords t) (iblk m c 0 t) w) (iblk m c 4 t) (freshV (grid0.coords t) (iblk m c 2 t) s) (iblk m c 3 t) p).1 = outBlock m c t := by
  funext i
  rw [← cell_val (outsV _ _ _ _ _ _).1 i]
  exact out_cell hF t h p (i 0).isLt (i 1).isLt

set_option maxHeartbeats 800000 in
theorem sound_body (c : Dev nD) (hF : Finite m c) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5]
  unfold Phi
  iintro ⟨⟨%s0, %s3, %hI, HS0, ⟨%s1, HS1⟩, ⟨%s2, HS2⟩, HS3, ⟨%s4, HS4⟩, Hg⟩, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ _ _ _ _ _ _ _ _ _ _
    (iblk m c 0 t) (iblk m c 1 t) (iblk m c 2 t) (iblk m c 3 t) (iblk m c 4 t) ((dats m 0 c).before 5 t d5) s0 s1 s2 s3 s4 _) $$ [H0 H1 H2 H3 H4 H5 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iintro ⟨H0, H1, H2, H3, H4, H5, HS0, HS1, HS2, HS3, HS4⟩
  rw [out_eq m c hF t hI]
  isplitl [HS0 HS1 HS2 HS3 HS4 Hg]
  · iexists _; iexists _
    isplitr
    · ipureintro; exact inv_step t hI
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) (hF : Finite m c) : BodyObligation (dats m 0 c) (defs₀ (F := Ideal)) Variants.none () Set.univ := fun t => by
  rw [bigSep_W0, bigSep_W0, defs₀_row]
  exact triple_restated (sound_body m c hF t) rfl .rfl fun _ => .rfl

/-- Nothing is asked of the scratch at the start, -/
theorem hin (c : Dev nD) : Pipeline.ΦA spec0 c ⊢ (dats m 0 c).Φ 0 := by
  rw [show (dats m 0 c).Φ 0 = Phi m c 0 from rfl, PhiA0_eq]
  unfold Phi
  iintro ⟨⟨⟨%s0, HS0⟩, HS1, HS2, ⟨%s3, HS3⟩, HS4⟩, Hg⟩
  iexists s0; iexists s3
  isplitr
  · ipureintro; exact inv_zero m c s0 s3
  isplitl [HS0]; · iexact HS0
  isplitl [HS1]; · iexact HS1
  isplitl [HS2]; · iexact HS2
  isplitl [HS3]; · iexact HS3
  isplitl [HS4]; · iexact HS4
  iexact Hg

/-- and at the end it is given back. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨%s0, %s3, %hI, HS0, HS1, HS2, HS3, HS4, Hg⟩
  isplitl [HS0 HS1 HS2 HS3 HS4]
  · isplitl [HS0]; · iexists s0; iexact HS0
    isplitl [HS1]; · iexact HS1
    isplitl [HS2]; · iexact HS2
    isplitl [HS3]; · iexists s3; iexact HS3
    iexact HS4
  iexact Hg

set_option backward.isDefEq.respectTransparency.types false in
theorem run_main (hF : ∀ c, Finite m c) : θ_run defs (onTc (τ := τ) (main (F := Ideal))) (s₀ m ρ) (Pipeline.FramePost cfgs (dats m) 0 (V m)) :=
  Pipeline.θ_run_frame_track_shared cfgs (dats m) (0 : Fin 1) launch₀0 defs₀ Variants.none m ρ main
    (hbody := fun c => (body_obligation m c (hF c)).loose) (hq := fun _ _ _ => rfl)
    (howed := fun _ _ => rfl) (V := V m) (hmain := hmain m Variants.none) (hA := A_eq m) (hin := hin m) (hout := hout m)

/-! ## The output array -/

/-- The output of the kernel. -/
def outArr (c : Dev nD) : Vec Ideal S6144x14336 .bf16 := fun i => result m c (i 0).val (i 1).val

theorem final (c : Dev nD) : (dats m 0 c).arrAt 5 cfg0.N = outArr m c := by
  refine (dats m 0 c).arrAt_eq_of_covers 5 _ (by decide +kernel) fun t hf y => ?_
  obtain ⟨-, -, -, -, -, -, -, -, e0, e1⟩ := index_eq t
  blk_simp
  rw [after0_5]
  show result m c _ _ = result m c _ _
  refine congrArg₂ (result m c) ?_ ?_
  · show 512 * (t.val % 12) + (y 0).val = win0_5.index t (0 : Fin 2) * 512 + 1 * (y 0).val
    omega
  · show 1024 * (t.val / 12) + (y 1).val = win0_5.index t (1 : Fin 2) * 1024 + 1 * (y 1).val
    omega

/-- The run: the output array ends at the result, the arguments as they were. -/
theorem run (hF : ∀ c, Finite m c) : θ_run defs (onTc (τ := τ) (main (F := Ideal))) ⟨m, fun _ => 0, ρ⟩ (fun r => ∀ c : Dev nD,
      r.2.mem ((c.tc : Thread nD τ).loc main_v2) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).trans (final m c), h.2 c⟩)
    (θ_run_and ((θ_run defs _ _).mono (fun _ h c => (h c).1 5) (run_main m ρ hF)) (frame_of m ρ (dats m) (A_eq m) (run_main m ρ hF)))

end Cert.MainIdeal.Strong

end
-- ==== Proof.RefWeight.lean ====
/-
  The reference's weights: at a row and a column, the weight of the column's word and of the word after it in its run of thirty-two.
-/
module

public import proofs.«01_k».proof.Proof.Gen.RefMainIdeal.Read
public import proofs.«01_k».proof.Proof.Shared.Weight
public import proofs.«01_k».proof.Proof.Shared.Mem
public import proofs.«01_k».proof.Proof.MainIdeal.Tiles

@[expose] public section

noncomputable section

namespace Cert.RefMainIdeal.Hand

open Idealize.ShloMosaic Idealize.ShloMosaic.ValueIdx
open _root_.Hand Cert.RefMainIdeal Cert.RefMainIdeal.Read Facts₀ Facts
open Cert.MainIdeal.Hand (nx)

variable (x1 : Vec Ideal S14336x512 .i16)

theorem code_eq (i : S14336x512.Idx) : val_main_v14 (F := Ideal) x1 i = (x1 i).setWidth 32 := by
  rw [val_main_v14_apply]

theorem word_eq (i : S14336x16x32.Idx) : val_main_v15 (F := Ideal) x1 i = (cell x1 (i 0).val (32 * (i 1).val + (i 2).val)).setWidth 32 := by
  have h0 : (i 0).val < 14336 := (i 0).isLt
  have h1 : (i 1).val < 16 := (i 1).isLt
  have h2 : (i 2).val < 32 := (i 2).isLt
  rw [val_main_v15_apply, code_eq, ← cell_eq x1 (idx_main_v15 i) (i := (i 0).val) (j := 32 * (i 1).val + (i 2).val)
    (by show (((i 0).val * 16 + (i 1).val) * 32 + (i 2).val) / 512 = _; omega) (by show (((i 0).val * 16 + (i 1).val) * 32 + (i 2).val) % 512 = _; omega)]

/-- The word after a word, around its run of thirty-two. -/
theorem next_eq (i : S14336x512.Idx) : val_main_v17 (F := Ideal) x1 i = (cell x1 (i 0).val (nx (i 1).val)).setWidth 32 := by
  have h0 : (i 0).val < 14336 := (i 0).isLt
  have h1 : (i 1).val < 512 := (i 1).isLt
  have e0 : ((idx_main_v17 i) 0).val = (i 0).val := by show ((i 0).val * 512 + (i 1).val) / 512 = _; omega
  have e1 : ((idx_main_v17 i) 1).val = (i 1).val / 32 := by show ((i 0).val * 512 + (i 1).val) / 32 % 16 = _; omega
  have e2 : ((idx_main_v17 i) 2).val = (i 1).val % 32 := by show ((i 0).val * 512 + (i 1).val) % 32 = _; omega
  rw [val_main_v17_apply]
  unfold val_main_v16
  by_cases h : (i 1).val % 32 = 31
  · refine (concatenate_pair_apply_right (t := S14336x16x32) (s₁ := S14336x16x31) (s₂ := S14336x16x1) _ _ _ _ _ rfl rfl (ix3 (⟨(i 0).val, h0⟩ : Fin 14336) (⟨(i 1).val / 32, by omega⟩ : Fin 16) (0 : Fin 1)) ?_ ?_).trans ?_
    · intro b hb
      match b with
      | ⟨0, _⟩ => exact e0.symm
      | ⟨1, _⟩ => exact e1.symm
      | ⟨2, _⟩ => exact absurd rfl hb
    · show 0 + 31 = ((idx_main_v17 i) 2).val
      omega
    · rw [val_main_call0_v1_apply, word_eq]
      show (cell x1 (i 0).val (32 * ((i 1).val / 32) + 0)).setWidth 32 = _
      unfold nx
      rw [if_pos h, show 32 * ((i 1).val / 32) + 0 = (i 1).val - 31 by omega]
  · refine (concatenate_pair_apply_left (t := S14336x16x32) (s₁ := S14336x16x31) (s₂ := S14336x16x1) _ _ _ _ _ rfl (ix3 (⟨(i 0).val, h0⟩ : Fin 14336) (⟨(i 1).val / 32, by omega⟩ : Fin 16) (⟨(i 1).val % 32, by omega⟩ : Fin 31)) ?_).trans ?_
    · intro b
      match b with
      | ⟨0, _⟩ => exact e0.symm
      | ⟨1, _⟩ => exact e1.symm
      | ⟨2, _⟩ => exact e2.symm
    · rw [val_main_call0_v0_apply, word_eq]
      show (cell x1 (i 0).val (32 * ((i 1).val / 32) + (1 + (i 1).val % 32))).setWidth 32 = _
      unfold nx
      rw [if_neg h, show 32 * ((i 1).val / 32) + (1 + (i 1).val % 32) = (i 1).val + 1 by omega]

/-- The word that a weight is of. -/
abbrev pos (i : S14336x512x8.Idx) : S14336x512.Idx := idx_main_v21 (idx_main_v23 i)

theorem state_eq (i : S14336x512x8.Idx) : val_main_v35 (F := Ideal) x1 i
    = IntOp.andi (IntOp.ori (IntOp.shli .host (val_main_v14 (F := Ideal) x1 (pos i)) (IntOp.muli 2#32 (BitVec.ofNat 32 (i 2).val)))
      (IntOp.shrui .host (val_main_v17 (F := Ideal) x1 (pos i)) (IntOp.subi 16#32 (IntOp.muli 2#32 (BitVec.ofNat 32 (i 2).val))))) 65535#32 := by
  rw [val_main_v35_apply, val_main_v34_apply, val_main_c_3_apply, val_main_v33_apply, val_main_v25_apply, val_main_v32_apply, val_main_v24_apply, val_main_v22_apply,
    val_main_v31_apply, val_main_v29_apply, val_main_v28_apply, val_main_v27_apply, val_main_c_2_apply, val_main_v20_apply, val_main_v19_apply, val_main_c_1_apply,
    val_main_v18_apply, val_main_v23_apply, val_main_v21_apply, val_main_v30_apply, val_main_v26_apply]

theorem mixed_eq (i : S14336x512x8.Idx) : val_main_v43 (F := Ideal) x1 i
    = IntOp.xori (IntOp.andi (IntOp.addi (IntOp.muli (val_main_v35 (F := Ideal) x1 i) 89226354#32) 64248484#32) 2415890431#32) 996162400#32 := by
  rw [val_main_v43_apply, val_main_v42_apply, val_main_c_7_apply, val_main_v41_apply, val_main_v40_apply, val_main_c_6_apply, val_main_v39_apply, val_main_v38_apply, val_main_c_5_apply,
    val_main_v37_apply, val_main_v36_apply, val_main_c_4_apply]

theorem low_eq (i : S14336x512x8.Idx) : val_main_v57 (F := Ideal) x1 i = refHalf (IntOp.andi (val_main_v43 (F := Ideal) x1 i) 65535#32) := by
  unfold refHalf
  rw [val_main_v57_apply, val_main_v56_apply, val_main_cst_13_apply, val_main_v55_apply, val_main_v54_apply, val_main_v53_apply, val_main_v52_apply, val_main_c_12_apply, val_main_v51_apply, val_main_v50_apply,
    val_main_c_11_apply, val_main_v49_apply, val_main_v48_apply, val_main_c_10_apply, val_main_v47_apply, val_main_v46_apply, val_main_c_9_apply, val_main_v45_apply, val_main_v44_apply, val_main_c_8_apply]
  generalize val_main_v43 (F := Ideal) x1 i = u
  rfl

theorem high_eq (i : S14336x512x8.Idx) : val_main_v71 (F := Ideal) x1 i = refHalf (IntOp.shrui .host (val_main_v43 (F := Ideal) x1 i) 16#32) := by
  unfold refHalf
  rw [val_main_v71_apply, val_main_v70_apply, val_main_cst_19_apply, val_main_v69_apply, val_main_v68_apply, val_main_v67_apply, val_main_v66_apply, val_main_c_18_apply, val_main_v65_apply, val_main_v64_apply,
    val_main_c_17_apply, val_main_v63_apply, val_main_v62_apply, val_main_c_16_apply, val_main_v61_apply, val_main_v60_apply, val_main_c_15_apply, val_main_v59_apply, val_main_v58_apply, val_main_c_14_apply]
  generalize val_main_v43 (F := Ideal) x1 i = u
  rfl

/-- The reference's weight at a row and a column. -/
theorem weight_ref (i : S14336x4096.Idx) : val_main_v74 (F := Ideal) x1 i
    = refW ((cell x1 (i 0).val ((i 1).val / 8)).setWidth 32) ((cell x1 (i 0).val (nx ((i 1).val / 8))).setWidth 32) ((i 1).val % 8) := by
  have h0 : (i 0).val < 14336 := (i 0).isLt
  have h1 : (i 1).val < 4096 := (i 1).isLt
  have e0 : ((pos (idx_main_v74 i)) 0).val = (i 0).val := by show ((i 0).val * 4096 + (i 1).val) / 4096 = _; omega
  have e1 : ((pos (idx_main_v74 i)) 1).val = (i 1).val / 8 := by show ((i 0).val * 4096 + (i 1).val) / 8 % 512 = _; omega
  have e2 : ((idx_main_v74 i) 2).val = (i 1).val % 8 := by show ((i 0).val * 4096 + (i 1).val) % 8 = _; omega
  have ec : val_main_v14 (F := Ideal) x1 (pos (idx_main_v74 i)) = (cell x1 (i 0).val ((i 1).val / 8)).setWidth 32 := by
    rw [code_eq, ← cell_eq x1 _ e0 e1]
  have en : val_main_v17 (F := Ideal) x1 (pos (idx_main_v74 i)) = (cell x1 (i 0).val (nx ((i 1).val / 8))).setWidth 32 := by
    rw [next_eq, e0, e1]
  rw [val_main_v74_apply, val_main_v73_apply, val_main_v72_apply, low_eq, high_eq, mixed_eq, state_eq, ec, en, e2]
  unfold refW
  dsimp only
  generalize (cell x1 (i 0).val ((i 1).val / 8)).setWidth 32 = w
  generalize (cell x1 (i 0).val (nx ((i 1).val / 8))).setWidth 32 = n
  generalize IntOp.xori _ _ = x
  generalize refHalf (IntOp.andi x 65535#32) = a
  generalize refHalf (IntOp.shrui .host x 16#32) = b
  rfl

end Cert.RefMainIdeal.Hand

end
-- ==== Proof.Shared.Fields.lean ====
/-
  The bits of a decoded weight's half as the kernel and as the reference place them in an f32, field by field.
-/
module

public import Idealize.ShloMosaic.Lib.IdealHost

@[expose] public section

noncomputable section

namespace Hand

/-- The bits of the kernel's f32, of a word whose upper half is the generator's. -/
def kbits (g : BitVec 32) : BitVec 32 := ((g.sshiftRight 3) &&& 2181029888#32) ^^^ 1064042496#32

/-- An f16's bits placed in an f32. -/
def rbits (u : BitVec 32) : BitVec 32 := ((u &&& 32768#32) <<< 16) ||| ((u &&& 32767#32) <<< 13)

/-- What is decoded of a half of the generator's word. -/
def masked (v : BitVec 32) : BitVec 32 := (v &&& 36863#32) ^^^ 15200#32

set_option maxRecDepth 100000 in
/-- The two words have one sign and one fraction, and exponents 112 apart, neither zero nor all ones. -/
theorem fields : ∀ a b : Fin 256,
    ((kbits (BitVec.ofNat 32 (256 * a.val + b.val) <<< 16)).extractLsb' 31 1 = (rbits (masked (BitVec.ofNat 32 (256 * a.val + b.val)))).extractLsb' 31 1
    ∧ ((kbits (BitVec.ofNat 32 (256 * a.val + b.val) <<< 16)).extractLsb' 0 23).toNat = ((rbits (masked (BitVec.ofNat 32 (256 * a.val + b.val)))).extractLsb' 0 23).toNat)
    ∧ ((kbits (BitVec.ofNat 32 (256 * a.val + b.val) <<< 16)).extractLsb' 23 8).toNat = ((rbits (masked (BitVec.ofNat 32 (256 * a.val + b.val)))).extractLsb' 23 8).toNat + 112
    ∧ ((rbits (masked (BitVec.ofNat 32 (256 * a.val + b.val)))).extractLsb' 23 8).toNat ≠ 0
    ∧ ((rbits (masked (BitVec.ofNat 32 (256 * a.val + b.val)))).extractLsb' 23 8).toNat < 100 := by
  decide +kernel

end Hand

end
-- ==== Proof.Shared.Bits.lean ====
/-
  One weight, decoded in two ways. The kernel shifts the two halves of a generator's word into the bits of an f32 and moves the
  exponent by its mask; the reference reads each half as an f16, whose bits it places in an f32 and scales by two to the 112.
-/
module

public import proofs.«01_k».proof.Proof.Shared.Weight
public import proofs.«01_k».proof.Proof.Shared.Fields
public import Idealize.ShloMosaic.Lib.IdealHost
public import Mathlib.Tactic.IntervalCases
public import Mathlib.Tactic.Ring
public import Mathlib.Tactic.NormNum

@[expose] public section

noncomputable section

namespace Hand

open Idealize.ShloMosaic

/-- Two to the 112. -/
theorem ofBits_scale : Ideal.ofBits .f32 0x77800000#32 = (((2 : ℝ) ^ (112 : Int) : ℝ) : EReal) := by
  simp [Ideal.ofBits, Ideal.ieee, -EReal.coe_mul]; norm_cast

/-- A number of which the exponent is neither zero nor all ones. -/
theorem ofBits_normal {k : BitVec 32} (h0 : (k.extractLsb' 23 8).toNat ≠ 0) (h1 : (k.extractLsb' 23 8).toNat < 255) :
    Ideal.ofBits .f32 k = (((if (k.extractLsb' 31 1 == 1#1) = true then (-1 : ℝ) else 1) * ((8388608 + (k.extractLsb' 0 23).toNat : ℕ) : ℝ)
      * (2 : ℝ) ^ (((k.extractLsb' 23 8).toNat : Int) - 127 - 23) : ℝ) : EReal) := by
  simp only [Ideal.ofBits, Ideal.ieee]
  norm_num only
  rw [if_neg (show ¬ (k.extractLsb' 23 8).toNat = 255 by omega), if_neg h0]

/-- Equal fields but for an exponent 112 higher: the number times two to the 112. -/
theorem ofBits_shift {k r : BitVec 32} (hs : k.extractLsb' 31 1 = r.extractLsb' 31 1)
    (hf : (k.extractLsb' 0 23).toNat = (r.extractLsb' 0 23).toNat)
    (he : (k.extractLsb' 23 8).toNat = (r.extractLsb' 23 8).toNat + 112) (h0 : (r.extractLsb' 23 8).toNat ≠ 0) (h1 : (r.extractLsb' 23 8).toNat < 100) :
    ∃ x : ℝ, Ideal.ofBits .f32 k = (x : EReal) ∧ Ideal.ofBits .f32 r * Ideal.ofBits .f32 0x77800000#32 = (x : EReal) := by
  rw [ofBits_scale, ofBits_normal h0 (by omega), ofBits_normal (k := k) (by omega) (by omega), hs, hf, he]
  refine ⟨_, rfl, ?_⟩
  rw [← EReal.coe_mul]
  congr 1
  push_cast
  rw [mul_assoc, ← zpow_add₀ (by norm_num : (2 : ℝ) ≠ 0)]
  congr 2
  ring

/-- The two readings of a half of the generator's word agree. -/
theorem half_eq (v : BitVec 32) (hv : v.toNat < 65536) :
    ∃ x : ℝ, Ideal.ofBits .f32 (kbits (v <<< 16)) = (x : EReal)
      ∧ Ideal.ofBits .f32 (rbits (masked v)) * Ideal.ofBits .f32 0x77800000#32 = (x : EReal) := by
  have e : v = BitVec.ofNat 32 (256 * (v.toNat / 256) + v.toNat % 256) := by
    rw [Nat.div_add_mod]; simp
  obtain ⟨⟨h1, h2⟩, h3, h4, h5⟩ := fields ⟨v.toNat / 256, by omega⟩ ⟨v.toNat % 256, by omega⟩
  dsimp only at h1 h2 h3 h4 h5
  rw [← e] at h1 h2 h3 h4 h5
  exact ofBits_shift h1 h2 h3 h4 h5

theorem kbits_hi (h : BitVec 32) : kbits h = kbits ((h >>> 16) <<< 16) := by
  apply BitVec.eq_of_getLsbD_eq
  intro i hi
  unfold kbits
  interval_cases i <;> simp [BitVec.getElem_sshiftRight, BitVec.getElem_shiftLeft, BitVec.getElem_ushiftRight, BitVec.msb_eq_getLsbD_last]

theorem shl_low (h : BitVec 32) : h <<< 16 = (h &&& 65535#32) <<< 16 := by
  apply BitVec.eq_of_getLsbD_eq
  intro i hi
  interval_cases i <;> simp [BitVec.getLsbD_shiftLeft]

theorem masked_lo (h : BitVec 32) : ((h &&& 2415890431#32) ^^^ 996162400#32) &&& 65535#32 = masked (h &&& 65535#32) := by
  apply BitVec.eq_of_getLsbD_eq
  intro i hi
  unfold masked
  interval_cases i <;> simp

theorem masked_hi (h : BitVec 32) : ((h &&& 2415890431#32) ^^^ 996162400#32) >>> 16 = masked (h >>> 16) := by
  apply BitVec.eq_of_getLsbD_eq
  intro i hi
  unfold masked
  interval_cases i <;> simp [BitVec.getLsbD_ushiftRight]

/-- A trellis state read out of a word and its successor, side by side or one by one. -/
theorem state_eq (w n : BitVec 16) {s : Nat} (hs : s < 8) :
    (((w.setWidth 32 <<< 16) ||| n.setWidth 32) >>> (16 - 2 * s)) &&& 65535#32
      = ((w.setWidth 32 <<< (2 * s)) ||| (n.setWidth 32 >>> (16 - 2 * s))) &&& 65535#32 := by
  apply BitVec.eq_of_getLsbD_eq
  intro i hi
  interval_cases s <;> interval_cases i <;> simp [BitVec.getLsbD_ushiftRight, BitVec.getLsbD_shiftLeft, BitVec.getLsbD_setWidth]

/-- The generator's word of a state. -/
def gen (state : BitVec 32) : BitVec 32 := state * 89226354#32 + 64248484#32

theorem refHalf_eq (u : BitVec 32) : refHalf u = Ideal.ofBits .f32 (rbits u) * Ideal.ofBits .f32 0x77800000#32 := rfl

theorem kernelW_eq (word : BitVec 32) {s : Nat} (hs : s < 8) :
    kernelW word s = Ideal.ofBits .f32 (kbits (gen ((word >>> (16 - 2 * s)) &&& 65535#32) <<< 16))
      + Ideal.ofBits .f32 (kbits (gen ((word >>> (16 - 2 * s)) &&& 65535#32))) := by
  interval_cases s <;> rfl

theorem refW_eq (w n : BitVec 32) {s : Nat} (hs : s < 8) :
    refW w n s = refHalf ((((gen (((w <<< (2 * s)) ||| (n >>> (16 - 2 * s))) &&& 65535#32)) &&& 2415890431#32) ^^^ 996162400#32) &&& 65535#32)
      + refHalf ((((gen (((w <<< (2 * s)) ||| (n >>> (16 - 2 * s))) &&& 65535#32)) &&& 2415890431#32) ^^^ 996162400#32) >>> 16) := by
  interval_cases s <;> rfl

/-- The two weights agree, and are a real number. -/
theorem weight_eq (w n : BitVec 16) {s : Nat} (hs : s < 8) :
    ∃ x : ℝ, kernelW (IntOp.ori (IntOp.shli .vector (w.setWidth 32) 16#32) (n.setWidth 32)) s = (x : EReal)
      ∧ refW (w.setWidth 32) (n.setWidth 32) s = (x : EReal) := by
  rw [kernelW_eq _ hs, refW_eq _ _ hs]
  rw [show IntOp.ori (IntOp.shli .vector (w.setWidth 32) 16#32) (n.setWidth 32) = ((w.setWidth 32 <<< 16) ||| n.setWidth 32) from rfl, state_eq w n hs]
  generalize gen ((((w.setWidth 32 <<< (2 * s)) ||| (n.setWidth 32 >>> (16 - 2 * s))) &&& 65535#32)) = h
  rw [kbits_hi h, shl_low h, masked_lo, masked_hi, refHalf_eq, refHalf_eq]
  obtain ⟨a, ha, ha'⟩ := half_eq (h &&& 65535#32) (by
    rw [BitVec.toNat_and]; exact Nat.lt_of_le_of_lt Nat.and_le_right (by decide))
  obtain ⟨b, hb, hb'⟩ := half_eq (h >>> 16) (by
    rw [BitVec.toNat_ushiftRight, Nat.shiftRight_eq_div_pow]; have := h.isLt; omega)
  exact ⟨a + b, by rw [ha, hb, EReal.coe_add], by rw [ha', hb', EReal.coe_add]⟩

end Hand

end
-- ==== Proof.Shared.Finite.lean ====
/-
  Numbers among the extended reals: sums of numbers, and a test of finiteness that says an element is a number.
-/
module

public import Idealize.ShloMosaic.PureOps.Ideal
public import Idealize.ShloMosaic.Lib.ReduceAll
public import Idealize.ShloMosaic.Lib.Claim
public import Idealize.ShloMosaic.Lib.Pipeline.ValueKit

@[expose] public section

noncomputable section

namespace Hand

open Idealize.ShloMosaic

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A sum of numbers is a number. -/
theorem sum_real {ι : Type} (s : Finset ι) {f : ι → EReal} (h : ∀ i, ∃ a : ℝ, f i = a) : ∃ a : ℝ, ∑ i ∈ s, f i = a := by
  choose g hg using h
  exact ⟨∑ i ∈ s, g i, by rw [coe_sum]; exact Finset.sum_congr rfl fun i _ => hg i⟩

theorem mul_real {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

theorem toReal_real {a : EReal} (ha : ∃ x : ℝ, a = x) : (a.toReal : EReal) = a := by
  obtain ⟨x, rfl⟩ := ha
  rw [EReal.toReal_coe]

theorem ofBits_inf_f32 : Ideal.ofBits .f32 0x7F800000#32 = ⊤ := by
  simp [Ideal.ofBits, Ideal.ieee]

theorem ofBits_inf_bf16 : Ideal.ofBits .bf16 0x7F80#16 = ⊤ := by
  simp [Ideal.ofBits, Ideal.ieee]

/-- What is of absolute value below infinity is a number. -/
theorem real_of_abs_lt {a : EReal} (h : max a (-a) < ⊤) : ∃ x : ℝ, a = x := by
  induction a with
  | bot => simp at h
  | coe x => exact ⟨x, rfl⟩
  | top => simp at h

theorem real_of_olt {a : EReal} (h : BitVec.ofBool (decide (max a (-a) < ⊤)) = 1#1) : ∃ x : ℝ, a = x := by
  refine real_of_abs_lt ?_
  by_contra hn
  rw [decide_eq_false hn] at h
  exact absurd h (by decide)

end Hand

end
-- ==== Proof.MainValue.lean ====
/-
  The main kernel's output is the reference's.
-/
module

public import proofs.«01_k».proof.Proof.MainIdeal.Invariant
public import proofs.«01_k».proof.Proof.RefWeight
public import proofs.«01_k».proof.Proof.Shared.Bits
public import proofs.«01_k».proof.Proof.Shared.Sign
public import proofs.«01_k».proof.Proof.Shared.Finite
public import Mathlib.Tactic.NormNum

@[expose] public section

noncomputable section

namespace Cert.RefMainIdeal.Hand

open Idealize.ShloMosaic Idealize.ShloMosaic.TcCoe Idealize.ShloMosaic.ValueIdx
open _root_.Hand Cert.RefMainIdeal Cert.RefMainIdeal.Read
open Cert.MainIdeal.Strong (at1 weight scaledProd result Finite xArr codeArr rsArr svArr)
open Cert.MainIdeal.Hand (sixteenth wAt)

theorem pop_par : ∀ n : Fin 256, IntOp.andi (IntOp.ctpop (BitVec.ofNat 32 n.val)) 1#32 = BitVec.ofNat 32 (par n.val) := by decide +kernel

/-- An entry of the reference's Hadamard matrix. -/
theorem entry_eq (i : S256x256.Idx) : val_main_v13 (F := Ideal) i = (sgn (i 1).val (i 0).val : EReal) := by
  have h0 : (i 0).val < 256 := (i 0).isLt
  have h1 : (i 1).val < 256 := (i 1).isLt
  have hb : (i 1).val &&& (i 0).val < 256 := Nat.and_lt_two_pow _ (by omega : (i 0).val < 2 ^ 8)
  rw [val_main_v13_apply, val_main_v12_apply, val_main_cst_0_apply, val_main_v11_apply, val_main_v10_apply, val_main_cst_apply, val_main_v9_apply, val_main_v8_apply, val_main_v7_apply, val_main_c_apply,
    val_main_v6_apply, val_main_v5_apply, val_main_v4_apply, val_main_v3_apply, val_main_v2_apply, val_main_v1_apply, val_main_v0_apply, val_main_v0_apply]
  have e : IntOp.andi (BitVec.ofNat 32 (i 0).val) (BitVec.ofNat 32 (i 1).val) = BitVec.ofNat 32 ((i 1).val &&& (i 0).val) := by
    rw [Nat.and_comm, BitVec.ofNat_and]; rfl
  refine Eq.trans (b := (FloatOps.subf (F := Ideal) (FloatOps.ofBits .f32 0x3F800000#32) (FloatOps.mulf (FloatOps.ofBits .f32 0x40000000#32)
    (FloatOps.uitofp .f32 (IntOp.andi (IntOp.ctpop (IntOp.andi (BitVec.ofNat 32 (i 0).val) (BitVec.ofNat 32 (i 1).val))) 1#32))) : EReal)) rfl ?_
  rw [e, pop_par ⟨_, hb⟩]
  unfold sgn
  have hp : par ((i 1).val &&& (i 0).val) = 0 ∨ par ((i 1).val &&& (i 0).val) = 1 := by unfold par; omega
  show Ideal.ofBits .f32 0x3F800000#32 - Ideal.ofBits .f32 0x40000000#32 * (((BitVec.ofNat 32 (par ((i 1).val &&& (i 0).val))).toNat : ℝ) : EReal) = _
  have c1 : Ideal.ofBits .f32 0x3F800000#32 = ((1 : ℝ) : EReal) := by simp [Ideal.ofBits, Ideal.ieee, -EReal.coe_mul]; norm_num
  have c2 : Ideal.ofBits .f32 0x40000000#32 = ((2 : ℝ) : EReal) := by simp [Ideal.ofBits, Ideal.ieee, -EReal.coe_mul]; norm_num
  rw [c1, c2]
  rcases hp with hp | hp
  · rw [hp, if_pos rfl, ← EReal.coe_mul, ← EReal.coe_sub]; norm_num
  · rw [hp, if_neg (by decide), ← EReal.coe_mul, ← EReal.coe_sub]; norm_num

open Cert.MainIdeal (nD τ sig)

variable {m : (ℓ : Loc Cert.MainIdeal.nD Cert.MainIdeal.τ Cert.MainIdeal.sig) → Buf (Elt Ideal) ℓ} {c : Dev Cert.MainIdeal.nD}

theorem weight_real (r k : Nat) : ∃ x : ℝ, weight m c r k = x := by
  obtain ⟨x, hx, -⟩ := weight_eq (cell (codeArr m c) r (k / 8)) (cell (codeArr m c) r (Cert.MainIdeal.Hand.nx (k / 8))) (s := k % 8) (by omega)
  exact ⟨x, hx⟩

theorem weight_same (i : S14336x4096.Idx) : val_main_v74 (F := Ideal) (codeArr m c) i = weight m c (i 0).val (i 1).val := by
  rw [weight_ref]
  obtain ⟨x, hx, hy⟩ := weight_eq (cell (codeArr m c) (i 0).val ((i 1).val / 8)) (cell (codeArr m c) (i 0).val (Cert.MainIdeal.Hand.nx ((i 1).val / 8))) (s := (i 1).val % 8) (by omega)
  exact hy.trans hx.symm

/-- With numbers for tokens and scales the scaled products are numbers. -/
theorem finite (hx : ∀ i, ∃ a : ℝ, xArr m c i = (a : EReal)) (hr : ∀ i, ∃ a : ℝ, rsArr m c i = (a : EReal)) : Finite m c := by
  intro r _ t _
  refine toReal_real (mul_real (sum_real _ fun k => mul_real (weight_real r k.val) (hx _)) (hr _))

theorem scaled_eq (i : S6144x14336.Idx) : val_main_v78 (F := Ideal) (xArr m c) (codeArr m c) (rsArr m c) i = scaledProd m c (i 1).val (i 0).val := by
  rw [val_main_v78_apply, val_main_v75_apply, val_main_v77_apply, val_main_v76_apply]
  refine congrArg₂ (fun a b : EReal => a * b) (Finset.sum_congr rfl fun k _ => ?_) ?_
  · rw [weight_same, mul_comm]
    exact congrArg₂ (fun a b : EReal => a * b) rfl (cell_eq (xArr m c) _ rfl rfl).symm
  · refine congrArg (rsArr m c) (funext fun a => Fin.ext ?_)
    match a with
    | ⟨0, _⟩ => exact (Nat.mod_eq_of_lt (i 1).isLt).symm

/-- A block of scaled products times the matrix. -/
theorem rotated_eq (hF : Finite m c) (i : S6144x56x256.Idx) : val_main_v80 (F := Ideal) (xArr m c) (codeArr m c) (rsArr m c) i
    = ((∑ n ∈ Finset.range 256, sgn (i 2).val n * (scaledProd m c (256 * (i 1).val + n) (i 0).val).toReal : ℝ) : EReal) := by
  have h0 : (i 0).val < 6144 := (i 0).isLt
  have h1 : (i 1).val < 56 := (i 1).isLt
  rw [val_main_v80_apply, ← Fin.sum_univ_eq_sum_range (fun n => sgn (i 2).val n * (scaledProd m c (256 * (i 1).val + n) (i 0).val).toReal), coe_sum]
  refine Finset.sum_congr rfl fun k _ => ?_
  have hk := k.isLt
  rw [val_main_v79_apply, scaled_eq, entry_eq, EReal.coe_mul, hF _ (by omega) _ h0, mul_comm]
  refine congrArg₂ (fun a b : EReal => a * b) rfl (congrArg₂ (scaledProd m c) ?_ ?_)
  · show (((i 0).val * 56 + (i 1).val) * 256 + k.val) % 14336 = _; omega
  · show (((i 0).val * 56 + (i 1).val) * 256 + k.val) / 14336 = _; omega

/-- The output. -/
theorem value_eq (hF : Finite m c) (i : S6144x14336.Idx) : val_main_v87 (F := Ideal) (xArr m c) (codeArr m c) (rsArr m c) (svArr m c) i = result m c (i 0).val (i 1).val := by
  have h0 : (i 0).val < 6144 := (i 0).isLt
  have h1 : (i 1).val < 14336 := (i 1).isLt
  rw [val_main_v87_apply, val_main_v86_apply, val_main_v85_apply, val_main_v84_apply, val_main_v83_apply, val_main_v82_apply, val_main_v81_apply, val_main_cst_20_apply, rotated_eq hF]
  have e0 : ((idx_main_v83 i) 0).val = (i 0).val := by show ((i 0).val * 14336 + (i 1).val) / 14336 = _; omega
  have e1 : ((idx_main_v83 i) 1).val = (i 1).val / 256 := by show ((i 0).val * 14336 + (i 1).val) / 256 % 56 = _; omega
  have e2 : ((idx_main_v83 i) 2).val = (i 1).val % 256 := by show ((i 0).val * 14336 + (i 1).val) % 256 = _; omega
  rw [e0, e1, e2]
  have ev : svArr m c (idx_main_v84 (idx_main_v85 i)) = at1 (svArr m c) (i 1).val := by
    refine congrArg (svArr m c) (funext fun a => Fin.ext ?_)
    match a with
    | ⟨0, _⟩ => exact (Nat.mod_eq_of_lt (i 1).isLt).symm
  rw [ev]
  unfold result
  rw [Nat.mul_comm 256]
  generalize (∑ n ∈ Finset.range 256, sgn ((i 1).val % 256) n * (scaledProd m c ((i 1).val / 256 * 256 + n) (i 0).val).toReal) = z
  show (z : EReal) * sixteenth * at1 (svArr m c) (i 1).val = z * (at1 (svArr m c) (i 1).val * sixteenth)
  rw [mul_assoc, mul_comm sixteenth]

end Cert.RefMainIdeal.Hand

end
-- ==== Proof.MainPre.lean ====
/-
  The precondition of the main kernel's claim says that the tokens and the scales of the rows are numbers.
-/
module

public import proofs.«01_k».proof.Pre_finite_main
public import proofs.«01_k».proof.Proof.Shared.Finite

@[expose] public section

noncomputable section

namespace Cert.Pre_finite_main

open Idealize.ShloMosaic
open _root_.Hand

theorem facts : Facts where
  bcast_S_S6144x4096 := by decide
  reducesTo_S6144x4096_S_d0_1 := by decide
  h_S_ := by decide
  bcast_S_S14336 := by decide
  reducesTo_S14336_S_d0 := by decide

theorem numbers [Facts] {x0 : FVec Ideal S6144x4096 .bf16} {x1 : IVec S14336x512 16} {x2 x3 : FVec Ideal S14336 .f32} (h : fn x0 x1 x2 x3 = fun _ => 1#1) :
    (∀ i, ∃ a : ℝ, (x0 i : EReal) = a) ∧ ∀ i, ∃ a : ℝ, (x2 i : EReal) = a := by
  have h0 := congrFun h (fun a => a.elim0)
  have hs : ∀ a b : BitVec 1, IntOp.andi a b = 1#1 → a = 1#1 ∧ b = 1#1 := by decide
  obtain ⟨ha, hb⟩ := hs _ _ h0
  have hsub : Subsingleton S_.Idx := ⟨fun a b => funext fun k => k.elim0⟩
  constructor
  · intro i
    have := Host.reduce_andi_all _ _ _ _ _ ha i
    refine real_of_olt ?_
    rw [← ofBits_inf_bf16]
    exact this
  · intro i
    have := Host.reduce_andi_all _ _ _ _ _ hb i
    refine real_of_olt ?_
    rw [← ofBits_inf_f32]
    exact this

end Cert.Pre_finite_main

end
-- ==== Proof.MainClaim.lean ====
/-
  The claim about the main kernel: with numbers for tokens and scales it computes what the reference computes.
-/
module

public import proofs.«01_k».proof.Defs
public import proofs.«01_k».proof.Proof.MainIdeal.Run
public import proofs.«01_k».proof.Proof.MainValue
public import proofs.«01_k».proof.Proof.MainPre
public import proofs.«01_k».proof.Proof.Gen.RefMainIdeal.Run
public import Idealize.ShloMosaic.Lib.Quiescent

@[expose] public section

noncomputable section

namespace Cert.Proof

open Idealize.ShloMosaic Idealize.SL.Sem

theorem refMain_frame : Cert.quiescent_RefMainIdeal := fun m g _ =>
  (θ_run _ _ _).mono (fun r h => ⟨fun c => (h c).2, sem_eq_zero_of_no_sems (by decide) r.2⟩) (Cert.RefMainIdeal.Value.run (F := Ideal) m g)

theorem ref_result {m' : (ℓ : Loc Cert.RefMainIdeal.nD Cert.RefMainIdeal.τ Cert.RefMainIdeal.sig) → Buf (Elt Ideal) ℓ}
    {m : (ℓ : Loc Cert.MainIdeal.nD Cert.MainIdeal.τ Cert.MainIdeal.sig) → Buf (Elt Ideal) ℓ} {c : Dev Cert.MainIdeal.nD}
    (h0 : m' ((c.tc : Thread Cert.RefMainIdeal.nD Cert.RefMainIdeal.τ).loc Cert.RefMainIdeal.main_arg0) = Cert.MainIdeal.Strong.xArr m c)
    (h1 : m' ((c.tc : Thread Cert.RefMainIdeal.nD Cert.RefMainIdeal.τ).loc Cert.RefMainIdeal.main_arg1) = Cert.MainIdeal.Strong.codeArr m c)
    (h2 : m' ((c.tc : Thread Cert.RefMainIdeal.nD Cert.RefMainIdeal.τ).loc Cert.RefMainIdeal.main_arg2) = Cert.MainIdeal.Strong.rsArr m c)
    (h3 : m' ((c.tc : Thread Cert.RefMainIdeal.nD Cert.RefMainIdeal.τ).loc Cert.RefMainIdeal.main_arg3) = Cert.MainIdeal.Strong.svArr m c)
    (hF : Cert.MainIdeal.Strong.Finite m c) : Cert.RefMainIdeal.Value.res_main_v87 m' c = Cert.MainIdeal.Strong.outArr m c := by
  rw [Cert.RefMainIdeal.Read.val_main_v87_eq m' c, h0, h1, h2, h3]
  exact funext fun i => Cert.RefMainIdeal.Hand.value_eq hF i

theorem main_claim [Cert.Pre_finite_main.Facts] : Cert.algebraic_MainIdeal_RefMainIdeal_pre_finite_main := fun m g m' g' hp he => by
  have hF : ∀ c, Cert.MainIdeal.Strong.Finite m c := fun c =>
    Cert.RefMainIdeal.Hand.finite (Cert.Pre_finite_main.numbers (hp c)).1 (Cert.Pre_finite_main.numbers (hp c)).2
  refine ⟨Cert.MainIdeal.Strong.outArr m, Cert.MainIdeal.Strong.run m g hF, ?_⟩
  exact (θ_run _ _ _).mono (fun r h c => ⟨(h c).1.trans (ref_result (he c).1 (he c).2.1 (he c).2.2.1 (he c).2.2.2 (hF c)), (h c).2⟩)
    (Cert.RefMainIdeal.Value.run (F := Ideal) m' g')

end Cert.Proof

end
-- ==== Proof.RotIdeal.Body.lean ====
/-
  What the input rotation's body leaves in its output block and in its scratch: each block of 256 columns is one function of the
  same columns of the inputs and of the matrix in the scratch.
-/
module

public import proofs.«01_k».proof.Proof.Gen.RotIdeal.Value
public import proofs.«01_k».proof.Proof.Shared.Mem

@[expose] public section

set_option maxRecDepth 16384

noncomputable section

namespace Cert.RotIdeal.Hand

open Idealize.ShloMosaic Idealize.ShloMosaic.ValueIdx
open _root_.Hand
open Cert.RotIdeal Cert.RotIdeal.Gen

variable {F : FTy → Type} [FloatOps F]

theorem hz : (![0, 0] : Fin 2 → Nat) = fun _ => 0 := funext fun a => by fin_cases a <;> rfl

/-- The output block: column `c` is column `c % 256` of the rotation of the group of 256 columns in which it lies. -/
def outBlock (h : Vec F S256x256 .bf16) (x : Vec F S512x4096 .bf16) (s : Vec F S1x4096 .f32) : Vec F S512x4096 .bf16 := fun p =>
  k0_pay3 h (blk 512 256 1 x 0 (256 * ((p 1).val / 256))) (blk 1 256 1 s 0 (256 * ((p 1).val / 256)))
    (ix2 (Fin.ofNat 512 (p 0).val) (Fin.ofNat 256 (p 1).val))

theorem outBlock_at (h : Vec F S256x256 .bf16) (x : Vec F S512x4096 .bf16) (s : Vec F S1x4096 .f32) (g : Nat) (j : S512x256.Idx) (p : S512x4096.Idx)
    (h0 : (p 0).val = (j 0).val) (h1 : (p 1).val = 256 * g + (j 1).val) :
    k0_pay3 h (blk 512 256 1 x 0 (256 * g)) (blk 1 256 1 s 0 (256 * g)) j = outBlock h x s p := by
  have hj : (j 1).val < 256 := (j 1).isLt
  have hj0 : (j 0).val < 512 := (j 0).isLt
  unfold outBlock
  rw [show (p 1).val / 256 = g by omega]
  refine congrArg _ ((eq_ix2 j).trans (congrArg₂ ix2 (Fin.ext ?_) (Fin.ext ?_)))
  · show (j 0).val = (p 0).val % 512; omega
  · show (j 1).val = (p 1).val % 256; omega

/-- What a load of 256 columns from an input block finds: those columns. -/
theorem ld_x (o : Nat) (hi : ∀ a, (![0, o] : Fin 2 → Nat) a + (![512, 256] : Fin 2 → Nat) a ≤ S512x4096.size a) (a1 : Memref sig .tc .vmem S512x4096 .bf16) (h1 : a1.IsWhole)
    (x : Vec F S512x4096 .bf16) : View.readAt (Elt F) a1.view (Rect.unit ![0, o] ![512, 256] hi).toLoadRect (h1.unread x) = blk 512 256 1 x 0 o := by
  rw [View.readAt_eq_ld, h1.read_unread]
  exact load_unit x ![0, o] hi

theorem ld_s (o : Nat) (hi : ∀ a, (![0, o] : Fin 2 → Nat) a + (![1, 256] : Fin 2 → Nat) a ≤ S1x4096.size a) (a2 : Memref sig .tc .vmem S1x4096 .f32) (h2 : a2.IsWhole)
    (s : Vec F S1x4096 .f32) : View.readAt (Elt F) a2.view (Rect.unit ![0, o] ![1, 256] hi).toLoadRect (h2.unread s) = blk 1 256 1 s 0 o := by
  rw [View.readAt_eq_ld, h2.read_unread]
  exact load_unit s ![0, o] hi

theorem ld_h (hi : ∀ a, (![0, 0] : Fin 2 → Nat) a + (![256, 256] : Fin 2 → Nat) a ≤ S256x256.size a) (a4 : Memref sig .tc .vmem S256x256 .bf16) (h4 : a4.IsWhole)
    (h : Vec F S256x256 .bf16) : View.readAt (Elt F) a4.view (Rect.unit ![0, 0] ![256, 256] hi).toLoadRect (h4.unread h) = h := by
  rw [View.readAt_eq_ld, h4.read_unread, View.ld_unit_zero hz]

/-- One store: the rotation of the loaded columns is the block's function at the stored columns. -/
theorem piece (g : Nat) (hi : ∀ a, (![0, 256 * g] : Fin 2 → Nat) a + (![512, 256] : Fin 2 → Nat) a ≤ S512x4096.size a)
    {h h' : Vec F S256x256 .bf16} {x : Vec F S512x4096 .bf16} {s : Vec F S1x4096 .f32} {x' : Vec F S512x256 .bf16} {s' : Vec F S1x256 .f32}
    (eh : h' = h) (ex : x' = blk 512 256 1 x 0 (256 * g)) (es : s' = blk 1 256 1 s 0 (256 * g)) (j : S512x256.Idx) :
    k0_pay3 h' x' s' j = outBlock h x s ((Rect.unit (s := S512x4096) ![0, 256 * g] ![512, 256] hi).emb j) := by
  subst eh ex es
  refine outBlock_at h' x s g j _ ?_ ?_
  · show 0 + 1 * (j 0).val = _; omega
  · show 256 * g + 1 * (j 1).val = _; omega

/-- A later point's output block, over the matrix the scratch holds. -/
theorem out_B (c : Dev nD) (i : grid0.Coords) (a1 : Memref sig .tc .vmem S512x4096 .bf16) (h1 : a1.IsWhole) (a2 : Memref sig .tc .vmem S1x4096 .f32) (h2 : a2.IsWhole)
    (a3 : Memref sig .tc .vmem S512x4096 .bf16) (h3 : a3.IsWhole) (a4 : Memref sig .tc .vmem S256x256 .bf16) (h4 : a4.IsWhole) (hc : ¬cond0_0 i)
    (x : Vec F S512x4096 .bf16) (s : Vec F S1x4096 .f32) (h : Vec F S256x256 .bf16) :
    out0_B_2 c i a1 h1 a2 h2 a3 h3 a4 h4 hc x s h = outBlock h x s := by
  funext y
  have hcov := cover0_B_2 c i a1 h1 a2 h2 a3 h3 a4 h4 hc x s h
  unfold out0_B_2
  rw [View.read_writes_eq_canon _ _ _ hcov]
  refine View.canon_apply_of_pieces (outBlock h x s) _ (fun p hp j => ?_) y (hcov y)
  unfold kernelRun0_B at hp
  dsimp only at hp
  simp only [List.mem_cons, List.not_mem_nil, or_false] at hp
  have eh := ld_h inb_S256x256_S256x256_0_0 a4 h4 h
  rcases hp with rfl | rfl | rfl | rfl | rfl | rfl | rfl | rfl | rfl | rfl | rfl | rfl | rfl | rfl | rfl | rfl
  · have e := piece (h := h) 15 inb_S512x4096_S512x256_0_3840 eh (ld_x 3840 inb_S512x4096_S512x256_0_3840 a1 h1 x) (ld_s 3840 inb_S1x4096_S1x256_0_3840 a2 h2 s) j; exact e
  · have e := piece (h := h) 14 inb_S512x4096_S512x256_0_3584 eh (ld_x 3584 inb_S512x4096_S512x256_0_3584 a1 h1 x) (ld_s 3584 inb_S1x4096_S1x256_0_3584 a2 h2 s) j; exact e
  · have e := piece (h := h) 13 inb_S512x4096_S512x256_0_3328 eh (ld_x 3328 inb_S512x4096_S512x256_0_3328 a1 h1 x) (ld_s 3328 inb_S1x4096_S1x256_0_3328 a2 h2 s) j; exact e
  · have e := piece (h := h) 12 inb_S512x4096_S512x256_0_3072 eh (ld_x 3072 inb_S512x4096_S512x256_0_3072 a1 h1 x) (ld_s 3072 inb_S1x4096_S1x256_0_3072 a2 h2 s) j; exact e
  · have e := piece (h := h) 11 inb_S512x4096_S512x256_0_2816 eh (ld_x 2816 inb_S512x4096_S512x256_0_2816 a1 h1 x) (ld_s 2816 inb_S1x4096_S1x256_0_2816 a2 h2 s) j; exact e
  · have e := piece (h := h) 10 inb_S512x4096_S512x256_0_2560 eh (ld_x 2560 inb_S512x4096_S512x256_0_2560 a1 h1 x) (ld_s 2560 inb_S1x4096_S1x256_0_2560 a2 h2 s) j; exact e
  · have e := piece (h := h) 9 inb_S512x4096_S512x256_0_2304 eh (ld_x 2304 inb_S512x4096_S512x256_0_2304 a1 h1 x) (ld_s 2304 inb_S1x4096_S1x256_0_2304 a2 h2 s) j; exact e
  · have e := piece (h := h) 8 inb_S512x4096_S512x256_0_2048 eh (ld_x 2048 inb_S512x4096_S512x256_0_2048 a1 h1 x) (ld_s 2048 inb_S1x4096_S1x256_0_2048 a2 h2 s) j; exact e
  · have e := piece (h := h) 7 inb_S512x4096_S512x256_0_1792 eh (ld_x 1792 inb_S512x4096_S512x256_0_1792 a1 h1 x) (ld_s 1792 inb_S1x4096_S1x256_0_1792 a2 h2 s) j; exact e
  · have e := piece (h := h) 6 inb_S512x4096_S512x256_0_1536 eh (ld_x 1536 inb_S512x4096_S512x256_0_1536 a1 h1 x) (ld_s 1536 inb_S1x4096_S1x256_0_1536 a2 h2 s) j; exact e
  · have e := piece (h := h) 5 inb_S512x4096_S512x256_0_1280 eh (ld_x 1280 inb_S512x4096_S512x256_0_1280 a1 h1 x) (ld_s 1280 inb_S1x4096_S1x256_0_1280 a2 h2 s) j; exact e
  · have e := piece (h := h) 4 inb_S512x4096_S512x256_0_1024 eh (ld_x 1024 inb_S512x4096_S512x256_0_1024 a1 h1 x) (ld_s 1024 inb_S1x4096_S1x256_0_1024 a2 h2 s) j; exact e
  · have e := piece (h := h) 3 inb_S512x4096_S512x256_0_768 eh (ld_x 768 inb_S512x4096_S512x256_0_768 a1 h1 x) (ld_s 768 inb_S1x4096_S1x256_0_768 a2 h2 s) j; exact e
  · have e := piece (h := h) 2 inb_S512x4096_S512x256_0_512 eh (ld_x 512 inb_S512x4096_S512x256_0_512 a1 h1 x) (ld_s 512 inb_S1x4096_S1x256_0_512 a2 h2 s) j; exact e
  · have e := piece (h := h) 1 inb_S512x4096_S512x256_0_256 eh (ld_x 256 inb_S512x4096_S512x256_0_256 a1 h1 x) (ld_s 256 inb_S1x4096_S1x256_0_256 a2 h2 s) j; exact e
  · have e := piece (h := h) 0 inb_S512x4096_S512x256_0_0 eh (ld_x 0 inb_S512x4096_S512x256_0_0 a1 h1 x) (ld_s 0 inb_S1x4096_S1x256_0_0 a2 h2 s) j; exact e

/-- The first point's scratch: the matrix it computes. -/
theorem scratch_A (c : Dev nD) (i : grid0.Coords) (a1 : Memref sig .tc .vmem S512x4096 .bf16) (h1 : a1.IsWhole) (a2 : Memref sig .tc .vmem S1x4096 .f32) (h2 : a2.IsWhole)
    (a3 : Memref sig .tc .vmem S512x4096 .bf16) (h3 : a3.IsWhole) (a4 : Memref sig .tc .vmem S256x256 .bf16) (h4 : a4.IsWhole) (hc : cond0_0 i)
    (x : Vec F S512x4096 .bf16) (s : Vec F S1x4096 .f32) :
    sout0_A_0 c i a1 h1 a2 h2 a3 h3 a4 h4 hc x s = k0_pay2 := by
  unfold sout0_A_0
  rw [View.read_writes_eq_canon _ _ _ (scover0_A_0 c i a1 h1 a2 h2 a3 h3 a4 h4 hc x s)]
  unfold kernelRun0_A
  dsimp only
  sl_unfold_words
  exact View.canon_unit_zero hz _ _

/-- The first point's output block, over the matrix it has just stored. -/
theorem out_A (c : Dev nD) (i : grid0.Coords) (a1 : Memref sig .tc .vmem S512x4096 .bf16) (h1 : a1.IsWhole) (a2 : Memref sig .tc .vmem S1x4096 .f32) (h2 : a2.IsWhole)
    (a3 : Memref sig .tc .vmem S512x4096 .bf16) (h3 : a3.IsWhole) (a4 : Memref sig .tc .vmem S256x256 .bf16) (h4 : a4.IsWhole) (hc : cond0_0 i)
    (x : Vec F S512x4096 .bf16) (s : Vec F S1x4096 .f32) :
    out0_A_2 c i a1 h1 a2 h2 a3 h3 a4 h4 hc x s = outBlock k0_pay2 x s := by
  funext y
  have hcov := cover0_A_2 c i a1 h1 a2 h2 a3 h3 a4 h4 hc x s
  unfold out0_A_2
  rw [View.read_writes_eq_canon _ _ _ hcov]
  refine View.canon_apply_of_pieces (outBlock k0_pay2 x s) _ (fun p hp j => ?_) y (hcov y)
  unfold kernelRun0_A at hp
  dsimp only at hp
  simp only [List.mem_cons, List.not_mem_nil, or_false] at hp
  have eh := View.readCov_unit_zero (Val := Elt F) a4.view hz inb_S256x256_S256x256_0_0 (k0_pay2 (F := F))
  rcases hp with rfl | rfl | rfl | rfl | rfl | rfl | rfl | rfl | rfl | rfl | rfl | rfl | rfl | rfl | rfl | rfl
  · have e := piece (h := k0_pay2) 15 inb_S512x4096_S512x256_0_3840 eh (ld_x 3840 inb_S512x4096_S512x256_0_3840 a1 h1 x) (ld_s 3840 inb_S1x4096_S1x256_0_3840 a2 h2 s) j; exact e
  · have e := piece (h := k0_pay2) 14 inb_S512x4096_S512x256_0_3584 eh (ld_x 3584 inb_S512x4096_S512x256_0_3584 a1 h1 x) (ld_s 3584 inb_S1x4096_S1x256_0_3584 a2 h2 s) j; exact e
  · have e := piece (h := k0_pay2) 13 inb_S512x4096_S512x256_0_3328 eh (ld_x 3328 inb_S512x4096_S512x256_0_3328 a1 h1 x) (ld_s 3328 inb_S1x4096_S1x256_0_3328 a2 h2 s) j; exact e
  · have e := piece (h := k0_pay2) 12 inb_S512x4096_S512x256_0_3072 eh (ld_x 3072 inb_S512x4096_S512x256_0_3072 a1 h1 x) (ld_s 3072 inb_S1x4096_S1x256_0_3072 a2 h2 s) j; exact e
  · have e := piece (h := k0_pay2) 11 inb_S512x4096_S512x256_0_2816 eh (ld_x 2816 inb_S512x4096_S512x256_0_2816 a1 h1 x) (ld_s 2816 inb_S1x4096_S1x256_0_2816 a2 h2 s) j; exact e
  · have e := piece (h := k0_pay2) 10 inb_S512x4096_S512x256_0_2560 eh (ld_x 2560 inb_S512x4096_S512x256_0_2560 a1 h1 x) (ld_s 2560 inb_S1x4096_S1x256_0_2560 a2 h2 s) j; exact e
  · have e := piece (h := k0_pay2) 9 inb_S512x4096_S512x256_0_2304 eh (ld_x 2304 inb_S512x4096_S512x256_0_2304 a1 h1 x) (ld_s 2304 inb_S1x4096_S1x256_0_2304 a2 h2 s) j; exact e
  · have e := piece (h := k0_pay2) 8 inb_S512x4096_S512x256_0_2048 eh (ld_x 2048 inb_S512x4096_S512x256_0_2048 a1 h1 x) (ld_s 2048 inb_S1x4096_S1x256_0_2048 a2 h2 s) j; exact e
  · have e := piece (h := k0_pay2) 7 inb_S512x4096_S512x256_0_1792 eh (ld_x 1792 inb_S512x4096_S512x256_0_1792 a1 h1 x) (ld_s 1792 inb_S1x4096_S1x256_0_1792 a2 h2 s) j; exact e
  · have e := piece (h := k0_pay2) 6 inb_S512x4096_S512x256_0_1536 eh (ld_x 1536 inb_S512x4096_S512x256_0_1536 a1 h1 x) (ld_s 1536 inb_S1x4096_S1x256_0_1536 a2 h2 s) j; exact e
  · have e := piece (h := k0_pay2) 5 inb_S512x4096_S512x256_0_1280 eh (ld_x 1280 inb_S512x4096_S512x256_0_1280 a1 h1 x) (ld_s 1280 inb_S1x4096_S1x256_0_1280 a2 h2 s) j; exact e
  · have e := piece (h := k0_pay2) 4 inb_S512x4096_S512x256_0_1024 eh (ld_x 1024 inb_S512x4096_S512x256_0_1024 a1 h1 x) (ld_s 1024 inb_S1x4096_S1x256_0_1024 a2 h2 s) j; exact e
  · have e := piece (h := k0_pay2) 3 inb_S512x4096_S512x256_0_768 eh (ld_x 768 inb_S512x4096_S512x256_0_768 a1 h1 x) (ld_s 768 inb_S1x4096_S1x256_0_768 a2 h2 s) j; exact e
  · have e := piece (h := k0_pay2) 2 inb_S512x4096_S512x256_0_512 eh (ld_x 512 inb_S512x4096_S512x256_0_512 a1 h1 x) (ld_s 512 inb_S1x4096_S1x256_0_512 a2 h2 s) j; exact e
  · have e := piece (h := k0_pay2) 1 inb_S512x4096_S512x256_0_256 eh (ld_x 256 inb_S512x4096_S512x256_0_256 a1 h1 x) (ld_s 256 inb_S1x4096_S1x256_0_256 a2 h2 s) j; exact e
  · have e := piece (h := k0_pay2) 0 inb_S512x4096_S512x256_0_0 eh (ld_x 0 inb_S512x4096_S512x256_0_0 a1 h1 x) (ld_s 0 inb_S1x4096_S1x256_0_0 a2 h2 s) j; exact e

end Cert.RotIdeal.Hand

end
-- ==== Proof.RotIdeal.Unit.lean ====
/-
  The rotation of one group of 256 columns in exact arithmetic: the products with the signs times the matrix of signs, times 1/16.
  The first part of a number's split is the number itself, and the other two are nothing.
-/
module

public import proofs.«01_k».proof.Proof.RotIdeal.Body
public import proofs.«01_k».proof.Proof.Shared.Sign
public import proofs.«01_k».proof.Proof.Shared.Finite
public import Idealize.ShloMosaic.Lib.MatmulPlain
public import Idealize.ShloMosaic.Lib.ValueLayout
public import Mathlib.Tactic.NormNum

@[expose] public section

noncomputable section

namespace Cert.RotIdeal.Hand

open Idealize.ShloMosaic Idealize.ShloMosaic.TcCoe
open _root_.Hand
open Cert.RotIdeal Cert.RotIdeal.Gen

/-- The factor 1/16. -/
abbrev sixteenth : EReal := Ideal.ofBits .f32 0x3D800000#32

/-- A product with the matrix, at an entry. -/
theorem mm_apply (v : FVec Ideal S512x256 .bf16) (h : FVec Ideal S256x256 .bf16) (r : Fin 512) (q : Fin 256) :
    matmul dot_S512x256_S256x256_S512x256_1_0_0_1_n_n none v h (constant S512x256 .f32 0x00000000#32) (ValueIdx.ix2 r q) = ∑ k : Fin 256, v (ValueIdx.ix2 r k) * h (ValueIdx.ix2 k q) :=
  (Ideal.matmul_plain_apply (M := 512) (K := 256) (N := 256) none v h _ r q).trans ((congrArg₂ (· + ·) Ideal.ofBits_zero_f32 rfl).trans (zero_add _))

theorem mm_zero (v : FVec Ideal S512x256 .bf16) (h : FVec Ideal S256x256 .bf16) (hv : ∀ i, v i = (0 : EReal)) (r : Fin 512) (q : Fin 256) :
    matmul dot_S512x256_S256x256_S512x256_1_0_0_1_n_n none v h (constant S512x256 .f32 0x00000000#32) (ValueIdx.ix2 r q) = (0 : EReal) := by
  rw [mm_apply]
  exact Finset.sum_eq_zero fun k _ => by rw [hv]; exact zero_mul _

theorem sub_same {z : EReal} (h : ∃ a : ℝ, z = a) : z - z = 0 := by
  obtain ⟨a, rfl⟩ := h
  rw [← EReal.coe_sub, sub_self, EReal.coe_zero]

theorem unit_eq (h : FVec Ideal S256x256 .bf16) (x : Vec Ideal S512x256 .bf16) (s : Vec Ideal S1x256 .f32)
    (hx : ∀ i, ∃ a : ℝ, x i = (a : EReal)) (hs : ∀ i, ∃ a : ℝ, s i = (a : EReal)) (r : Fin 512) (q : Fin 256) :
    k0_pay3 (F := Ideal) h x s (ValueIdx.ix2 r q) = ((∑ k : Fin 256, (x (ValueIdx.ix2 r k) * s (ValueIdx.ix2 (0 : Fin 1) k)) * h (ValueIdx.ix2 k q)) * sixteenth : EReal) := by
  let v : FVec Ideal S512x256 .f32 := mulf (F := Ideal) (extf .f32 x bitsLt_bf16_f32)
    (broadcastTo S512x256 (shapeCast S1x256 s shapeCasts_S1x256_S1x256) broadcasts_S1x256_S512x256)
  have ev : ∀ (a : Fin 512) (b : Fin 256), v (ValueIdx.ix2 a b) = (x (ValueIdx.ix2 a b) * s (ValueIdx.ix2 (0 : Fin 1) b) : EReal) := fun a b => by
    show (x (ValueIdx.ix2 a b) * broadcastTo S512x256 (shapeCast S1x256 s shapeCasts_S1x256_S1x256) broadcasts_S1x256_S512x256 (ValueIdx.ix2 a b) : EReal) = _
    rw [shapeCast_self]
    exact congrArg (fun z : EReal => x (ValueIdx.ix2 a b) * z) (ValueIdx.broadcastTo_1b_ab_apply _ _ _ _)
  have hv : ∀ i, ∃ a : ℝ, v i = (a : EReal) := fun i => by
    obtain ⟨a, ha⟩ := mul_real (hx (ValueIdx.ix2 (i 0) (i 1))) (hs (ValueIdx.ix2 (0 : Fin 1) (i 1)))
    exact ⟨a, ((congrArg v (ValueIdx.eq_ix2 i)).trans (ev (i 0) (i 1))).trans ha⟩
  let z : FVec Ideal S512x256 .bf16 := subf (F := Ideal) v v
  have hz0 : ∀ i, z i = (0 : EReal) := fun i => sub_same (hv i)
  let w : FVec Ideal S512x256 .bf16 := subf (F := Ideal) z z
  have hw0 : ∀ i, w i = (0 : EReal) := fun i => sub_same ⟨0, (hz0 i).trans EReal.coe_zero.symm⟩
  have e1 := mm_apply v h r q
  have e2 := mm_zero z h hz0 r q
  have e3 := mm_zero w h hw0 r q
  refine Eq.trans (b := ((matmul dot_S512x256_S256x256_S512x256_1_0_0_1_n_n none (φ₁ := .bf16) v h (constant S512x256 .f32 0x00000000#32) (ValueIdx.ix2 r q)
    + matmul dot_S512x256_S256x256_S512x256_1_0_0_1_n_n none z h (constant S512x256 .f32 0x00000000#32) (ValueIdx.ix2 r q)
    + matmul dot_S512x256_S256x256_S512x256_1_0_0_1_n_n none w h (constant S512x256 .f32 0x00000000#32) (ValueIdx.ix2 r q)) * sixteenth : EReal)) rfl ?_
  rw [e1, e2, e3, add_zero, add_zero]
  exact congrArg (fun z : EReal => z * sixteenth) (Finset.sum_congr rfl fun k _ => congrArg (fun z : EReal => z * h (ValueIdx.ix2 k q)) (ev r k))

theorem pop_par : ∀ n : Fin 256, IntOp.andi (IntOp.ctpop (BitVec.ofNat 32 n.val)) 1#32 = BitVec.ofNat 32 (par n.val) := by decide +kernel

/-- An entry of the matrix: the sign of the parity of the bits that the two numbers share. -/
theorem entry_eq (a b : Fin 256) : k0_pay2 (F := Ideal) (ValueIdx.ix2 a b) = (sgn b.val a.val : EReal) := by
  have ha := a.isLt
  have hb := b.isLt
  have hn : b.val &&& a.val < 256 := Nat.and_lt_two_pow _ (by omega : a.val < 2 ^ 8)
  have e : IntOp.andi (BitVec.ofNat 32 a.val) (BitVec.ofNat 32 b.val) = BitVec.ofNat 32 (b.val &&& a.val) := by
    rw [Nat.and_comm, BitVec.ofNat_and]; rfl
  unfold k0_pay2
  dsimp only
  rw [shapeCast_self]
  have i0 : iota .tc S256x256 32 [0] iota_S256x256_d0_w32 (ValueIdx.ix2 a b) = BitVec.ofNat 32 a.val := iota_single_apply ..
  have i1 : iota .tc S256x256 32 [1] iota_S256x256_d1_w32 (ValueIdx.ix2 a b) = BitVec.ofNat 32 b.val := iota_single_apply ..
  refine Eq.trans (b := (FloatOps.subf (F := Ideal) (FloatOps.ofBits .f32 0x3F800000#32) (FloatOps.mulf (FloatOps.ofBits .f32 0x40000000#32)
    (FloatOps.sitofp .f32 (IntOp.andi (IntOp.ctpop (IntOp.andi (iota .tc S256x256 32 [0] iota_S256x256_d0_w32 (ValueIdx.ix2 a b))
      (iota .tc S256x256 32 [1] iota_S256x256_d1_w32 (ValueIdx.ix2 a b)))) 1#32))) : EReal)) rfl ?_
  rw [i0, i1, e, pop_par ⟨_, hn⟩]
  unfold sgn
  have hp : par (b.val &&& a.val) = 0 ∨ par (b.val &&& a.val) = 1 := by unfold par; omega
  show Ideal.ofBits .f32 0x3F800000#32 - Ideal.ofBits .f32 0x40000000#32 * (((BitVec.ofNat 32 (par (b.val &&& a.val))).toInt : ℝ) : EReal) = _
  have c1 : Ideal.ofBits .f32 0x3F800000#32 = ((1 : ℝ) : EReal) := by simp [Ideal.ofBits, Ideal.ieee, -EReal.coe_mul]; norm_num
  have c2 : Ideal.ofBits .f32 0x40000000#32 = ((2 : ℝ) : EReal) := by simp [Ideal.ofBits, Ideal.ieee, -EReal.coe_mul]; norm_num
  rw [c1, c2]
  rcases hp with hp | hp
  · rw [hp, if_pos rfl, ← EReal.coe_mul, ← EReal.coe_sub]; norm_num
  · rw [hp, if_neg (by decide), ← EReal.coe_mul, ← EReal.coe_sub]; norm_num

end Cert.RotIdeal.Hand

end
-- ==== Proof.RotIdeal.Out.lean ====
/-
  What the input rotation leaves in its output array: at row `r` and column `q` the 256 products of tokens and signs of the group in which
  `q` lies, each times its sign in the matrix, summed, times 1/16.
-/
module

public import proofs.«01_k».proof.Proof.RotIdeal.Unit
public import Idealize.ShloMosaic.Lib.Claim

@[expose] public section

set_option maxRecDepth 16384

noncomputable section

namespace Cert.RotIdeal.Hand

open Idealize.ShloMosaic Idealize.ShloMosaic.TcCoe Idealize.ShloMosaic.Tactic
open _root_.Hand
open Cert.RotIdeal Cert.RotIdeal.Gen Facts₀ Facts

variable (m : (ℓ : Loc nD τ sig) → Buf (Elt Ideal) ℓ) (c : Dev nD)

/-- The tokens and the signs, as the kernel is called with them. -/
abbrev xArr : Vec Ideal S6144x4096 .bf16 := m ((c.tc : Thread nD τ).loc main_arg0)
abbrev suArr : Vec Ideal S4096 .f32 := m ((c.tc : Thread nD τ).loc main_arg1)

/-- A vector's element at a number. -/
def at1 (x : Vec Ideal S4096 .f32) (i : Nat) : EReal := x (ValueIdx.ix1 (Fin.ofNat 4096 i))

/-- The output. -/
def result (r q : Nat) : EReal :=
  (∑ k : Fin 256, (cell (xArr m c) r (256 * (q / 256) + k.val) * at1 (suArr m c) (256 * (q / 256) + k.val)) * (sgn (q % 256) k.val : EReal)) * sixteenth

theorem index_eq : ∀ t : Fin grid0.N, win0_0.index t (0 : Fin 2) = t.val ∧ win0_0.index t (1 : Fin 2) = 0
    ∧ win0_1.index t (0 : Fin 2) = 0 ∧ win0_1.index t (1 : Fin 2) = 0 := by
  decide +kernel

theorem cell_iblk0 (t : Fin cfg0.N) {r k : Nat} (hr : r < 512) (hk : k < 4096) :
    cell (iblk m c 0 t : Vec Ideal S512x4096 .bf16) r k = cell (xArr m c) (512 * t.val + r) k := by
  obtain ⟨e0, e1, -⟩ := index_eq t
  rw [show cell (iblk m c 0 t : Vec Ideal S512x4096 .bf16) r k = _ from cell_eq (iblk m c 0 t : Vec Ideal S512x4096 .bf16) (ValueIdx.ix2 ⟨r, hr⟩ ⟨k, hk⟩) (Eq.refl r) (Eq.refl k)]
  refine (congrFun (V_main_arg0 m c) _).trans (cell_eq (xArr m c) _ ?_ ?_).symm
  · show win0_0.index t (0 : Fin 2) * 512 + 1 * r = _; omega
  · show win0_0.index t (1 : Fin 2) * 4096 + 1 * k = k; omega

/-- A vector written as one row, read at a place of the row. -/
theorem row_at (x : Vec Ideal S4096 .f32) (h : S4096.ShapeCasts S1x4096) (i : S1x4096.Idx) {n : Nat} (hn : (i 1).val = n) :
    shapeCast S1x4096 x h i = at1 x n := by
  have h0 : (i 0).val < 1 := (i 0).isLt
  have h1 : (i 1).val < 4096 := (i 1).isLt
  subst hn
  refine shapeCast_apply x h _ _ ?_
  rw [Shape.rowMajor_val_two, Shape.rowMajor_val_one]
  show (i 1).val % 4096 = (i 0).val * 4096 + (i 1).val
  omega

theorem cell_iblk1 (t : Fin cfg0.N) (r : Nat) {k : Nat} (hk : k < 4096) :
    cell (iblk m c 1 t : Vec Ideal S1x4096 .f32) r k = at1 (suArr m c) k := by
  obtain ⟨-, -, e0, e1⟩ := index_eq t
  rw [show cell (iblk m c 1 t : Vec Ideal S1x4096 .f32) r k = _ from congrArg (iblk m c 1 t : Vec Ideal S1x4096 .f32)
    (show ValueIdx.ix2 (Fin.ofNat 1 r) (Fin.ofNat 4096 k) = ValueIdx.ix2 (0 : Fin 1) ⟨k, hk⟩ from
      congrArg₂ ValueIdx.ix2 (Subsingleton.elim _ _) (Fin.ext (Nat.mod_eq_of_lt hk)))]
  unfold iblk
  entry_read
  refine row_at (suArr m c) _ _ ?_
  show win0_1.index t (1 : Fin 2) * 4096 + 1 * k = k
  omega

attribute [local irreducible] out0_A_2 out0_B_2 sout0_A_0 outBlock k0_pay2

/-- The scratch holds the matrix after every point. -/
theorem scratch_eq : ∀ (n : Nat) (hn : n < cfg0.N), (outsAt0 m c n hn).2 = (k0_pay2 (F := Ideal)) := by
  intro n
  induction n with
  | zero => exact fun hn => (congrArg Prod.snd (outsAt0_A m c ⟨0, hn⟩ (Nat.zero_mod _))).trans (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 _).mpr (Nat.zero_mod _)) (iblk m c 0 ⟨0, hn⟩) (iblk m c 1 ⟨0, hn⟩))
  | succ n ih =>
    intro hn
    have hN := lt_of_lt_of_eq hn (show cfg0.N = 12 from N_0)
    exact (congrArg Prod.snd (outsAt0_B m c ⟨n + 1, hn⟩ (by show ¬(n + 1) % 12 = 0; omega))).trans (ih _)

theorem block_eq (t : Fin cfg0.N) : (outsAt0 m c t.val t.isLt).1 = outBlock (k0_pay2 (F := Ideal)) (iblk m c 0 t) (iblk m c 1 t) := by
  by_cases h0 : t.val % 12 = 0
  · refine (congrArg Prod.fst (outsAt0_A m c t h0)).trans ?_
    dsimp only
    exact out_A (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)
  · refine (congrArg Prod.fst (outsAt0_B m c t h0)).trans ?_
    dsimp only
    rw [scratch_eq]
    exact out_B (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t) (k0_pay2 (F := Ideal))

/-- The tokens and the signs are numbers. -/
structure Numbers : Prop where
  x : ∀ i, ∃ a : ℝ, xArr m c i = (a : EReal)
  su : ∀ i, ∃ a : ℝ, suArr m c i = (a : EReal)

variable {m c} in
theorem entry_out (hF : Numbers m c) (t : Fin cfg0.N) (p : S512x4096.Idx) :
    outBlock (k0_pay2 (F := Ideal)) (iblk m c 0 t) (iblk m c 1 t) p = result m c (512 * t.val + (p 0).val) (p 1).val := by
  have h0 : (p 0).val < 512 := (p 0).isLt
  have h1 : (p 1).val < 4096 := (p 1).isLt
  have ex : ∀ (r : Fin 512) (k : Fin 256), blk 512 256 1 (iblk m c 0 t : Vec Ideal S512x4096 .bf16) 0 (256 * ((p 1).val / 256)) (ValueIdx.ix2 r k)
      = cell (xArr m c) (512 * t.val + r.val) (256 * ((p 1).val / 256) + k.val) := fun r k => by
    have hr := r.isLt
    have hk := k.isLt
    refine Eq.trans ?_ (cell_iblk0 m c t (r := r.val) (k := 256 * ((p 1).val / 256) + k.val) hr (by omega))
    show cell _ (0 + 1 * r.val) _ = _
    rw [Nat.zero_add, Nat.one_mul]
  have es : ∀ (r : Fin 1) (k : Fin 256), blk 1 256 1 (iblk m c 1 t : Vec Ideal S1x4096 .f32) 0 (256 * ((p 1).val / 256)) (ValueIdx.ix2 r k)
      = at1 (suArr m c) (256 * ((p 1).val / 256) + k.val) := fun r k => by
    have hk := k.isLt
    exact cell_iblk1 m c t _ (by show 256 * ((p 1).val / 256) + k.val < 4096; omega)
  unfold outBlock
  rw [unit_eq _ _ _
    (fun i => (hF.x _).imp fun a ha => ((congrArg _ (ValueIdx.eq_ix2 i)).trans (ex (i 0) (i 1))).trans ha)
    (fun i => (hF.su _).imp fun a ha => ((congrArg _ (ValueIdx.eq_ix2 i)).trans (es (i 0) (i 1))).trans ha)]
  unfold result
  refine congrArg (fun z : EReal => z * sixteenth) (Finset.sum_congr rfl fun k _ => ?_)
  rw [ex, es, entry_eq]
  have e0 : (Fin.ofNat 512 (p 0).val).val = (p 0).val := Nat.mod_eq_of_lt h0
  rw [e0]
  rfl

/-- The output, as an array. -/
def outArr : Buf (Elt Ideal) ((c.tc : Thread nD τ).loc main_v1) := fun (i : S6144x4096.Idx) => result m c (i 0).val (i 1).val

variable {m c} in
theorem array_eq (hF : Numbers m c) : Value.G2 m c = outArr m c := by
  refine funext fun (i : S6144x4096.Idx) => ?_
  have h0 : (i 0).val < 6144 := (i 0).isLt
  have h1 : (i 1).val < 4096 := (i 1).isLt
  have hp : Value.pt2Of i = (i 0).val / 512 := by
    show 1 * ((i 0).val / 512 - 0) + 1 * ((i 1).val / 4096 - 0) = _; omega
  have hN : Value.pt2Of i < cfg0.N := lt_of_lt_of_eq (by omega : Value.pt2Of i < 12) (show cfg0.N = 12 from N_0).symm
  unfold Value.G2
  rw [dif_pos hN, ← Value.outsAt0_sweep m c (Value.pt2Of i) hN, block_eq m c ⟨_, hN⟩, entry_out hF]
  show result m c (512 * Value.pt2Of i + (i 0).val % 512) ((i 1).val % 4096) = result m c (i 0).val (i 1).val
  rw [hp, show 512 * ((i 0).val / 512) + (i 0).val % 512 = (i 0).val by omega, Nat.mod_eq_of_lt h1]

end Cert.RotIdeal.Hand

end
-- ==== Proof.RotPre.lean ====
/-
  The precondition of the input rotation's claim says that the tokens and the signs are numbers.
-/
module

public import proofs.«01_k».proof.Pre_finite_rot
public import proofs.«01_k».proof.Proof.Shared.Finite

@[expose] public section

noncomputable section

namespace Cert.Pre_finite_rot

open Idealize.ShloMosaic
open _root_.Hand

theorem facts : Facts where
  bcast_S_S6144x4096 := by decide
  reducesTo_S6144x4096_S_d0_1 := by decide
  h_S_ := by decide
  bcast_S_S4096 := by decide
  reducesTo_S4096_S_d0 := by decide

theorem numbers [Facts] {x0 : FVec Ideal S6144x4096 .bf16} {x1 : FVec Ideal S4096 .f32} (h : fn x0 x1 = fun _ => 1#1) :
    (∀ i, ∃ a : ℝ, (x0 i : EReal) = a) ∧ ∀ i, ∃ a : ℝ, (x1 i : EReal) = a := by
  have h0 := congrFun h (fun a => a.elim0)
  have hs : ∀ a b : BitVec 1, IntOp.andi a b = 1#1 → a = 1#1 ∧ b = 1#1 := by decide
  obtain ⟨ha, hb⟩ := hs _ _ h0
  have hsub : Subsingleton S_.Idx := ⟨fun a b => funext fun k => k.elim0⟩
  constructor
  · intro i
    have := Host.reduce_andi_all _ _ _ _ _ ha i
    refine real_of_olt ?_
    rw [← ofBits_inf_bf16]
    exact this
  · intro i
    have := Host.reduce_andi_all _ _ _ _ _ hb i
    refine real_of_olt ?_
    rw [← ofBits_inf_f32]
    exact this

end Cert.Pre_finite_rot

end
-- ==== Proof.RotClaim.lean ====
/-
  The claim about the input rotation: with numbers for tokens and signs it computes what the reference computes.
-/
module

public import proofs.«01_k».proof.Defs
public import proofs.«01_k».proof.Proof.RotIdeal.Out
public import proofs.«01_k».proof.Proof.RotPre
public import proofs.«01_k».proof.Proof.Gen.RefRotIdeal.Run
public import proofs.«01_k».proof.Proof.Gen.RefRotIdeal.Read
public import Idealize.ShloMosaic.Lib.Quiescent

@[expose] public section

noncomputable section

namespace Cert.RefRotIdeal.Hand

open Idealize.ShloMosaic Idealize.ShloMosaic.TcCoe
open _root_.Hand Cert.RefRotIdeal Cert.RefRotIdeal.Read
open Cert.RotIdeal.Hand (at1 result xArr suArr outArr sixteenth Numbers pop_par)

/-- An entry of the reference's Hadamard matrix. -/
theorem entry_eq (i : S256x256.Idx) : val_main_v13 (F := Ideal) i = (sgn (i 1).val (i 0).val : EReal) := by
  have h0 : (i 0).val < 256 := (i 0).isLt
  have h1 : (i 1).val < 256 := (i 1).isLt
  have hb : (i 1).val &&& (i 0).val < 256 := Nat.and_lt_two_pow _ (by omega : (i 0).val < 2 ^ 8)
  rw [val_main_v13_apply, val_main_v12_apply, val_main_cst_0_apply, val_main_v11_apply, val_main_v10_apply, val_main_cst_apply, val_main_v9_apply, val_main_v8_apply, val_main_v7_apply, val_main_c_apply,
    val_main_v6_apply, val_main_v5_apply, val_main_v4_apply, val_main_v3_apply, val_main_v2_apply, val_main_v1_apply, val_main_v0_apply, val_main_v0_apply]
  have e : IntOp.andi (BitVec.ofNat 32 (i 0).val) (BitVec.ofNat 32 (i 1).val) = BitVec.ofNat 32 ((i 1).val &&& (i 0).val) := by
    rw [Nat.and_comm, BitVec.ofNat_and]; rfl
  refine Eq.trans (b := (FloatOps.subf (F := Ideal) (FloatOps.ofBits .f32 0x3F800000#32) (FloatOps.mulf (FloatOps.ofBits .f32 0x40000000#32)
    (FloatOps.uitofp .f32 (IntOp.andi (IntOp.ctpop (IntOp.andi (BitVec.ofNat 32 (i 0).val) (BitVec.ofNat 32 (i 1).val))) 1#32))) : EReal)) rfl ?_
  rw [e, pop_par ⟨_, hb⟩]
  unfold sgn
  have hp : par ((i 1).val &&& (i 0).val) = 0 ∨ par ((i 1).val &&& (i 0).val) = 1 := by unfold par; omega
  show Ideal.ofBits .f32 0x3F800000#32 - Ideal.ofBits .f32 0x40000000#32 * (((BitVec.ofNat 32 (par ((i 1).val &&& (i 0).val))).toNat : ℝ) : EReal) = _
  have c1 : Ideal.ofBits .f32 0x3F800000#32 = ((1 : ℝ) : EReal) := by simp [Ideal.ofBits, Ideal.ieee, -EReal.coe_mul]; norm_num
  have c2 : Ideal.ofBits .f32 0x40000000#32 = ((2 : ℝ) : EReal) := by simp [Ideal.ofBits, Ideal.ieee, -EReal.coe_mul]; norm_num
  rw [c1, c2]
  rcases hp with hp | hp
  · rw [hp, if_pos rfl, ← EReal.coe_mul, ← EReal.coe_sub]; norm_num
  · rw [hp, if_neg (by decide), ← EReal.coe_mul, ← EReal.coe_sub]; norm_num

variable {m : (ℓ : Loc Cert.RotIdeal.nD Cert.RotIdeal.τ Cert.RotIdeal.sig) → Buf (Elt Ideal) ℓ} {c : Dev Cert.RotIdeal.nD}

/-- The output. -/
theorem value_eq (i : S6144x4096.Idx) : val_main_v23 (F := Ideal) (xArr m c) (suArr m c) i = result m c (i 0).val (i 1).val := by
  have h0 : (i 0).val < 6144 := (i 0).isLt
  have h1 : (i 1).val < 4096 := (i 1).isLt
  rw [val_main_v23_apply, val_main_v22_apply, val_main_v21_apply, val_main_v20_apply, val_main_cst_1_apply, val_main_v19_apply]
  unfold result
  refine congrArg (fun z : EReal => z * sixteenth) (Finset.sum_congr rfl fun k _ => ?_)
  have hk := k.isLt
  rw [val_main_v18_apply, val_main_v17_apply, val_main_v14_apply, val_main_v16_apply, val_main_v15_apply, entry_eq]
  have e0 : (idx_main_v18 (lidx_main_v19 (idx_main_v22 i) k) 0).val = (i 0).val := by
    show ((((i 0).val * 4096 + (i 1).val) / 4096 * 16 + ((i 0).val * 4096 + (i 1).val) / 256 % 16) * 256 + k.val) / 4096 = _; omega
  have e1 : (idx_main_v18 (lidx_main_v19 (idx_main_v22 i) k) 1).val = 256 * ((i 1).val / 256) + k.val := by
    show ((((i 0).val * 4096 + (i 1).val) / 4096 * 16 + ((i 0).val * 4096 + (i 1).val) / 256 % 16) * 256 + k.val) % 4096 = _; omega
  have e2 : (ridx_main_v19 (idx_main_v22 i) k 1).val = (i 1).val % 256 := by
    show ((i 0).val * 4096 + (i 1).val) % 256 = _; omega
  rw [e2]
  refine congrArg₂ (fun a b : EReal => a * b) (congrArg₂ (fun a b : EReal => a * b) ?_ ?_) rfl
  · exact (cell_eq (xArr m c) _ e0 e1).symm
  · refine congrArg (suArr m c) (funext fun a => Fin.ext ?_)
    match a with
    | ⟨0, _⟩ => exact e1.trans (Nat.mod_eq_of_lt (by omega : 256 * ((i 1).val / 256) + k.val < 4096)).symm

end Cert.RefRotIdeal.Hand

namespace Cert.Proof

open Idealize.ShloMosaic Idealize.SL.Sem

theorem refRot_frame : Cert.quiescent_RefRotIdeal := fun m g _ =>
  (θ_run _ _ _).mono (fun r h => ⟨fun c => (h c).2, sem_eq_zero_of_no_sems (by decide) r.2⟩) (Cert.RefRotIdeal.Value.run (F := Ideal) m g)

theorem refRot_result {m' : (ℓ : Loc Cert.RefRotIdeal.nD Cert.RefRotIdeal.τ Cert.RefRotIdeal.sig) → Buf (Elt Ideal) ℓ}
    {m : (ℓ : Loc Cert.RotIdeal.nD Cert.RotIdeal.τ Cert.RotIdeal.sig) → Buf (Elt Ideal) ℓ} {c : Dev Cert.RotIdeal.nD}
    (h0 : m' ((c.tc : Thread Cert.RefRotIdeal.nD Cert.RefRotIdeal.τ).loc Cert.RefRotIdeal.main_arg0) = Cert.RotIdeal.Hand.xArr m c)
    (h1 : m' ((c.tc : Thread Cert.RefRotIdeal.nD Cert.RefRotIdeal.τ).loc Cert.RefRotIdeal.main_arg1) = Cert.RotIdeal.Hand.suArr m c) :
    Cert.RefRotIdeal.Read.val_main_v23 (F := Ideal) (m' ((c.tc : Thread Cert.RefRotIdeal.nD Cert.RefRotIdeal.τ).loc Cert.RefRotIdeal.main_arg0))
      (m' ((c.tc : Thread Cert.RefRotIdeal.nD Cert.RefRotIdeal.τ).loc Cert.RefRotIdeal.main_arg1)) = Cert.RotIdeal.Hand.outArr m c := by
  rw [h0, h1]
  exact funext fun i => Cert.RefRotIdeal.Hand.value_eq i

theorem rot_claim [Cert.Pre_finite_rot.Facts] : Cert.algebraic_RotIdeal_RefRotIdeal_pre_finite_rot := fun m g m' g' hp he => by
  have hF : ∀ c, Cert.RotIdeal.Hand.Numbers m c := fun c =>
    ⟨(Cert.Pre_finite_rot.numbers (hp c)).1, (Cert.Pre_finite_rot.numbers (hp c)).2⟩
  refine ⟨Cert.RotIdeal.Hand.outArr m, ?_, ?_⟩
  · exact (θ_run _ _ _).mono (fun r h c => ⟨(h c).1.trans (Cert.RotIdeal.Hand.array_eq (hF c)), (h c).2⟩) (Cert.RotIdeal.Value.run (F := Ideal) m g)
  · exact (θ_run _ _ _).mono (fun r h c => ⟨(h c).1.trans ((Cert.RefRotIdeal.Read.val_main_v23_eq _ _).trans (refRot_result (he c).1 (he c).2)), (h c).2⟩)
      (Cert.RefRotIdeal.Value.run (F := Ideal) m' g')

end Cert.Proof

end
-- ==== Proof.lean ====
/-
  The claims of this directory, proved: of both calls of the kernel and of their references.
-/
module

public import proofs.«01_k».proof.Defs
public import proofs.«01_k».proof.Proof.Main.Frame
public import proofs.«01_k».proof.Proof.MainClaim
public import proofs.«01_k».proof.Proof.RotClaim
public import proofs.«01_k».proof.Proof.Gen.Rot.Frame
public import proofs.«01_k».proof.Proof.Gen.RotIdeal.Frame
public import proofs.«01_k».proof.Proof.Gen.RotIdeal.Value
public import proofs.«01_k».proof.Proof.Gen.RefRotIdeal.Run
public import proofs.«01_k».proof.Proof.Gen.RefRotIdeal.Read
public import Idealize.ShloMosaic.Lib.Quiescent

@[expose] public section

noncomputable section

namespace Cert.Proof

open Idealize.ShloMosaic Idealize.SL.Sem

theorem claim : Cert.Claim := ⟨Cert.Main.Gen.facts, Cert.MainIdeal.Gen.facts, Cert.RefMainIdeal.Gen.facts, Cert.Rot.Gen.facts, Cert.RotIdeal.Gen.facts, Cert.RefRotIdeal.Gen.facts, Cert.Pre_finite_main.facts, Cert.Pre_finite_rot.facts,
  fun m g _ => Cert.Main.Hand.frame m g,
  fun m g _ => Cert.MainIdeal.Hand.frame m g,
  fun m g _ => Cert.MainIdeal.Hand.frame m g,
  refMain_frame,
  fun m g _ => refMain_frame m g trivial,
  fun m g _ => Cert.Rot.Gen.frame m g,
  fun m g _ => Cert.RotIdeal.Gen.frame m g,
  fun m g _ => Cert.RotIdeal.Gen.frame m g,
  refRot_frame,
  fun m g _ => refRot_frame m g trivial,
  trivial, @main_claim Cert.Pre_finite_main.facts, trivial, @rot_claim Cert.Pre_finite_rot.facts⟩

end Cert.Proof

end
